-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v63) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)) (v3 : (c : Dev Cert.Kernel5Ideal.nD) → Buf (Elt Ideal) ((c.tc : Thread Cert.Kernel5Ideal.nD Cert.Kernel5Ideal.τ).loc Cert.Kernel5Ideal.main_v6_3)) (v4 : (c : Dev Cert.Kernel5Ideal.nD) → Buf (Elt Ideal) ((c.tc : Thread Cert.Kernel5Ideal.nD Cert.Kernel5Ideal.τ).loc Cert.Kernel5Ideal.main_v6_4)) (v5 : (c : Dev Cert.Kernel5Ideal.nD) → Buf (Elt Ideal) ((c.tc : Thread Cert.Kernel5Ideal.nD Cert.Kernel5Ideal.τ).loc Cert.Kernel5Ideal.main_v6_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_v6_3) = v3 c
          ∧ r.2.mem ((c.tc : Thread Cert.Kernel5Ideal.nD Cert.Kernel5Ideal.τ).loc Cert.Kernel5Ideal.main_v6_4) = v4 c
          ∧ r.2.mem ((c.tc : Thread Cert.Kernel5Ideal.nD Cert.Kernel5Ideal.τ).loc Cert.Kernel5Ideal.main_v6_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_v42) = v1 c
          ∧ r.2.mem ((c.tc : Thread Cert.Reference5Ideal.nD Cert.Reference5Ideal.τ).loc Cert.Reference5Ideal.main_v43) = v2 c
          ∧ r.2.mem ((c.tc : Thread Cert.Reference5Ideal.nD Cert.Reference5Ideal.τ).loc Cert.Reference5Ideal.main_v44) = v3 c
          ∧ r.2.mem ((c.tc : Thread Cert.Reference5Ideal.nD Cert.Reference5Ideal.τ).loc Cert.Reference5Ideal.main_v45) = v4 c
          ∧ r.2.mem ((c.tc : Thread Cert.Reference5Ideal.nD Cert.Reference5Ideal.τ).loc Cert.Reference5Ideal.main_v39) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)) (v3 : (c : Dev Cert.Kernel6Ideal.nD) → Buf (Elt Ideal) ((c.tc : Thread Cert.Kernel6Ideal.nD Cert.Kernel6Ideal.τ).loc Cert.Kernel6Ideal.main_v5_3)) (v4 : (c : Dev Cert.Kernel6Ideal.nD) → Buf (Elt Ideal) ((c.tc : Thread Cert.Kernel6Ideal.nD Cert.Kernel6Ideal.τ).loc Cert.Kernel6Ideal.main_v5_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_v5_3) = v3 c
          ∧ r.2.mem ((c.tc : Thread Cert.Kernel6Ideal.nD Cert.Kernel6Ideal.τ).loc Cert.Kernel6Ideal.main_v5_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_v41) = v1 c
          ∧ r.2.mem ((c.tc : Thread Cert.Reference6Ideal.nD Cert.Reference6Ideal.τ).loc Cert.Reference6Ideal.main_v43) = v2 c
          ∧ r.2.mem ((c.tc : Thread Cert.Reference6Ideal.nD Cert.Reference6Ideal.τ).loc Cert.Reference6Ideal.main_v45) = v3 c
          ∧ r.2.mem ((c.tc : Thread Cert.Reference6Ideal.nD Cert.Reference6Ideal.τ).loc Cert.Reference6Ideal.main_v39) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v109) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v120) = v0 c
          ∧ r.2.mem ((c.tc : Thread Cert.Reference8Ideal.nD Cert.Reference8Ideal.τ).loc Cert.Reference8Ideal.main_v121) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v28) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v72) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S4 : Shape := ⟨1, ![4]⟩
abbrev S16384x512 : Shape := ⟨2, ![16384, 512]⟩
abbrev S16384x256 : Shape := ⟨2, ![16384, 256]⟩
abbrev S8192x512 : Shape := ⟨2, ![8192, 512]⟩
abbrev S8192x256 : Shape := ⟨2, ![8192, 256]⟩
abbrev S_ : Shape := ⟨0, ![]⟩

class Facts : Prop where
  slices_S16384x512_S8192x512_0_0 : S16384x512.Slices ![0, 0] S8192x512
  slices_S16384x256_S8192x256_0_0 : S16384x256.Slices ![0, 0] S8192x256
  bcast_S_S4 : S_.BroadcastsInDim S4 (![] : Fin 0 → Fin S4.rank)
  reducesTo_S4_S_d0 : S4.ReducesTo [0] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S4 .f32) (main_arg1 : FVec F S16384x512 .f32) (main_arg2 : FVec F S16384x256 .f32) (main_arg3 : FVec F S16384x256 .f32) : IVec S_ 1 :=
  let main_v0 : FVec F S8192x512 .f32 := (extractStridedSlice S8192x512 ![0, 0] · slices_S16384x512_S8192x512_0_0) main_arg1
  let main_v1 : FVec F S8192x256 .f32 := (extractStridedSlice S8192x256 ![0, 0] · slices_S16384x256_S8192x256_0_0) main_arg2
  let main_v2 : FVec F S4 .f32 := Host.absf main_arg0
  let main_cst : FVec F S_ .f32 := constant S_ .f32 0x7F800000#32
  let main_v3 : FVec F S4 .f32 := broadcastInDim S4 ![] bcast_S_S4 main_cst
  let main_v4 : IVec S4 1 := cmpf .olt main_v2 main_v3
  let main_c : IVec S_ 1 := constantI S_ 1 1#1
  let main_v5 : IVec S_ 1 := (fun x v => Host.reduce IntOp.andi x v reducesTo_S4_S_d0 h_S_) main_v4 main_c
  let main_v6 : FVec F S8192x512 .f32 := Host.absf main_v0
  let main_cst_0 : FVec F S_ .f32 := constant S_ .f32 0x7F800000#32
  let main_v7 : FVec F S8192x512 .f32 := broadcastInDim S8192x512 ![] bcast_S_S8192x512 main_cst_0
  let main_v8 : IVec S8192x512 1 := cmpf .olt main_v6 main_v7
  let main_c_1 : IVec S_ 1 := constantI S_ 1 1#1
  let main_v9 : IVec S_ 1 := (fun x v => Host.reduce IntOp.andi x v reducesTo_S8192x512_S_d0_1 h_S_) main_v8 main_c_1
  let main_v10 : FVec F S8192x256 .f32 := Host.absf main_v1
  let main_cst_2 : FVec F S_ .f32 := constant S_ .f32 0x7F800000#32
  let main_v11 : FVec F S8192x256 .f32 := broadcastInDim S8192x256 ![] bcast_S_S8192x256 main_cst_2
  let main_v12 : IVec S8192x256 1 := cmpf .olt main_v10 main_v11
  let main_c_3 : IVec S_ 1 := constantI S_ 1 1#1
  let main_v13 : IVec S_ 1 := (fun x v => Host.reduce IntOp.andi x v reducesTo_S8192x256_S_d0_1 h_S_) main_v12 main_c_3
  let main_v14 : IVec S_ 1 := andi main_v5 main_v9
  let main_v15 : IVec S_ 1 := andi main_v14 main_v13
  main_v15
-- ==== Kernel.lean ====
abbrev S4 : Shape := ⟨1, ![4]⟩
abbrev S16384x512 : Shape := ⟨2, ![16384, 512]⟩
abbrev S16384x256 : Shape := ⟨2, ![16384, 256]⟩
abbrev S8192x512 : Shape := ⟨2, ![8192, 512]⟩
abbrev S1024x512 : Shape := ⟨2, ![1024, 512]⟩
abbrev S1024x256 : Shape := ⟨2, ![1024, 256]⟩
abbrev S256x128 : Shape := ⟨2, ![256, 128]⟩
abbrev S1 : Shape := ⟨1, ![1]⟩
abbrev S256x256 : Shape := ⟨2, ![256, 256]⟩
abbrev S256 : Shape := ⟨1, ![256]⟩
abbrev S256x1 : Shape := ⟨2, ![256, 1]⟩

abbrev nBuf : Space → Nat
  | .hbm => 5
  | .vmem => 8
  | .smem => 1
  | _ => 0

abbrev bufTy : (tb : Table) → Fin (tcTables nBuf tb) → BufTy
  | .hbm, ⟨0, _⟩ => ⟨S4, .f32⟩
  | .hbm, ⟨1, _⟩ => ⟨S16384x512, .f32⟩
  | .hbm, ⟨2, _⟩ => ⟨S16384x256, .f32⟩
  | .hbm, ⟨3, _⟩ => ⟨S16384x256, .f32⟩
  | .hbm, ⟨4, _⟩ => ⟨S8192x512, .bf16⟩
  | .local _ .vmem, ⟨0, _⟩ => ⟨S1024x512, .f32⟩
  | .local _ .vmem, ⟨1, _⟩ => ⟨S1024x512, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x512, .bf16⟩
  | .local _ .vmem, ⟨7, _⟩ => ⟨S1024x512, .bf16⟩
  | .local _ .smem, ⟨0, _⟩ => ⟨S4, .f32⟩
  | _, _ => ⟨S4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4 : Shape := ⟨1, ![4]⟩
abbrev S16384x512 : Shape := ⟨2, ![16384, 512]⟩
abbrev S16384x256 : Shape := ⟨2, ![16384, 256]⟩
abbrev S8192x512 : Shape := ⟨2, ![8192, 512]⟩
abbrev S_ : Shape := ⟨0, ![]⟩
abbrev S32x256x2x2x128 : Shape := ⟨5, ![32, 256, 2, 2, 128]⟩
abbrev S8192x256 : Shape := ⟨2, ![8192, 256]⟩
abbrev S32x256x2x128 : Shape := ⟨4, ![32, 256, 2, 128]⟩
abbrev S32x2x256x256x2 : Shape := ⟨5, ![32, 2, 256, 256, 2]⟩
abbrev S32x2x2x256x256 : Shape := ⟨5, ![32, 2, 2, 256, 256]⟩
abbrev S2x2 : Shape := ⟨2, ![2, 2]⟩
abbrev S1x2x2x1x1 : Shape := ⟨5, ![1, 2, 2, 1, 1]⟩
abbrev S32x2x2x256 : Shape := ⟨4, ![32, 2, 2, 256]⟩
abbrev S32x2x2x256x1 : Shape := ⟨5, ![32, 2, 2, 256, 1]⟩
abbrev S32x2x128x2x256 : Shape := ⟨5, ![32, 2, 128, 2, 256]⟩

abbrev nBuf : Space → Nat
  | .hbm => 38
  | .vmem => 0
  | .smem => 0
  | _ => 0

abbrev bufTy : (tb : Table) → Fin (tcTables nBuf tb) → BufTy
  | .hbm, ⟨0, _⟩ => ⟨S4, .f32⟩
  | .hbm, ⟨1, _⟩ => ⟨S16384x512, .f32⟩
  | .hbm, ⟨2, _⟩ => ⟨S16384x256, .f32⟩
  | .hbm, ⟨3, _⟩ => ⟨S16384x256, .f32⟩
  | .hbm, ⟨4, _⟩ => ⟨S8192x512, .f32⟩
  | .hbm, ⟨5, _⟩ => ⟨S_, .f32⟩
  | .hbm, ⟨6, _⟩ => ⟨S8192x512, .f32⟩
  | .hbm, ⟨7, _⟩ => ⟨S8192x512, .f32⟩
  | .hbm, ⟨8, _⟩ => ⟨S32x256x2x2x128, .f32⟩
  | .hbm, ⟨9, _⟩ => ⟨S8192x256, .f32⟩
  | .hbm, ⟨10, _⟩ => ⟨S32x256x2x128, .f32⟩
  | .hbm, ⟨11, _⟩ => ⟨S8192x256, .f32⟩
  | .hbm, ⟨12, _⟩ => ⟨S32x256x2x128, .f32⟩
  | .hbm, ⟨13, _⟩ => ⟨S32x2x256x256x2, .f32⟩
  | .hbm, ⟨14, _⟩ => ⟨S32x2x2x256x256, .f32⟩
  | .hbm, ⟨15, _⟩ => ⟨S2x2, .f32⟩
  | .hbm, ⟨16, _⟩ => ⟨S1x2x2x1x1, .f32⟩
  | .hbm, ⟨17, _⟩ => ⟨S_, .f32⟩
  | .hbm, ⟨18, _⟩ => ⟨S32x2x2x256, .f32⟩
  | .hbm, ⟨19, _⟩ => ⟨S32x2x2x256x1, .f32⟩
  | .hbm, ⟨20, _⟩ => ⟨S32x2x2x256x1, .f32⟩
  | .hbm, ⟨21, _⟩ => ⟨S32x2x2x256x1, .f32⟩
  | .hbm, ⟨22, _⟩ => ⟨S32x2x2x256x256, .f32⟩
  | .hbm, ⟨23, _⟩ => ⟨S32x2x2x256x256, .f32⟩
  | .hbm, ⟨24, _⟩ => ⟨S32x2x2x256x256, .f32⟩
  | .hbm, ⟨25, _⟩ => ⟨S_, .f32⟩
  | .hbm, ⟨26, _⟩ => ⟨S32x2x2x256, .f32⟩
  | .hbm, ⟨27, _⟩ => ⟨S32x2x2x256x1, .f32⟩
  | .hbm, ⟨28, _⟩ => ⟨S32x2x2x256x1, .f32⟩
  | .hbm, ⟨29, _⟩ => ⟨S32x2x2x256x1, .f32⟩
  | .hbm, ⟨30, _⟩ => ⟨S32x2x2x256x1, .f32⟩
  | .hbm, ⟨31, _⟩ => ⟨S32x2x2x256x1, .f32⟩
  | .hbm, ⟨32, _⟩ => ⟨S32x2x2x256x256, .f32⟩
  | .hbm, ⟨33, _⟩ => ⟨S32x2x2x256x256, .f32⟩
  | .hbm, ⟨34, _⟩ => ⟨S32x2x128x2x256, .f32⟩
  | .hbm, ⟨35, _⟩ => ⟨S32x256x2x2x128, .f32⟩
  | .hbm, ⟨36, _⟩ => ⟨S8192x512, .f32⟩
  | .hbm, ⟨37, _⟩ => ⟨S8192x512, .bf16⟩
  | _, _ => ⟨S4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== Kernel3.lean ====
abbrev S8192x1024 : Shape := ⟨2, ![8192, 1024]⟩
abbrev S9x9x1024 : Shape := ⟨3, ![9, 9, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S1x1024 : Shape := ⟨2, ![1, 1024]⟩
abbrev S16384x1024 : Shape := ⟨2, ![16384, 1024]⟩
abbrev S512x1024 : Shape := ⟨2, ![512, 1024]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S9x1024 : Shape := ⟨2, ![9, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S512x2816 : Shape := ⟨2, ![512, 2816]⟩
abbrev S2816x1024 : Shape := ⟨2, ![2816, 1024]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S9x9x1024, .f32⟩
  | .hbm, ⟨3, _⟩ => ⟨S1024, .f32⟩
  | .hbm, ⟨4, _⟩ => ⟨S2x2x1024x5632, .f32⟩
  | .hbm, ⟨5, _⟩ => ⟨S2x2x2816x1024, .f32⟩
  | .hbm, ⟨6, _⟩ => ⟨S1x1024, .f32⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x9x1024, .f32⟩
  | .local _ .vmem, ⟨5, _⟩ => ⟨S1x9x1024, .f32⟩
  | .local _ .vmem, ⟨6, _⟩ => ⟨S1x1024, .f32⟩
  | .local _ .vmem, ⟨7, _⟩ => ⟨S1x1x1024x5632, .f32⟩
  | .local _ .vmem, ⟨8, _⟩ => ⟨S1x1x2816x1024, .f32⟩
  | .local _ .vmem, ⟨9, _⟩ => ⟨S512x1024, .f32⟩
  | .local _ .vmem, ⟨10, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c512_i32 : BitVec 32 := 512#32
  let v2 : BitVec 32 := Scalar.muli v1 c512_i32
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v0 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2816x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8192x1024 : Shape := ⟨2, ![8192, 1024]⟩
abbrev S9x9x1024 : Shape := ⟨3, ![9, 9, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S16384x1024 : Shape := ⟨2, ![16384, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S9x1x1024 : Shape := ⟨3, ![9, 1, 1024]⟩
abbrev S9x1024 : Shape := ⟨2, ![9, 1024]⟩
abbrev S8x1024 : Shape := ⟨2, ![8, 1024]⟩
abbrev S8x1x1024 : Shape := ⟨3, ![8, 1, 1024]⟩
abbrev S8x1024x1024 : Shape := ⟨3, ![8, 1024, 1024]⟩
abbrev S16384x5632 : Shape := ⟨2, ![16384, 5632]⟩
abbrev S16384x2816 : Shape := ⟨2, ![16384, 2816]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S9x9x1024, .f32⟩
  | .hbm, ⟨3, _⟩ => ⟨S1024, .f32⟩
  | .hbm, ⟨4, _⟩ => ⟨S2x2x1024x5632, .f32⟩
  | .hbm, ⟨5, _⟩ => ⟨S2x2x2816x1024, .f32⟩
  | .hbm, ⟨6, _⟩ => ⟨S16384x1024, .f32⟩
  | .hbm, ⟨7, _⟩ => ⟨S1x1x1024x5632, .f32⟩
  | .hbm, ⟨8, _⟩ => ⟨S1024x5632, .f32⟩
  | .hbm, ⟨9, _⟩ => ⟨S1x1x2816x1024, .f32⟩
  | .hbm, ⟨10, _⟩ => ⟨S2816x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S9x1x1024, .f32⟩
  | .hbm, ⟨28, _⟩ => ⟨S9x1024, .f32⟩
  | .hbm, ⟨29, _⟩ => ⟨S1x1024, .f32⟩
  | .hbm, ⟨30, _⟩ => ⟨S8192x1024, .f32⟩
  | .hbm, ⟨31, _⟩ => ⟨S8x1024, .f32⟩
  | .hbm, ⟨32, _⟩ => ⟨S8x1x1024, .f32⟩
  | .hbm, ⟨33, _⟩ => ⟨S8x1024x1024, .f32⟩
  | .hbm, ⟨34, _⟩ => ⟨S8192x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S9x1x1024, .f32⟩
  | .hbm, ⟨41, _⟩ => ⟨S9x1024, .f32⟩
  | .hbm, ⟨42, _⟩ => ⟨S1x1024, .f32⟩
  | .hbm, ⟨43, _⟩ => ⟨S8192x1024, .f32⟩
  | .hbm, ⟨44, _⟩ => ⟨S8x1024, .f32⟩
  | .hbm, ⟨45, _⟩ => ⟨S8x1x1024, .f32⟩
  | .hbm, ⟨46, _⟩ => ⟨S8x1024x1024, .f32⟩
  | .hbm, ⟨47, _⟩ => ⟨S8192x1024, .f32⟩
  | .hbm, ⟨48, _⟩ => ⟨S16384x1024, .f32⟩
  | .hbm, ⟨49, _⟩ => ⟨S16384x1024, .f32⟩
  | .hbm, ⟨50, _⟩ => ⟨S16384x5632, .f32⟩
  | .hbm, ⟨51, _⟩ => ⟨S16384x2816, .f32⟩
  | .hbm, ⟨52, _⟩ => ⟨S16384x2816, .f32⟩
  | .hbm, ⟨53, _⟩ => ⟨S9x1x1024, .f32⟩
  | .hbm, ⟨54, _⟩ => ⟨S9x1024, .f32⟩
  | .hbm, ⟨55, _⟩ => ⟨S1x1024, .f32⟩
  | .hbm, ⟨56, _⟩ => ⟨S8192x1024, .f32⟩
  | .hbm, ⟨57, _⟩ => ⟨S8x1024, .f32⟩
  | .hbm, ⟨58, _⟩ => ⟨S8x1x1024, .f32⟩
  | .hbm, ⟨59, _⟩ => ⟨S8x1024x1024, .f32⟩
  | .hbm, ⟨60, _⟩ => ⟨S8192x1024, .f32⟩
  | .hbm, ⟨61, _⟩ => ⟨S16384x1024, .f32⟩
  | .hbm, ⟨62, _⟩ => ⟨S_, .f32⟩
  | .hbm, ⟨63, _⟩ => ⟨S16384x1024, .f32⟩
  | .hbm, ⟨64, _⟩ => ⟨S16384x1024, .f32⟩
  | .hbm, ⟨65, _⟩ => ⟨S16384x2816, .f32⟩
  | .hbm, ⟨66, _⟩ => ⟨S16384x2816, .f32⟩
  | .hbm, ⟨67, _⟩ => ⟨S_, .f32⟩
  | .hbm, ⟨68, _⟩ => ⟨S16384x2816, .f32⟩
  | .hbm, ⟨69, _⟩ => ⟨S16384x2816, .f32⟩
  | .hbm, ⟨70, _⟩ => ⟨S_, .f32⟩
  | .hbm, ⟨71, _⟩ => ⟨S16384x2816, .f32⟩
  | .hbm, ⟨72, _⟩ => ⟨S16384x2816, .f32⟩
  | .hbm, ⟨73, _⟩ => ⟨S16384x2816, .f32⟩
  | .hbm, ⟨74, _⟩ => ⟨S16384x2816, .f32⟩
  | .hbm, ⟨75, _⟩ => ⟨S16384x1024, .f32⟩
  | .hbm, ⟨76, _⟩ => ⟨S16384x1024, .f32⟩
  | .hbm, ⟨77, _⟩ => ⟨S16384x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_3 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_4 : Ref sig .tc := ⟨.hbm, 67, rfl⟩
abbrev main_v56 : Ref sig .tc := ⟨.hbm, 68, rfl⟩
abbrev main_v57 : Ref sig .tc := ⟨.hbm, 69, rfl⟩
abbrev main_cst_5 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩

abbrev nD : Nat := 1
abbrev τ : Topo := Topo.v7x

variable {F : FTy → Type} [FloatOps F]
-- ==== Kernel4.lean ====
abbrev S16384x1024 : Shape := ⟨2, ![16384, 1024]⟩
abbrev S9x9x1024 : Shape := ⟨3, ![9, 9, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S1x1024 : Shape := ⟨2, ![1, 1024]⟩
abbrev S512x1024 : Shape := ⟨2, ![512, 1024]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S9x1024 : Shape := ⟨2, ![9, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S512x2816 : Shape := ⟨2, ![512, 2816]⟩
abbrev S2816x1024 : Shape := ⟨2, ![2816, 1024]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S9x9x1024, .f32⟩
  | .hbm, ⟨2, _⟩ => ⟨S1024, .f32⟩
  | .hbm, ⟨3, _⟩ => ⟨S2x2x1024x5632, .f32⟩
  | .hbm, ⟨4, _⟩ => ⟨S2x2x2816x1024, .f32⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x5632, .f32⟩
  | .local _ .vmem, ⟨6, _⟩ => ⟨S1x1x2816x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c512_i32 : BitVec 32 := 512#32
  let v2 : BitVec 32 := Scalar.muli v1 c512_i32
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v0 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16384x1024 : Shape := ⟨2, ![16384, 1024]⟩
abbrev S9x9x1024 : Shape := ⟨3, ![9, 9, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S9x1x1024 : Shape := ⟨3, ![9, 1, 1024]⟩
abbrev S9x1024 : Shape := ⟨2, ![9, 1024]⟩
abbrev S8192x1024 : Shape := ⟨2, ![8192, 1024]⟩
abbrev S8x1024 : Shape := ⟨2, ![8, 1024]⟩
abbrev S8x1x1024 : Shape := ⟨3, ![8, 1, 1024]⟩
abbrev S8x1024x1024 : Shape := ⟨3, ![8, 1024, 1024]⟩
abbrev S16384x5632 : Shape := ⟨2, ![16384, 5632]⟩
abbrev S16384x2816 : Shape := ⟨2, ![16384, 2816]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S9x9x1024, .f32⟩
  | .hbm, ⟨2, _⟩ => ⟨S1024, .f32⟩
  | .hbm, ⟨3, _⟩ => ⟨S2x2x1024x5632, .f32⟩
  | .hbm, ⟨4, _⟩ => ⟨S2x2x2816x1024, .f32⟩
  | .hbm, ⟨5, _⟩ => ⟨S1x1x1024x5632, .f32⟩
  | .hbm, ⟨6, _⟩ => ⟨S1024x5632, .f32⟩
  | .hbm, ⟨7, _⟩ => ⟨S1x1x2816x1024, .f32⟩
  | .hbm, ⟨8, _⟩ => ⟨S2816x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S9x1x1024, .f32⟩
  | .hbm, ⟨26, _⟩ => ⟨S9x1024, .f32⟩
  | .hbm, ⟨27, _⟩ => ⟨S1x1024, .f32⟩
  | .hbm, ⟨28, _⟩ => ⟨S8192x1024, .f32⟩
  | .hbm, ⟨29, _⟩ => ⟨S8x1024, .f32⟩
  | .hbm, ⟨30, _⟩ => ⟨S8x1x1024, .f32⟩
  | .hbm, ⟨31, _⟩ => ⟨S8x1024x1024, .f32⟩
  | .hbm, ⟨32, _⟩ => ⟨S8192x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S9x1x1024, .f32⟩
  | .hbm, ⟨39, _⟩ => ⟨S9x1024, .f32⟩
  | .hbm, ⟨40, _⟩ => ⟨S1x1024, .f32⟩
  | .hbm, ⟨41, _⟩ => ⟨S8192x1024, .f32⟩
  | .hbm, ⟨42, _⟩ => ⟨S8x1024, .f32⟩
  | .hbm, ⟨43, _⟩ => ⟨S8x1x1024, .f32⟩
  | .hbm, ⟨44, _⟩ => ⟨S8x1024x1024, .f32⟩
  | .hbm, ⟨45, _⟩ => ⟨S8192x1024, .f32⟩
  | .hbm, ⟨46, _⟩ => ⟨S16384x1024, .f32⟩
  | .hbm, ⟨47, _⟩ => ⟨S16384x1024, .f32⟩
  | .hbm, ⟨48, _⟩ => ⟨S16384x5632, .f32⟩
  | .hbm, ⟨49, _⟩ => ⟨S16384x2816, .f32⟩
  | .hbm, ⟨50, _⟩ => ⟨S16384x2816, .f32⟩
  | .hbm, ⟨51, _⟩ => ⟨S9x1x1024, .f32⟩
  | .hbm, ⟨52, _⟩ => ⟨S9x1024, .f32⟩
  | .hbm, ⟨53, _⟩ => ⟨S1x1024, .f32⟩
  | .hbm, ⟨54, _⟩ => ⟨S8192x1024, .f32⟩
  | .hbm, ⟨55, _⟩ => ⟨S8x1024, .f32⟩
  | .hbm, ⟨56, _⟩ => ⟨S8x1x1024, .f32⟩
  | .hbm, ⟨57, _⟩ => ⟨S8x1024x1024, .f32⟩
  | .hbm, ⟨58, _⟩ => ⟨S8192x1024, .f32⟩
  | .hbm, ⟨59, _⟩ => ⟨S16384x1024, .f32⟩
  | .hbm, ⟨60, _⟩ => ⟨S_, .f32⟩
  | .hbm, ⟨61, _⟩ => ⟨S16384x1024, .f32⟩
  | .hbm, ⟨62, _⟩ => ⟨S16384x1024, .f32⟩
  | .hbm, ⟨63, _⟩ => ⟨S16384x2816, .f32⟩
  | .hbm, ⟨64, _⟩ => ⟨S16384x2816, .f32⟩
  | .hbm, ⟨65, _⟩ => ⟨S_, .f32⟩
  | .hbm, ⟨66, _⟩ => ⟨S16384x2816, .f32⟩
  | .hbm, ⟨67, _⟩ => ⟨S16384x2816, .f32⟩
  | .hbm, ⟨68, _⟩ => ⟨S_, .f32⟩
  | .hbm, ⟨69, _⟩ => ⟨S16384x2816, .f32⟩
  | .hbm, ⟨70, _⟩ => ⟨S16384x2816, .f32⟩
  | .hbm, ⟨71, _⟩ => ⟨S16384x2816, .f32⟩
  | .hbm, ⟨72, _⟩ => ⟨S16384x2816, .f32⟩
  | .hbm, ⟨73, _⟩ => ⟨S16384x1024, .f32⟩
  | .hbm, ⟨74, _⟩ => ⟨S16384x1024, .f32⟩
  | .hbm, ⟨75, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_3 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_4 : Ref sig .tc := ⟨.hbm, 65, rfl⟩
abbrev main_v55 : Ref sig .tc := ⟨.hbm, 66, rfl⟩
abbrev main_v56 : Ref sig .tc := ⟨.hbm, 67, rfl⟩
abbrev main_cst_5 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩

abbrev nD : Nat := 1
abbrev τ : Topo := Topo.v7x

variable {F : FTy → Type} [FloatOps F]
-- ==== Kernel5.lean ====
abbrev S16384x1024 : Shape := ⟨2, ![16384, 1024]⟩
abbrev S9x9x1024 : Shape := ⟨3, ![9, 9, 1024]⟩
abbrev S1024 : Shape := ⟨1, ![1024]⟩
abbrev S1x1024x3088 : Shape := ⟨3, ![1, 1024, 3088]⟩
abbrev S1024x3088 : Shape := ⟨2, ![1024, 3088]⟩
abbrev S1024x1024 : Shape := ⟨2, ![1024, 1024]⟩
abbrev S1024x16 : Shape := ⟨2, ![1024, 16]⟩
abbrev S_ : Shape := ⟨0, ![]⟩
abbrev S1024x112 : Shape := ⟨2, ![1024, 112]⟩
abbrev S1024x1152 : Shape := ⟨2, ![1024, 1152]⟩
abbrev S1x1024 : Shape := ⟨2, ![1, 1024]⟩
abbrev S16384x1536 : Shape := ⟨2, ![16384, 1536]⟩
abbrev S16384x512 : Shape := ⟨2, ![16384, 512]⟩
abbrev S16384x256 : Shape := ⟨2, ![16384, 256]⟩
abbrev S16384x128 : Shape := ⟨2, ![16384, 128]⟩
abbrev S1x9x1024 : Shape := ⟨3, ![1, 9, 1024]⟩
abbrev S1x1024x1536 : Shape := ⟨3, ![1, 1024, 1536]⟩
abbrev S1x1024x512 : Shape := ⟨3, ![1, 1024, 512]⟩
abbrev S1024x512 : Shape := ⟨2, ![1024, 512]⟩
abbrev S1024x256 : Shape := ⟨2, ![1024, 256]⟩
abbrev S1024x128 : Shape := ⟨2, ![1024, 128]⟩
abbrev S1024x1536 : Shape := ⟨2, ![1024, 1536]⟩
abbrev S9x1024 : Shape := ⟨2, ![9, 1024]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S512x512 : Shape := ⟨2, ![512, 512]⟩
abbrev S512x256 : Shape := ⟨2, ![512, 256]⟩
abbrev S512x128 : Shape := ⟨2, ![512, 128]⟩

abbrev nBuf : Space → Nat
  | .hbm => 17
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S9x9x1024, .f32⟩
  | .hbm, ⟨2, _⟩ => ⟨S1024, .f32⟩
  | .hbm, ⟨3, _⟩ => ⟨S1x1024x3088, .f32⟩
  | .hbm, ⟨4, _⟩ => ⟨S1024x3088, .f32⟩
  | .hbm, ⟨5, _⟩ => ⟨S1024x1024, .f32⟩
  | .hbm, ⟨6, _⟩ => ⟨S1024x16, .f32⟩
  | .hbm, ⟨7, _⟩ => ⟨S_, .f32⟩
  | .hbm, ⟨8, _⟩ => ⟨S1024x112, .f32⟩
  | .hbm, ⟨9, _⟩ => ⟨S1024x1152, .f32⟩
  | .hbm, ⟨10, _⟩ => ⟨S1x1024, .f32⟩
  | .hbm, ⟨11, _⟩ => ⟨S16384x1536, .f32⟩
  | .hbm, ⟨12, _⟩ => ⟨S16384x512, .bf16⟩
  | .hbm, ⟨13, _⟩ => ⟨S16384x512, .f32⟩
  | .hbm, ⟨14, _⟩ => ⟨S16384x256, .f32⟩
  | .hbm, ⟨15, _⟩ => ⟨S16384x256, .f32⟩
  | .hbm, ⟨16, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1024x1536, .f32⟩
  | .local _ .vmem, ⟨6, _⟩ => ⟨S1x1024x512, .f32⟩
  | .local _ .vmem, ⟨7, _⟩ => ⟨S1024x512, .f32⟩
  | .local _ .vmem, ⟨8, _⟩ => ⟨S1024x256, .f32⟩
  | .local _ .vmem, ⟨9, _⟩ => ⟨S1024x256, .f32⟩
  | .local _ .vmem, ⟨10, _⟩ => ⟨S1024x128, .f32⟩
  | .local _ .vmem, ⟨11, _⟩ => ⟨S1024x1536, .f32⟩
  | .local _ .vmem, ⟨12, _⟩ => ⟨S1024x1536, .f32⟩
  | .local _ .vmem, ⟨13, _⟩ => ⟨S1024x512, .bf16⟩
  | .local _ .vmem, ⟨14, _⟩ => ⟨S1024x512, .bf16⟩
  | .local _ .vmem, ⟨15, _⟩ => ⟨S1024x512, .f32⟩
  | .local _ .vmem, ⟨16, _⟩ => ⟨S1024x512, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x128, .f32⟩
  | .local _ .vmem, ⟨22, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_v6_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c1024_i32 : BitVec 32 := 1024#32
  let v2 : BitVec 32 := Scalar.muli v1 c1024_i32
  let c1024_i32_1 : BitVec 32 := 1024#32
  let v3 : BitVec 32 := Scalar.divsi v2 c1024_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1024_i32_1 c0_i32_3
  let v10 : BitVec 32 := Scalar.extui v9
  let c0_i32_4 : BitVec 32 := 0#32
  let v11 : BitVec 1 := Scalar.cmpi .slt c1024_i32_1 c0_i32_4
  let v12 : BitVec 32 := Scalar.extui v11
  let v13 : BitVec 32 := Scalar.subi v10 v12
  let v14 : BitVec 1 := Scalar.cmpi .ne v8 v13
  let v15 : BitVec 32 := Scalar.remsi v2 c1024_i32_1
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v0 c0_i32_7 v20
  let c0_i32_8 : BitVec 32 := 0#32
  let c0_i32_9 : BitVec 32 := 0#32
  let c0_i32_10 : BitVec 32 := 0#32
  ![v21.toNat, c0_i32_8.toNat, c0_i32_9.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_7 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_8 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S16384x1024 : Shape := ⟨2, ![16384, 1024]⟩
abbrev S9x9x1024 : Shape := ⟨3, ![9, 9, 1024]⟩
abbrev S1024 : Shape := ⟨1, ![1024]⟩
abbrev S1x1024x3088 : Shape := ⟨3, ![1, 1024, 3088]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S9x1x1024 : Shape := ⟨3, ![9, 1, 1024]⟩
abbrev S9x1024 : Shape := ⟨2, ![9, 1024]⟩
abbrev S8192x1024 : Shape := ⟨2, ![8192, 1024]⟩
abbrev S8x1024 : Shape := ⟨2, ![8, 1024]⟩
abbrev S8x1x1024 : Shape := ⟨3, ![8, 1, 1024]⟩
abbrev S8x1024x1024 : Shape := ⟨3, ![8, 1024, 1024]⟩
abbrev S1024x3088 : Shape := ⟨2, ![1024, 3088]⟩
abbrev S16384x3088 : Shape := ⟨2, ![16384, 3088]⟩
abbrev S16384x16 : Shape := ⟨2, ![16384, 16]⟩
abbrev S16384x112 : Shape := ⟨2, ![16384, 112]⟩
abbrev S16384x128 : Shape := ⟨2, ![16384, 128]⟩
abbrev S16384x1536 : Shape := ⟨2, ![16384, 1536]⟩
abbrev S16384x512 : Shape := ⟨2, ![16384, 512]⟩
abbrev S16384x256 : Shape := ⟨2, ![16384, 256]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S9x9x1024, .f32⟩
  | .hbm, ⟨2, _⟩ => ⟨S1024, .f32⟩
  | .hbm, ⟨3, _⟩ => ⟨S1x1024x3088, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S9x1x1024, .f32⟩
  | .hbm, ⟨21, _⟩ => ⟨S9x1024, .f32⟩
  | .hbm, ⟨22, _⟩ => ⟨S1x1024, .f32⟩
  | .hbm, ⟨23, _⟩ => ⟨S8192x1024, .f32⟩
  | .hbm, ⟨24, _⟩ => ⟨S8x1024, .f32⟩
  | .hbm, ⟨25, _⟩ => ⟨S8x1x1024, .f32⟩
  | .hbm, ⟨26, _⟩ => ⟨S8x1024x1024, .f32⟩
  | .hbm, ⟨27, _⟩ => ⟨S8192x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S9x1x1024, .f32⟩
  | .hbm, ⟨34, _⟩ => ⟨S9x1024, .f32⟩
  | .hbm, ⟨35, _⟩ => ⟨S1x1024, .f32⟩
  | .hbm, ⟨36, _⟩ => ⟨S8192x1024, .f32⟩
  | .hbm, ⟨37, _⟩ => ⟨S8x1024, .f32⟩
  | .hbm, ⟨38, _⟩ => ⟨S8x1x1024, .f32⟩
  | .hbm, ⟨39, _⟩ => ⟨S8x1024x1024, .f32⟩
  | .hbm, ⟨40, _⟩ => ⟨S8192x1024, .f32⟩
  | .hbm, ⟨41, _⟩ => ⟨S16384x1024, .f32⟩
  | .hbm, ⟨42, _⟩ => ⟨S16384x1024, .f32⟩
  | .hbm, ⟨43, _⟩ => ⟨S1024x3088, .f32⟩
  | .hbm, ⟨44, _⟩ => ⟨S16384x3088, .f32⟩
  | .hbm, ⟨45, _⟩ => ⟨S16384x16, .f32⟩
  | .hbm, ⟨46, _⟩ => ⟨S_, .f32⟩
  | .hbm, ⟨47, _⟩ => ⟨S16384x112, .f32⟩
  | .hbm, ⟨48, _⟩ => ⟨S16384x128, .f32⟩
  | .hbm, ⟨49, _⟩ => ⟨S16384x1536, .f32⟩
  | .hbm, ⟨50, _⟩ => ⟨S16384x512, .f32⟩
  | .hbm, ⟨51, _⟩ => ⟨S16384x512, .bf16⟩
  | .hbm, ⟨52, _⟩ => ⟨S16384x512, .f32⟩
  | .hbm, ⟨53, _⟩ => ⟨S16384x256, .f32⟩
  | .hbm, ⟨54, _⟩ => ⟨S16384x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩

abbrev nD : Nat := 1
abbrev τ : Topo := Topo.v7x

variable {F : FTy → Type} [FloatOps F]
-- ==== Kernel6.lean ====
abbrev S16384x1024 : Shape := ⟨2, ![16384, 1024]⟩
abbrev S9x9x1024 : Shape := ⟨3, ![9, 9, 1024]⟩
abbrev S1024 : Shape := ⟨1, ![1024]⟩
abbrev S1x1024x3104 : Shape := ⟨3, ![1, 1024, 3104]⟩
abbrev S1024x3104 : Shape := ⟨2, ![1024, 3104]⟩
abbrev S1024x32 : Shape := ⟨2, ![1024, 32]⟩
abbrev S_ : Shape := ⟨0, ![]⟩
abbrev S1024x96 : Shape := ⟨2, ![1024, 96]⟩
abbrev S1024x128 : Shape := ⟨2, ![1024, 128]⟩
abbrev S1x1024 : Shape := ⟨2, ![1, 1024]⟩
abbrev S16384x512 : Shape := ⟨2, ![16384, 512]⟩
abbrev S16384x128 : Shape := ⟨2, ![16384, 128]⟩
abbrev S1024x1024 : Shape := ⟨2, ![1024, 1024]⟩
abbrev S1x9x1024 : Shape := ⟨3, ![1, 9, 1024]⟩
abbrev S1x1024x512 : Shape := ⟨3, ![1, 1024, 512]⟩
abbrev S1x1024x1024 : Shape := ⟨3, ![1, 1024, 1024]⟩
abbrev S1024x512 : Shape := ⟨2, ![1024, 512]⟩
abbrev S9x1024 : Shape := ⟨2, ![9, 1024]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S512x128 : Shape := ⟨2, ![512, 128]⟩

abbrev nBuf : Space → Nat
  | .hbm => 15
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S9x9x1024, .f32⟩
  | .hbm, ⟨2, _⟩ => ⟨S1024, .f32⟩
  | .hbm, ⟨3, _⟩ => ⟨S1x1024x3104, .f32⟩
  | .hbm, ⟨4, _⟩ => ⟨S1024x3104, .f32⟩
  | .hbm, ⟨5, _⟩ => ⟨S1024x32, .f32⟩
  | .hbm, ⟨6, _⟩ => ⟨S_, .f32⟩
  | .hbm, ⟨7, _⟩ => ⟨S1024x96, .f32⟩
  | .hbm, ⟨8, _⟩ => ⟨S1024x128, .f32⟩
  | .hbm, ⟨9, _⟩ => ⟨S1x1024, .f32⟩
  | .hbm, ⟨10, _⟩ => ⟨S16384x512, .f32⟩
  | .hbm, ⟨11, _⟩ => ⟨S16384x512, .f32⟩
  | .hbm, ⟨12, _⟩ => ⟨S16384x1024, .bf16⟩
  | .hbm, ⟨13, _⟩ => ⟨S16384x1024, .bf16⟩
  | .hbm, ⟨14, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x1024, .f32⟩
  | .local _ .vmem, ⟨8, _⟩ => ⟨S1x1024x1024, .f32⟩
  | .local _ .vmem, ⟨9, _⟩ => ⟨S1024x128, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x128, .f32⟩
  | .local _ .vmem, ⟨19, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c1024_i32 : BitVec 32 := 1024#32
  let v2 : BitVec 32 := Scalar.muli v1 c1024_i32
  let c1024_i32_1 : BitVec 32 := 1024#32
  let v3 : BitVec 32 := Scalar.divsi v2 c1024_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1024_i32_1 c0_i32_3
  let v10 : BitVec 32 := Scalar.extui v9
  let c0_i32_4 : BitVec 32 := 0#32
  let v11 : BitVec 1 := Scalar.cmpi .slt c1024_i32_1 c0_i32_4
  let v12 : BitVec 32 := Scalar.extui v11
  let v13 : BitVec 32 := Scalar.subi v10 v12
  let v14 : BitVec 1 := Scalar.cmpi .ne v8 v13
  let v15 : BitVec 32 := Scalar.remsi v2 c1024_i32_1
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v0 c0_i32_7 v20
  let c0_i32_8 : BitVec 32 := 0#32
  let c0_i32_9 : BitVec 32 := 0#32
  let c0_i32_10 : BitVec 32 := 0#32
  ![v21.toNat, c0_i32_8.toNat, c0_i32_9.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S16384x1024 : Shape := ⟨2, ![16384, 1024]⟩
abbrev S9x9x1024 : Shape := ⟨3, ![9, 9, 1024]⟩
abbrev S1024 : Shape := ⟨1, ![1024]⟩
abbrev S1x1024x3104 : Shape := ⟨3, ![1, 1024, 3104]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S9x1x1024 : Shape := ⟨3, ![9, 1, 1024]⟩
abbrev S9x1024 : Shape := ⟨2, ![9, 1024]⟩
abbrev S8192x1024 : Shape := ⟨2, ![8192, 1024]⟩
abbrev S8x1024 : Shape := ⟨2, ![8, 1024]⟩
abbrev S8x1x1024 : Shape := ⟨3, ![8, 1, 1024]⟩
abbrev S8x1024x1024 : Shape := ⟨3, ![8, 1024, 1024]⟩
abbrev S1024x3104 : Shape := ⟨2, ![1024, 3104]⟩
abbrev S16384x3104 : Shape := ⟨2, ![16384, 3104]⟩
abbrev S16384x32 : Shape := ⟨2, ![16384, 32]⟩
abbrev S16384x96 : Shape := ⟨2, ![16384, 96]⟩
abbrev S16384x128 : Shape := ⟨2, ![16384, 128]⟩
abbrev S16384x512 : Shape := ⟨2, ![16384, 512]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S9x9x1024, .f32⟩
  | .hbm, ⟨2, _⟩ => ⟨S1024, .f32⟩
  | .hbm, ⟨3, _⟩ => ⟨S1x1024x3104, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S9x1x1024, .f32⟩
  | .hbm, ⟨21, _⟩ => ⟨S9x1024, .f32⟩
  | .hbm, ⟨22, _⟩ => ⟨S1x1024, .f32⟩
  | .hbm, ⟨23, _⟩ => ⟨S8192x1024, .f32⟩
  | .hbm, ⟨24, _⟩ => ⟨S8x1024, .f32⟩
  | .hbm, ⟨25, _⟩ => ⟨S8x1x1024, .f32⟩
  | .hbm, ⟨26, _⟩ => ⟨S8x1024x1024, .f32⟩
  | .hbm, ⟨27, _⟩ => ⟨S8192x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S9x1x1024, .f32⟩
  | .hbm, ⟨34, _⟩ => ⟨S9x1024, .f32⟩
  | .hbm, ⟨35, _⟩ => ⟨S1x1024, .f32⟩
  | .hbm, ⟨36, _⟩ => ⟨S8192x1024, .f32⟩
  | .hbm, ⟨37, _⟩ => ⟨S8x1024, .f32⟩
  | .hbm, ⟨38, _⟩ => ⟨S8x1x1024, .f32⟩
  | .hbm, ⟨39, _⟩ => ⟨S8x1024x1024, .f32⟩
  | .hbm, ⟨40, _⟩ => ⟨S8192x1024, .f32⟩
  | .hbm, ⟨41, _⟩ => ⟨S16384x1024, .f32⟩
  | .hbm, ⟨42, _⟩ => ⟨S16384x1024, .f32⟩
  | .hbm, ⟨43, _⟩ => ⟨S1024x3104, .f32⟩
  | .hbm, ⟨44, _⟩ => ⟨S16384x3104, .f32⟩
  | .hbm, ⟨45, _⟩ => ⟨S16384x32, .f32⟩
  | .hbm, ⟨46, _⟩ => ⟨S_, .f32⟩
  | .hbm, ⟨47, _⟩ => ⟨S16384x96, .f32⟩
  | .hbm, ⟨48, _⟩ => ⟨S16384x128, .f32⟩
  | .hbm, ⟨49, _⟩ => ⟨S16384x512, .f32⟩
  | .hbm, ⟨50, _⟩ => ⟨S16384x512, .f32⟩
  | .hbm, ⟨51, _⟩ => ⟨S16384x1024, .f32⟩
  | .hbm, ⟨52, _⟩ => ⟨S16384x1024, .bf16⟩
  | .hbm, ⟨53, _⟩ => ⟨S16384x1024, .f32⟩
  | .hbm, ⟨54, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩

abbrev nD : Nat := 1
abbrev τ : Topo := Topo.v7x

variable {F : FTy → Type} [FloatOps F]
-- ==== Kernel7.lean ====
abbrev S16384x1024 : Shape := ⟨2, ![16384, 1024]⟩
abbrev S9x9x1024 : Shape := ⟨3, ![9, 9, 1024]⟩
abbrev S1024 : Shape := ⟨1, ![1024]⟩
abbrev S2x1x1024x5632 : Shape := ⟨4, ![2, 1, 1024, 5632]⟩
abbrev S2x1x2816x1024 : Shape := ⟨4, ![2, 1, 2816, 1024]⟩
abbrev S16384x512 : Shape := ⟨2, ![16384, 512]⟩
abbrev S128 : Shape := ⟨1, ![128]⟩
abbrev S1024x1024 : Shape := ⟨2, ![1024, 1024]⟩
abbrev S8192x512 : Shape := ⟨2, ![8192, 512]⟩
abbrev S1x128 : Shape := ⟨2, ![1, 128]⟩
abbrev S1x1024 : Shape := ⟨2, ![1, 1024]⟩
abbrev S512x1024 : Shape := ⟨2, ![512, 1024]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S512x512 : Shape := ⟨2, ![512, 512]⟩
abbrev S9x1024 : Shape := ⟨2, ![9, 1024]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S256x1024 : Shape := ⟨2, ![256, 1024]⟩
abbrev S1x1x1024x256 : Shape := ⟨4, ![1, 1, 1024, 256]⟩
abbrev S1024x256 : Shape := ⟨2, ![1024, 256]⟩
abbrev S512x2816 : Shape := ⟨2, ![512, 2816]⟩
abbrev S2816x1024 : Shape := ⟨2, ![2816, 1024]⟩

abbrev nBuf : Space → Nat
  | .hbm => 15
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S9x9x1024, .f32⟩
  | .hbm, ⟨2, _⟩ => ⟨S1024, .f32⟩
  | .hbm, ⟨3, _⟩ => ⟨S2x1x1024x5632, .bf16⟩
  | .hbm, ⟨4, _⟩ => ⟨S2x1x2816x1024, .bf16⟩
  | .hbm, ⟨5, _⟩ => ⟨S16384x512, .bf16⟩
  | .hbm, ⟨6, _⟩ => ⟨S16384x512, .bf16⟩
  | .hbm, ⟨7, _⟩ => ⟨S16384x512, .bf16⟩
  | .hbm, ⟨8, _⟩ => ⟨S128, .f32⟩
  | .hbm, ⟨9, _⟩ => ⟨S1024x1024, .bf16⟩
  | .hbm, ⟨10, _⟩ => ⟨S8192x512, .bf16⟩
  | .hbm, ⟨11, _⟩ => ⟨S8192x512, .bf16⟩
  | .hbm, ⟨12, _⟩ => ⟨S1x128, .f32⟩
  | .hbm, ⟨13, _⟩ => ⟨S1x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S1x128, .f32⟩
  | .local _ .vmem, ⟨14, _⟩ => ⟨S1024x1024, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x1024, .f32⟩
  | .local _ .vmem, ⟨20, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c512_i32 : BitVec 32 := 512#32
  let v2 : BitVec 32 := Scalar.muli v1 c512_i32
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v0 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference7Ideal.lean ====
abbrev S16384x1024 : Shape := ⟨2, ![16384, 1024]⟩
abbrev S9x9x1024 : Shape := ⟨3, ![9, 9, 1024]⟩
abbrev S1024 : Shape := ⟨1, ![1024]⟩
abbrev S2x1x1024x5632 : Shape := ⟨4, ![2, 1, 1024, 5632]⟩
abbrev S2x1x2816x1024 : Shape := ⟨4, ![2, 1, 2816, 1024]⟩
abbrev S16384x512 : Shape := ⟨2, ![16384, 512]⟩
abbrev S128 : Shape := ⟨1, ![128]⟩
abbrev S1024x1024 : Shape := ⟨2, ![1024, 1024]⟩
abbrev S8192x512 : Shape := ⟨2, ![8192, 512]⟩
abbrev S16384x4x128 : Shape := ⟨3, ![16384, 4, 128]⟩
abbrev S_ : Shape := ⟨0, ![]⟩
abbrev S16384x4 : Shape := ⟨2, ![16384, 4]⟩
abbrev S16384x4x1 : Shape := ⟨3, ![16384, 4, 1]⟩
abbrev S1x1x128 : Shape := ⟨3, ![1, 1, 128]⟩
abbrev S9x1x1024 : Shape := ⟨3, ![9, 1, 1024]⟩
abbrev S9x1024 : Shape := ⟨2, ![9, 1024]⟩
abbrev S1x1024 : Shape := ⟨2, ![1, 1024]⟩
abbrev S8192x1024 : Shape := ⟨2, ![8192, 1024]⟩
abbrev S8x1024 : Shape := ⟨2, ![8, 1024]⟩
abbrev S8x1x1024 : Shape := ⟨3, ![8, 1, 1024]⟩
abbrev S8x1024x1024 : Shape := ⟨3, ![8, 1024, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩

abbrev nBuf : Space → Nat
  | .hbm => 134
  | .vmem => 0
  | .smem => 0
  | _ => 0

abbrev hbmTy0_0 (i : Nat) : BufTy := match i % 128 with
  | 0 => ⟨S16384x1024, .f32⟩
  | 1 => ⟨S9x9x1024, .f32⟩
  | 2 => ⟨S1024, .f32⟩
  | 3 => ⟨S2x1x1024x5632, .bf16⟩
  | 4 => ⟨S2x1x2816x1024, .bf16⟩
  | 5 => ⟨S16384x512, .bf16⟩
  | 6 => ⟨S16384x512, .bf16⟩
  | 7 => ⟨S16384x512, .bf16⟩
  | 8 => ⟨S128, .f32⟩
  | 9 => ⟨S1024x1024, .bf16⟩
  | 10 => ⟨S8192x512, .bf16⟩
  | 11 => ⟨S8192x512, .bf16⟩
  | 12 => ⟨S16384x512, .f32⟩
  | 13 => ⟨S16384x512, .f32⟩
  | 14 => ⟨S16384x512, .f32⟩
  | 15 => ⟨S16384x4x128, .f32⟩
  | 16 => ⟨S16384x512, .f32⟩
  | 17 => ⟨S16384x4x128, .f32⟩
  | 18 => ⟨S16384x4x128, .f32⟩
  | 19 => ⟨S_, .f32⟩
  | 20 => ⟨S16384x4, .f32⟩
  | 21 => ⟨S16384x4x1, .f32⟩
  | 22 => ⟨S_, .f32⟩
  | 23 => ⟨S16384x4x1, .f32⟩
  | 24 => ⟨S16384x4x1, .f32⟩
  | 25 => ⟨S_, .f32⟩
  | 26 => ⟨S16384x4x1, .f32⟩
  | 27 => ⟨S16384x4x1, .f32⟩
  | 28 => ⟨S16384x4x1, .f32⟩
  | 29 => ⟨S16384x4x128, .f32⟩
  | 30 => ⟨S16384x4x128, .f32⟩
  | 31 => ⟨S1x1x128, .f32⟩
  | 32 => ⟨S16384x4x128, .f32⟩
  | 33 => ⟨S16384x4x128, .f32⟩
  | 34 => ⟨S16384x4x128, .f32⟩
  | 35 => ⟨S16384x4x128, .f32⟩
  | 36 => ⟨S_, .f32⟩
  | 37 => ⟨S16384x4x128, .f32⟩
  | 38 => ⟨S16384x4x128, .f32⟩
  | 39 => ⟨S_, .f32⟩
  | 40 => ⟨S16384x4x128, .f32⟩
  | 41 => ⟨S16384x4x128, .f32⟩
  | 42 => ⟨S16384x4x128, .f32⟩
  | 43 => ⟨S16384x4x128, .f32⟩
  | 44 => ⟨S16384x512, .bf16⟩
  | 45 => ⟨S16384x512, .f32⟩
  | 46 => ⟨S16384x512, .f32⟩
  | 47 => ⟨S16384x1024, .f32⟩
  | 48 => ⟨S9x1x1024, .f32⟩
  | 49 => ⟨S9x1024, .f32⟩
  | 50 => ⟨S1x1024, .f32⟩
  | 51 => ⟨S8192x1024, .f32⟩
  | 52 => ⟨S8x1024, .f32⟩
  | 53 => ⟨S8x1x1024, .f32⟩
  | 54 => ⟨S8x1024x1024, .f32⟩
  | 55 => ⟨S8192x1024, .f32⟩
  | 56 => ⟨S16384x1024, .f32⟩
  | 57 => ⟨S1024x1024, .f32⟩
  | 58 => ⟨S16384x1024, .f32⟩
  | 59 => ⟨S16384x1024, .f32⟩
  | 60 => ⟨S16384x1024, .f32⟩
  | 61 => ⟨S1x1x1024x5632, .bf16⟩
  | 62 => ⟨S1024x5632, .bf16⟩
  | 63 => ⟨S1024x5632, .f32⟩
  | 64 => ⟨S1x1x2816x1024, .bf16⟩
  | 65 => ⟨S2816x1024, .bf16⟩
  | 66 => ⟨S2816x1024, .f32⟩
  | 67 => ⟨S16384x1024, .f32⟩
  | 68 => ⟨S_, .f32⟩
  | 69 => ⟨S16384, .f32⟩
  | 70 => ⟨S16384x1, .f32⟩
  | 71 => ⟨S_, .f32⟩
  | 72 => ⟨S16384x1, .f32⟩
  | 73 => ⟨S16384x1, .f32⟩
  | 74 => ⟨S_, .f32⟩
  | 75 => ⟨S16384x1, .f32⟩
  | 76 => ⟨S16384x1, .f32⟩
  | 77 => ⟨S16384x1, .f32⟩
  | 78 => ⟨S16384x1024, .f32⟩
  | 79 => ⟨S16384x1024, .f32⟩
  | 80 => ⟨S1x1024, .f32⟩
  | 81 => ⟨S16384x1024, .f32⟩
  | 82 => ⟨S16384x1024, .f32⟩
  | 83 => ⟨S9x1x1024, .f32⟩
  | 84 => ⟨S9x1024, .f32⟩
  | 85 => ⟨S1x1024, .f32⟩
  | 86 => ⟨S8192x1024, .f32⟩
  | 87 => ⟨S8x1024, .f32⟩
  | 88 => ⟨S8x1x1024, .f32⟩
  | 89 => ⟨S8x1024x1024, .f32⟩
  | 90 => ⟨S8192x1024, .f32⟩
  | 91 => ⟨S16384x1024, .f32⟩
  | 92 => ⟨S_, .f32⟩
  | 93 => ⟨S16384x1024, .f32⟩
  | 94 => ⟨S16384x1024, .f32⟩
  | 95 => ⟨S16384x1024, .f32⟩
  | 96 => ⟨S9x1x1024, .f32⟩
  | 97 => ⟨S9x1024, .f32⟩
  | 98 => ⟨S1x1024, .f32⟩
  | 99 => ⟨S8192x1024, .f32⟩
  | 100 => ⟨S8x1024, .f32⟩
  | 101 => ⟨S8x1x1024, .f32⟩
  | 102 => ⟨S8x1024x1024, .f32⟩
  | 103 => ⟨S8192x1024, .f32⟩
  | 104 => ⟨S16384x1024, .f32⟩
  | 105 => ⟨S16384x1024, .f32⟩
  | 106 => ⟨S16384x5632, .f32⟩
  | 107 => ⟨S16384x2816, .f32⟩
  | 108 => ⟨S16384x2816, .f32⟩
  | 109 => ⟨S9x1x1024, .f32⟩
  | 110 => ⟨S9x1024, .f32⟩
  | 111 => ⟨S1x1024, .f32⟩
  | 112 => ⟨S8192x1024, .f32⟩
  | 113 => ⟨S8x1024, .f32⟩
  | 114 => ⟨S8x1x1024, .f32⟩
  | 115 => ⟨S8x1024x1024, .f32⟩
  | 116 => ⟨S8192x1024, .f32⟩
  | 117 => ⟨S16384x1024, .f32⟩
  | 118 => ⟨S_, .f32⟩
  | 119 => ⟨S16384x1024, .f32⟩
  | 120 => ⟨S16384x1024, .f32⟩
  | 121 => ⟨S16384x2816, .f32⟩
  | 122 => ⟨S16384x2816, .f32⟩
  | 123 => ⟨S_, .f32⟩
  | 124 => ⟨S16384x2816, .f32⟩
  | 125 => ⟨S16384x2816, .f32⟩
  | 126 => ⟨S_, .f32⟩
  | 127 => ⟨S16384x2816, .f32⟩
  | _ => ⟨S16384x1024, .f32⟩

abbrev hbmTy0_1 (i : Nat) : BufTy := match i % 128 with
  | 0 => ⟨S16384x2816, .f32⟩
  | 1 => ⟨S16384x2816, .f32⟩
  | 2 => ⟨S16384x2816, .f32⟩
  | 3 => ⟨S16384x1024, .f32⟩
  | 4 => ⟨S16384x1024, .f32⟩
  | 5 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_4 : Ref sig .tc := ⟨.hbm, 68, rfl⟩
abbrev main_v51 : Ref sig .tc := ⟨.hbm, 69, rfl⟩
abbrev main_v52 : Ref sig .tc := ⟨.hbm, 70, rfl⟩
abbrev main_cst_5 : Ref sig .tc := ⟨.hbm, 71, rfl⟩
abbrev main_v53 : Ref sig .tc := ⟨.hbm, 72, rfl⟩
abbrev main_v54 : Ref sig .tc := ⟨.hbm, 73, rfl⟩
abbrev main_cst_6 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_7 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_cst_8 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_9 : Ref sig .tc := ⟨.hbm, 123, rfl⟩
abbrev main_v101 : Ref sig .tc := ⟨.hbm, 124, rfl⟩
abbrev main_v102 : Ref sig .tc := ⟨.hbm, 125, rfl⟩
abbrev main_cst_10 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩

abbrev nD : Nat := 1
abbrev τ : Topo := Topo.v7x

variable {F : FTy → Type} [FloatOps F]
-- ==== Kernel8.lean ====
abbrev S16384x1024 : Shape := ⟨2, ![16384, 1024]⟩
abbrev S9x9x1024 : Shape := ⟨3, ![9, 9, 1024]⟩
abbrev S1024 : Shape := ⟨1, ![1024]⟩
abbrev S2x1x1024x5632 : Shape := ⟨4, ![2, 1, 1024, 5632]⟩
abbrev S2x1x2816x1024 : Shape := ⟨4, ![2, 1, 2816, 1024]⟩
abbrev S256 : Shape := ⟨1, ![256]⟩
abbrev S1024x1024 : Shape := ⟨2, ![1024, 1024]⟩
abbrev S1x256 : Shape := ⟨2, ![1, 256]⟩
abbrev S1x1024 : Shape := ⟨2, ![1, 1024]⟩
abbrev S8192x1024 : Shape := ⟨2, ![8192, 1024]⟩
abbrev S512x1024 : Shape := ⟨2, ![512, 1024]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S9x1024 : Shape := ⟨2, ![9, 1024]⟩
abbrev S512x256 : Shape := ⟨2, ![512, 256]⟩
abbrev S512 : Shape := ⟨1, ![512]⟩
abbrev S512x1 : Shape := ⟨2, ![512, 1]⟩
abbrev S256x1024 : Shape := ⟨2, ![256, 1024]⟩
abbrev S1x1x1024x256 : Shape := ⟨4, ![1, 1, 1024, 256]⟩
abbrev S1024x256 : Shape := ⟨2, ![1024, 256]⟩
abbrev S512x2816 : Shape := ⟨2, ![512, 2816]⟩
abbrev S2816x1024 : Shape := ⟨2, ![2816, 1024]⟩

abbrev nBuf : Space → Nat
  | .hbm => 16
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S9x9x1024, .f32⟩
  | .hbm, ⟨2, _⟩ => ⟨S1024, .f32⟩
  | .hbm, ⟨3, _⟩ => ⟨S2x1x1024x5632, .bf16⟩
  | .hbm, ⟨4, _⟩ => ⟨S2x1x2816x1024, .bf16⟩
  | .hbm, ⟨5, _⟩ => ⟨S16384x1024, .bf16⟩
  | .hbm, ⟨6, _⟩ => ⟨S16384x1024, .bf16⟩
  | .hbm, ⟨7, _⟩ => ⟨S16384x1024, .bf16⟩
  | .hbm, ⟨8, _⟩ => ⟨S256, .f32⟩
  | .hbm, ⟨9, _⟩ => ⟨S1024x1024, .bf16⟩
  | .hbm, ⟨10, _⟩ => ⟨S1024, .f32⟩
  | .hbm, ⟨11, _⟩ => ⟨S1x256, .f32⟩
  | .hbm, ⟨12, _⟩ => ⟨S1x1024, .f32⟩
  | .hbm, ⟨13, _⟩ => ⟨S1x1024, .f32⟩
  | .hbm, ⟨14, _⟩ => ⟨S8192x1024, .f32⟩
  | .hbm, ⟨15, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1x256, .f32⟩
  | .local _ .vmem, ⟨14, _⟩ => ⟨S1024x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c16_i32 : BitVec 32 := 16#32
  let v352 : BitVec 1 := Scalar.cmpi .slt arg0 c16_i32
  let v353 : BitVec 32 := Scalar.extui v352
  let c0_i32 : BitVec 32 := 0#32
  let v354 : BitVec 1 := Scalar.cmpi .ne v353 c0_i32
  v354

def k0_cond2 (i : grid0.Coords) : BitVec 1 :=
  let arg0 : BitVec 32 := BitVec.ofNat 32 (i 0).val
  let c16_i32_192 : BitVec 32 := 16#32
  let v355 : BitVec 1 := Scalar.cmpi .sge arg0 c16_i32_192
  let v356 : BitVec 32 := Scalar.extui v355
  let c0_i32_193 : BitVec 32 := 0#32
  let v357 : BitVec 1 := Scalar.cmpi .ne v356 c0_i32_193
  v357

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c512_i32 : BitVec 32 := 512#32
  let v2 : BitVec 32 := Scalar.muli v1 c512_i32
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v0 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference8Ideal.lean ====
abbrev S16384x1024 : Shape := ⟨2, ![16384, 1024]⟩
abbrev S9x9x1024 : Shape := ⟨3, ![9, 9, 1024]⟩
abbrev S1024 : Shape := ⟨1, ![1024]⟩
abbrev S2x1x1024x5632 : Shape := ⟨4, ![2, 1, 1024, 5632]⟩
abbrev S2x1x2816x1024 : Shape := ⟨4, ![2, 1, 2816, 1024]⟩
abbrev S256 : Shape := ⟨1, ![256]⟩
abbrev S1024x1024 : Shape := ⟨2, ![1024, 1024]⟩
abbrev S16384x4x256 : Shape := ⟨3, ![16384, 4, 256]⟩
abbrev S_ : Shape := ⟨0, ![]⟩
abbrev S16384x4 : Shape := ⟨2, ![16384, 4]⟩
abbrev S16384x4x1 : Shape := ⟨3, ![16384, 4, 1]⟩
abbrev S1x1x256 : Shape := ⟨3, ![1, 1, 256]⟩
abbrev S9x1x1024 : Shape := ⟨3, ![9, 1, 1024]⟩
abbrev S9x1024 : Shape := ⟨2, ![9, 1024]⟩
abbrev S1x1024 : Shape := ⟨2, ![1, 1024]⟩
abbrev S8192x1024 : Shape := ⟨2, ![8192, 1024]⟩
abbrev S8x1024 : Shape := ⟨2, ![8, 1024]⟩
abbrev S8x1x1024 : Shape := ⟨3, ![8, 1, 1024]⟩
abbrev S8x1024x1024 : Shape := ⟨3, ![8, 1024, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩

abbrev nBuf : Space → Nat
  | .hbm => 148
  | .vmem => 0
  | .smem => 0
  | _ => 0

abbrev hbmTy0_0 (i : Nat) : BufTy := match i % 128 with
  | 0 => ⟨S16384x1024, .f32⟩
  | 1 => ⟨S9x9x1024, .f32⟩
  | 2 => ⟨S1024, .f32⟩
  | 3 => ⟨S2x1x1024x5632, .bf16⟩
  | 4 => ⟨S2x1x2816x1024, .bf16⟩
  | 5 => ⟨S16384x1024, .bf16⟩
  | 6 => ⟨S16384x1024, .bf16⟩
  | 7 => ⟨S16384x1024, .bf16⟩
  | 8 => ⟨S256, .f32⟩
  | 9 => ⟨S1024x1024, .bf16⟩
  | 10 => ⟨S1024, .f32⟩
  | 11 => ⟨S16384x1024, .f32⟩
  | 12 => ⟨S16384x1024, .f32⟩
  | 13 => ⟨S16384x1024, .f32⟩
  | 14 => ⟨S16384x4x256, .f32⟩
  | 15 => ⟨S16384x1024, .f32⟩
  | 16 => ⟨S16384x4x256, .f32⟩
  | 17 => ⟨S16384x4x256, .f32⟩
  | 18 => ⟨S_, .f32⟩
  | 19 => ⟨S16384x4, .f32⟩
  | 20 => ⟨S16384x4x1, .f32⟩
  | 21 => ⟨S_, .f32⟩
  | 22 => ⟨S16384x4x1, .f32⟩
  | 23 => ⟨S16384x4x1, .f32⟩
  | 24 => ⟨S_, .f32⟩
  | 25 => ⟨S16384x4x1, .f32⟩
  | 26 => ⟨S16384x4x1, .f32⟩
  | 27 => ⟨S16384x4x1, .f32⟩
  | 28 => ⟨S16384x4x256, .f32⟩
  | 29 => ⟨S16384x4x256, .f32⟩
  | 30 => ⟨S1x1x256, .f32⟩
  | 31 => ⟨S16384x4x256, .f32⟩
  | 32 => ⟨S16384x4x256, .f32⟩
  | 33 => ⟨S16384x4x256, .f32⟩
  | 34 => ⟨S16384x4x256, .f32⟩
  | 35 => ⟨S_, .f32⟩
  | 36 => ⟨S16384x4x256, .f32⟩
  | 37 => ⟨S16384x4x256, .f32⟩
  | 38 => ⟨S_, .f32⟩
  | 39 => ⟨S16384x4x256, .f32⟩
  | 40 => ⟨S16384x4x256, .f32⟩
  | 41 => ⟨S16384x4x256, .f32⟩
  | 42 => ⟨S16384x4x256, .f32⟩
  | 43 => ⟨S9x1x1024, .f32⟩
  | 44 => ⟨S9x1024, .f32⟩
  | 45 => ⟨S1x1024, .f32⟩
  | 46 => ⟨S8192x1024, .f32⟩
  | 47 => ⟨S8x1024, .f32⟩
  | 48 => ⟨S8x1x1024, .f32⟩
  | 49 => ⟨S8x1024x1024, .f32⟩
  | 50 => ⟨S8192x1024, .f32⟩
  | 51 => ⟨S16384x1024, .f32⟩
  | 52 => ⟨S16384x1024, .f32⟩
  | 53 => ⟨S1024x1024, .f32⟩
  | 54 => ⟨S16384x1024, .f32⟩
  | 55 => ⟨S16384x1024, .f32⟩
  | 56 => ⟨S16384x1024, .f32⟩
  | 57 => ⟨S1x1x1024x5632, .bf16⟩
  | 58 => ⟨S1024x5632, .bf16⟩
  | 59 => ⟨S1024x5632, .f32⟩
  | 60 => ⟨S1x1x2816x1024, .bf16⟩
  | 61 => ⟨S2816x1024, .bf16⟩
  | 62 => ⟨S2816x1024, .f32⟩
  | 63 => ⟨S16384x1024, .f32⟩
  | 64 => ⟨S_, .f32⟩
  | 65 => ⟨S16384, .f32⟩
  | 66 => ⟨S16384x1, .f32⟩
  | 67 => ⟨S_, .f32⟩
  | 68 => ⟨S16384x1, .f32⟩
  | 69 => ⟨S16384x1, .f32⟩
  | 70 => ⟨S_, .f32⟩
  | 71 => ⟨S16384x1, .f32⟩
  | 72 => ⟨S16384x1, .f32⟩
  | 73 => ⟨S16384x1, .f32⟩
  | 74 => ⟨S16384x1024, .f32⟩
  | 75 => ⟨S16384x1024, .f32⟩
  | 76 => ⟨S1x1024, .f32⟩
  | 77 => ⟨S16384x1024, .f32⟩
  | 78 => ⟨S16384x1024, .f32⟩
  | 79 => ⟨S9x1x1024, .f32⟩
  | 80 => ⟨S9x1024, .f32⟩
  | 81 => ⟨S1x1024, .f32⟩
  | 82 => ⟨S8192x1024, .f32⟩
  | 83 => ⟨S8x1024, .f32⟩
  | 84 => ⟨S8x1x1024, .f32⟩
  | 85 => ⟨S8x1024x1024, .f32⟩
  | 86 => ⟨S8192x1024, .f32⟩
  | 87 => ⟨S16384x1024, .f32⟩
  | 88 => ⟨S_, .f32⟩
  | 89 => ⟨S16384x1024, .f32⟩
  | 90 => ⟨S16384x1024, .f32⟩
  | 91 => ⟨S16384x1024, .f32⟩
  | 92 => ⟨S9x1x1024, .f32⟩
  | 93 => ⟨S9x1024, .f32⟩
  | 94 => ⟨S1x1024, .f32⟩
  | 95 => ⟨S8192x1024, .f32⟩
  | 96 => ⟨S8x1024, .f32⟩
  | 97 => ⟨S8x1x1024, .f32⟩
  | 98 => ⟨S8x1024x1024, .f32⟩
  | 99 => ⟨S8192x1024, .f32⟩
  | 100 => ⟨S16384x1024, .f32⟩
  | 101 => ⟨S16384x1024, .f32⟩
  | 102 => ⟨S16384x5632, .f32⟩
  | 103 => ⟨S16384x2816, .f32⟩
  | 104 => ⟨S16384x2816, .f32⟩
  | 105 => ⟨S9x1x1024, .f32⟩
  | 106 => ⟨S9x1024, .f32⟩
  | 107 => ⟨S1x1024, .f32⟩
  | 108 => ⟨S8192x1024, .f32⟩
  | 109 => ⟨S8x1024, .f32⟩
  | 110 => ⟨S8x1x1024, .f32⟩
  | 111 => ⟨S8x1024x1024, .f32⟩
  | 112 => ⟨S8192x1024, .f32⟩
  | 113 => ⟨S16384x1024, .f32⟩
  | 114 => ⟨S_, .f32⟩
  | 115 => ⟨S16384x1024, .f32⟩
  | 116 => ⟨S16384x1024, .f32⟩
  | 117 => ⟨S16384x2816, .f32⟩
  | 118 => ⟨S16384x2816, .f32⟩
  | 119 => ⟨S_, .f32⟩
  | 120 => ⟨S16384x2816, .f32⟩
  | 121 => ⟨S16384x2816, .f32⟩
  | 122 => ⟨S_, .f32⟩
  | 123 => ⟨S16384x2816, .f32⟩
  | 124 => ⟨S16384x2816, .f32⟩
  | 125 => ⟨S16384x2816, .f32⟩
  | 126 => ⟨S16384x2816, .f32⟩
  | 127 => ⟨S16384x1024, .f32⟩
  | _ => ⟨S16384x1024, .f32⟩

abbrev hbmTy0_1 (i : Nat) : BufTy := match i % 128 with
  | 0 => ⟨S16384x1024, .f32⟩
  | 1 => ⟨S16384x1024, .f32⟩
  | 2 => ⟨S16384x1024, .f32⟩
  | 3 => ⟨S_, .f32⟩
  | 4 => ⟨S16384, .f32⟩
  | 5 => ⟨S16384x1, .f32⟩
  | 6 => ⟨S_, .f32⟩
  | 7 => ⟨S16384x1, .f32⟩
  | 8 => ⟨S16384x1, .f32⟩
  | 9 => ⟨S_, .f32⟩
  | 10 => ⟨S16384x1, .f32⟩
  | 11 => ⟨S16384x1, .f32⟩
  | 12 => ⟨S16384x1, .f32⟩
  | 13 => ⟨S16384x1024, .f32⟩
  | 14 => ⟨S16384x1024, .f32⟩
  | 15 => ⟨S1x1024, .f32⟩
  | 16 => ⟨S16384x1024, .f32⟩
  | 17 => ⟨S16384x1024, .f32⟩
  | 18 => ⟨S8192x1024, .f32⟩
  | 19 => ⟨S8192x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_4 : Ref sig .tc := ⟨.hbm, 64, rfl⟩
abbrev main_v48 : Ref sig .tc := ⟨.hbm, 65, rfl⟩
abbrev main_v49 : Ref sig .tc := ⟨.hbm, 66, rfl⟩
abbrev main_cst_5 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_7 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_8 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_cst_9 : Ref sig .tc := ⟨.hbm, 119, rfl⟩
abbrev main_v98 : Ref sig .tc := ⟨.hbm, 120, rfl⟩
abbrev main_v99 : Ref sig .tc := ⟨.hbm, 121, rfl⟩
abbrev main_cst_10 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_cst_11 : Ref sig .tc := ⟨.hbm, 131, rfl⟩
abbrev main_v108 : Ref sig .tc := ⟨.hbm, 132, rfl⟩
abbrev main_v109 : Ref sig .tc := ⟨.hbm, 133, rfl⟩
abbrev main_cst_12 : Ref sig .tc := ⟨.hbm, 134, rfl⟩
abbrev main_v110 : Ref sig .tc := ⟨.hbm, 135, rfl⟩
abbrev main_v111 : Ref sig .tc := ⟨.hbm, 136, rfl⟩
abbrev main_cst_13 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩

abbrev nD : Nat := 1
abbrev τ : Topo := Topo.v7x

variable {F : FTy → Type} [FloatOps F]
-- ==== Kernel9.lean ====
abbrev S1024 : Shape := ⟨1, ![1024]⟩
abbrev S8x1024 : Shape := ⟨2, ![8, 1024]⟩
abbrev S2x1024x9216 : Shape := ⟨3, ![2, 1024, 9216]⟩
abbrev S2x9216 : Shape := ⟨2, ![2, 9216]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S2x1x9216 : Shape := ⟨3, ![2, 1, 9216]⟩
abbrev S2x16x9216 : Shape := ⟨3, ![2, 16, 9216]⟩
abbrev S1x1024x2304 : Shape := ⟨3, ![1, 1024, 2304]⟩
abbrev S1x1x2304 : Shape := ⟨3, ![1, 1, 2304]⟩
abbrev S1x16x2304 : Shape := ⟨3, ![1, 16, 2304]⟩
abbrev S1024x2304 : Shape := ⟨2, ![1024, 2304]⟩
abbrev S16x2304 : Shape := ⟨2, ![16, 2304]⟩
abbrev S1x2304 : Shape := ⟨2, ![1, 2304]⟩

abbrev nBuf : Space → Nat
  | .hbm => 10
  | .vmem => 7
  | .smem => 0
  | _ => 0

abbrev bufTy : (tb : Table) → Fin (tcTables nBuf tb) → BufTy
  | .hbm, ⟨0, _⟩ => ⟨S1024, .f32⟩
  | .hbm, ⟨1, _⟩ => ⟨S8x1024, .f32⟩
  | .hbm, ⟨2, _⟩ => ⟨S2x1024x9216, .f32⟩
  | .hbm, ⟨3, _⟩ => ⟨S2x9216, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S2x1x9216, .f32⟩
  | .hbm, ⟨9, _⟩ => ⟨S2x16x9216, .f32⟩
  | .local _ .vmem, ⟨0, _⟩ => ⟨S16x1024, .f32⟩
  | .local _ .vmem, ⟨1, _⟩ => ⟨S1x1024x2304, .f32⟩
  | .local _ .vmem, ⟨2, _⟩ => ⟨S1x1024x2304, .f32⟩
  | .local _ .vmem, ⟨3, _⟩ => ⟨S1x1x2304, .f32⟩
  | .local _ .vmem, ⟨4, _⟩ => ⟨S1x1x2304, .f32⟩
  | .local _ .vmem, ⟨5, _⟩ => ⟨S1x16x2304, .f32⟩
  | .local _ .vmem, ⟨6, _⟩ => ⟨S1x16x2304, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S1024 : Shape := ⟨1, ![1024]⟩
abbrev S8x1024 : Shape := ⟨2, ![8, 1024]⟩
abbrev S2x1024x9216 : Shape := ⟨3, ![2, 1024, 9216]⟩
abbrev S2x9216 : Shape := ⟨2, ![2, 9216]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1x1024x9216 : Shape := ⟨3, ![1, 1024, 9216]⟩
abbrev S1024x9216 : Shape := ⟨2, ![1024, 9216]⟩
abbrev S16x9216 : Shape := ⟨2, ![16, 9216]⟩
abbrev S1x9216 : Shape := ⟨2, ![1, 9216]⟩
abbrev S9216 : Shape := ⟨1, ![9216]⟩
abbrev S1x16x9216 : Shape := ⟨3, ![1, 16, 9216]⟩
abbrev S2x16x9216 : Shape := ⟨3, ![2, 16, 9216]⟩

abbrev nBuf : Space → Nat
  | .hbm => 36
  | .vmem => 0
  | .smem => 0
  | _ => 0

abbrev bufTy : (tb : Table) → Fin (tcTables nBuf tb) → BufTy
  | .hbm, ⟨0, _⟩ => ⟨S1024, .f32⟩
  | .hbm, ⟨1, _⟩ => ⟨S8x1024, .f32⟩
  | .hbm, ⟨2, _⟩ => ⟨S2x1024x9216, .f32⟩
  | .hbm, ⟨3, _⟩ => ⟨S2x9216, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S1x1024x9216, .f32⟩
  | .hbm, ⟨18, _⟩ => ⟨S1024x9216, .f32⟩
  | .hbm, ⟨19, _⟩ => ⟨S16x9216, .f32⟩
  | .hbm, ⟨20, _⟩ => ⟨S1x9216, .f32⟩
  | .hbm, ⟨21, _⟩ => ⟨S9216, .f32⟩
  | .hbm, ⟨22, _⟩ => ⟨S1x9216, .f32⟩
  | .hbm, ⟨23, _⟩ => ⟨S16x9216, .f32⟩
  | .hbm, ⟨24, _⟩ => ⟨S16x9216, .f32⟩
  | .hbm, ⟨25, _⟩ => ⟨S1x1024x9216, .f32⟩
  | .hbm, ⟨26, _⟩ => ⟨S1024x9216, .f32⟩
  | .hbm, ⟨27, _⟩ => ⟨S16x9216, .f32⟩
  | .hbm, ⟨28, _⟩ => ⟨S1x9216, .f32⟩
  | .hbm, ⟨29, _⟩ => ⟨S9216, .f32⟩
  | .hbm, ⟨30, _⟩ => ⟨S1x9216, .f32⟩
  | .hbm, ⟨31, _⟩ => ⟨S16x9216, .f32⟩
  | .hbm, ⟨32, _⟩ => ⟨S16x9216, .f32⟩
  | .hbm, ⟨33, _⟩ => ⟨S1x16x9216, .f32⟩
  | .hbm, ⟨34, _⟩ => ⟨S1x16x9216, .f32⟩
  | .hbm, ⟨35, _⟩ => ⟨S2x16x9216, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel10.lean ====
abbrev S16384x1536 : Shape := ⟨2, ![16384, 1536]⟩
abbrev S1x5x1536 : Shape := ⟨3, ![1, 5, 1536]⟩
abbrev S5x1536 : Shape := ⟨2, ![5, 1536]⟩
abbrev S8x1536 : Shape := ⟨2, ![8, 1536]⟩
abbrev S256x1536 : Shape := ⟨2, ![256, 1536]⟩
abbrev S8x128 : Shape := ⟨2, ![8, 128]⟩
abbrev S256x128 : Shape := ⟨2, ![256, 128]⟩
abbrev S272x128 : Shape := ⟨2, ![272, 128]⟩
abbrev S5x128 : Shape := ⟨2, ![5, 128]⟩
abbrev S1x128 : Shape := ⟨2, ![1, 128]⟩
abbrev S256 : Shape := ⟨1, ![256]⟩
abbrev S256x1 : Shape := ⟨2, ![256, 1]⟩

abbrev nBuf : Space → Nat
  | .hbm => 4
  | .vmem => 9
  | .smem => 0
  | _ => 0

abbrev bufTy : (tb : Table) → Fin (tcTables nBuf tb) → BufTy
  | .hbm, ⟨0, _⟩ => ⟨S16384x1536, .f32⟩
  | .hbm, ⟨1, _⟩ => ⟨S1x5x1536, .f32⟩
  | .hbm, ⟨2, _⟩ => ⟨S5x1536, .f32⟩
  | .hbm, ⟨3, _⟩ => ⟨S16384x1536, .f32⟩
  | .local _ .vmem, ⟨0, _⟩ => ⟨S8x1536, .f32⟩
  | .local _ .vmem, ⟨1, _⟩ => ⟨S8x1536, .f32⟩
  | .local _ .vmem, ⟨2, _⟩ => ⟨S256x1536, .f32⟩
  | .local _ .vmem, ⟨3, _⟩ => ⟨S256x1536, .f32⟩
  | .local _ .vmem, ⟨4, _⟩ => ⟨S8x1536, .f32⟩
  | .local _ .vmem, ⟨5, _⟩ => ⟨S8x1536, .f32⟩
  | .local _ .vmem, ⟨6, _⟩ => ⟨S5x1536, .f32⟩
  | .local _ .vmem, ⟨7, _⟩ => ⟨S256x1536, .f32⟩
  | .local _ .vmem, ⟨8, _⟩ => ⟨S256x1536, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S16384x1536 : Shape := ⟨2, ![16384, 1536]⟩
abbrev S1x5x1536 : Shape := ⟨3, ![1, 5, 1536]⟩
abbrev S5x1536 : Shape := ⟨2, ![5, 1536]⟩
abbrev S8192x1536 : Shape := ⟨2, ![8192, 1536]⟩
abbrev S_ : Shape := ⟨0, ![]⟩
abbrev S32x2x1536 : Shape := ⟨3, ![32, 2, 1536]⟩
abbrev S32x256x1536 : Shape := ⟨3, ![32, 256, 1536]⟩
abbrev S32x260x1536 : Shape := ⟨3, ![32, 260, 1536]⟩
abbrev S1x32x256x1536 : Shape := ⟨4, ![1, 32, 256, 1536]⟩
abbrev S5x32x256x1536 : Shape := ⟨4, ![5, 32, 256, 1536]⟩
abbrev S1536x32x256 : Shape := ⟨3, ![1536, 32, 256]⟩
abbrev S8x2x1536 : Shape := ⟨3, ![8, 2, 1536]⟩
abbrev S8x1024x1536 : Shape := ⟨3, ![8, 1024, 1536]⟩
abbrev S8x1028x1536 : Shape := ⟨3, ![8, 1028, 1536]⟩
abbrev S1x8x1024x1536 : Shape := ⟨4, ![1, 8, 1024, 1536]⟩
abbrev S5x8x1024x1536 : Shape := ⟨4, ![5, 8, 1024, 1536]⟩
abbrev S1536x8x1024 : Shape := ⟨3, ![1536, 8, 1024]⟩
abbrev S16384x3x4x128 : Shape := ⟨4, ![16384, 3, 4, 128]⟩
abbrev S16384x3x4 : Shape := ⟨3, ![16384, 3, 4]⟩
abbrev S16384x3x4x1 : Shape := ⟨4, ![16384, 3, 4, 1]⟩
abbrev S16384x1x4x128 : Shape := ⟨4, ![16384, 1, 4, 128]⟩
abbrev S16384x4x128 : Shape := ⟨3, ![16384, 4, 128]⟩
abbrev S16384x1x4x1 : Shape := ⟨4, ![16384, 1, 4, 1]⟩
abbrev S16384x4x1 : Shape := ⟨3, ![16384, 4, 1]⟩

abbrev nBuf : Space → Nat
  | .hbm => 82
  | .vmem => 0
  | .smem => 0
  | _ => 0

abbrev bufTy : (tb : Table) → Fin (tcTables nBuf tb) → BufTy
  | .hbm, ⟨0, _⟩ => ⟨S16384x1536, .f32⟩
  | .hbm, ⟨1, _⟩ => ⟨S1x5x1536, .f32⟩
  | .hbm, ⟨2, _⟩ => ⟨S5x1536, .f32⟩
  | .hbm, ⟨3, _⟩ => ⟨S8192x1536, .f32⟩
  | .hbm, ⟨4, _⟩ => ⟨S_, .f32⟩
  | .hbm, ⟨5, _⟩ => ⟨S32x2x1536, .f32⟩
  | .hbm, ⟨6, _⟩ => ⟨S32x256x1536, .f32⟩
  | .hbm, ⟨7, _⟩ => ⟨S32x260x1536, .f32⟩
  | .hbm, ⟨8, _⟩ => ⟨S32x256x1536, .f32⟩
  | .hbm, ⟨9, _⟩ => ⟨S32x256x1536, .f32⟩
  | .hbm, ⟨10, _⟩ => ⟨S32x256x1536, .f32⟩
  | .hbm, ⟨11, _⟩ => ⟨S32x256x1536, .f32⟩
  | .hbm, ⟨12, _⟩ => ⟨S32x256x1536, .f32⟩
  | .hbm, ⟨13, _⟩ => ⟨S1x32x256x1536, .f32⟩
  | .hbm, ⟨14, _⟩ => ⟨S1x32x256x1536, .f32⟩
  | .hbm, ⟨15, _⟩ => ⟨S1x32x256x1536, .f32⟩
  | .hbm, ⟨16, _⟩ => ⟨S1x32x256x1536, .f32⟩
  | .hbm, ⟨17, _⟩ => ⟨S1x32x256x1536, .f32⟩
  | .hbm, ⟨18, _⟩ => ⟨S5x32x256x1536, .f32⟩
  | .hbm, ⟨19, _⟩ => ⟨S1536x32x256, .f32⟩
  | .hbm, ⟨20, _⟩ => ⟨S32x256x1536, .f32⟩
  | .hbm, ⟨21, _⟩ => ⟨S8192x1536, .f32⟩
  | .hbm, ⟨22, _⟩ => ⟨S8192x1536, .f32⟩
  | .hbm, ⟨23, _⟩ => ⟨S_, .f32⟩
  | .hbm, ⟨24, _⟩ => ⟨S8x2x1536, .f32⟩
  | .hbm, ⟨25, _⟩ => ⟨S8x1024x1536, .f32⟩
  | .hbm, ⟨26, _⟩ => ⟨S8x1028x1536, .f32⟩
  | .hbm, ⟨27, _⟩ => ⟨S8x1024x1536, .f32⟩
  | .hbm, ⟨28, _⟩ => ⟨S8x1024x1536, .f32⟩
  | .hbm, ⟨29, _⟩ => ⟨S8x1024x1536, .f32⟩
  | .hbm, ⟨30, _⟩ => ⟨S8x1024x1536, .f32⟩
  | .hbm, ⟨31, _⟩ => ⟨S8x1024x1536, .f32⟩
  | .hbm, ⟨32, _⟩ => ⟨S1x8x1024x1536, .f32⟩
  | .hbm, ⟨33, _⟩ => ⟨S1x8x1024x1536, .f32⟩
  | .hbm, ⟨34, _⟩ => ⟨S1x8x1024x1536, .f32⟩
  | .hbm, ⟨35, _⟩ => ⟨S1x8x1024x1536, .f32⟩
  | .hbm, ⟨36, _⟩ => ⟨S1x8x1024x1536, .f32⟩
  | .hbm, ⟨37, _⟩ => ⟨S5x8x1024x1536, .f32⟩
  | .hbm, ⟨38, _⟩ => ⟨S1536x8x1024, .f32⟩
  | .hbm, ⟨39, _⟩ => ⟨S8x1024x1536, .f32⟩
  | .hbm, ⟨40, _⟩ => ⟨S8192x1536, .f32⟩
  | .hbm, ⟨41, _⟩ => ⟨S16384x1536, .f32⟩
  | .hbm, ⟨42, _⟩ => ⟨S16384x1536, .f32⟩
  | .hbm, ⟨43, _⟩ => ⟨S16384x1536, .f32⟩
  | .hbm, ⟨44, _⟩ => ⟨S_, .f32⟩
  | .hbm, ⟨45, _⟩ => ⟨S16384x1536, .f32⟩
  | .hbm, ⟨46, _⟩ => ⟨S16384x1536, .f32⟩
  | .hbm, ⟨47, _⟩ => ⟨S_, .f32⟩
  | .hbm, ⟨48, _⟩ => ⟨S16384x1536, .f32⟩
  | .hbm, ⟨49, _⟩ => ⟨S16384x1536, .f32⟩
  | .hbm, ⟨50, _⟩ => ⟨S16384x1536, .f32⟩
  | .hbm, ⟨51, _⟩ => ⟨S16384x3x4x128, .f32⟩
  | .hbm, ⟨52, _⟩ => ⟨S16384x3x4x128, .f32⟩
  | .hbm, ⟨53, _⟩ => ⟨S_, .f32⟩
  | .hbm, ⟨54, _⟩ => ⟨S16384x3x4, .f32⟩
  | .hbm, ⟨55, _⟩ => ⟨S16384x3x4x1, .f32⟩
  | .hbm, ⟨56, _⟩ => ⟨S_, .f32⟩
  | .hbm, ⟨57, _⟩ => ⟨S16384x3x4x1, .f32⟩
  | .hbm, ⟨58, _⟩ => ⟨S16384x3x4x1, .f32⟩
  | .hbm, ⟨59, _⟩ => ⟨S16384x3x4x1, .f32⟩
  | .hbm, ⟨60, _⟩ => ⟨S16384x1x4x128, .f32⟩
  | .hbm, ⟨61, _⟩ => ⟨S16384x4x128, .f32⟩
  | .hbm, ⟨62, _⟩ => ⟨S16384x1x4x1, .f32⟩
  | .hbm, ⟨63, _⟩ => ⟨S16384x4x1, .f32⟩
  | .hbm, ⟨64, _⟩ => ⟨S16384x4x128, .f32⟩
  | .hbm, ⟨65, _⟩ => ⟨S16384x4x128, .f32⟩
  | .hbm, ⟨66, _⟩ => ⟨S_, .f32⟩
  | .hbm, ⟨67, _⟩ => ⟨S16384x4x128, .f32⟩
  | .hbm, ⟨68, _⟩ => ⟨S16384x4x128, .f32⟩
  | .hbm, ⟨69, _⟩ => ⟨S16384x1x4x128, .f32⟩
  | .hbm, ⟨70, _⟩ => ⟨S16384x4x128, .f32⟩
  | .hbm, ⟨71, _⟩ => ⟨S16384x1x4x1, .f32⟩
  | .hbm, ⟨72, _⟩ => ⟨S16384x4x1, .f32⟩
  | .hbm, ⟨73, _⟩ => ⟨S16384x4x128, .f32⟩
  | .hbm, ⟨74, _⟩ => ⟨S16384x4x128, .f32⟩
  | .hbm, ⟨75, _⟩ => ⟨S16384x1x4x128, .f32⟩
  | .hbm, ⟨76, _⟩ => ⟨S16384x4x128, .f32⟩
  | .hbm, ⟨77, _⟩ => ⟨S16384x1x4x128, .f32⟩
  | .hbm, ⟨78, _⟩ => ⟨S16384x1x4x128, .f32⟩
  | .hbm, ⟨79, _⟩ => ⟨S16384x1x4x128, .f32⟩
  | .hbm, ⟨80, _⟩ => ⟨S16384x3x4x128, .f32⟩
  | .hbm, ⟨81, _⟩ => ⟨S16384x1536, .f32⟩
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_cst_1 : Ref sig .tc := ⟨.hbm, 44, rfl⟩
abbrev main_v40 : Ref sig .tc := ⟨.hbm, 45, rfl⟩
abbrev main_v41 : Ref sig .tc := ⟨.hbm, 46, rfl⟩
abbrev main_cst_2 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_cst_3 : Ref sig .tc := ⟨.hbm, 53, rfl⟩
abbrev main_v47 : Ref sig .tc := ⟨.hbm, 54, rfl⟩
abbrev main_v48 : Ref sig .tc := ⟨.hbm, 55, rfl⟩
abbrev main_cst_4 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_5 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩

abbrev nD : Nat := 1
abbrev τ : Topo := Topo.v7x

variable {F : FTy → Type} [FloatOps F]
-- ==== Proof.Scalars.lean ====
/- Facts about single extended reals that the value proofs share: the two spellings of the sigmoid, and a softmax with a
   sink term divided before or after its weighted sum. -/
module

public import Idealize.ShloMosaic.Lib.Pointwise
public import Idealize.ShloMosaic.Init

@[expose] public section

noncomputable section

namespace Cert.Scalars

open Idealize.ShloMosaic

/-- The word `0x3F000000` denotes one half. -/
theorem half_word : Ideal.ofBits .f32 0x3F000000#32 = ((1 / 2 : ℝ) : EReal) := by
  simp [Ideal.ofBits, Ideal.ieee]
  rw [← EReal.coe_mul]
  norm_num

/-- The word `0xFF800000` denotes minus infinity. -/
theorem neg_inf_word : Ideal.ofBits .f32 0xFF800000#32 = ⊥ := by
  simp [Ideal.ofBits, Ideal.ieee]

/-- `½ tanh (x/2) + ½` is the logistic function, at the infinities too. -/
theorem half_tanh (x : EReal) :
    Ideal.ofBits .f32 0x3F000000#32 * Ideal.tanh (Ideal.ofBits .f32 0x3F000000#32 * x) + Ideal.ofBits .f32 0x3F000000#32
      = Ideal.logistic x := by
  rw [half_word]
  induction x with
  | bot =>
    rw [EReal.coe_mul_bot_of_pos (by norm_num), Ideal.logistic_bot]
    show ((1 / 2 : ℝ) : EReal) * (-1 : EReal) + _ = 0
    rw [show (-1 : EReal) = ((-1 : ℝ) : EReal) by simp, ← EReal.coe_mul, ← EReal.coe_add]
    norm_num
  | top =>
    rw [EReal.coe_mul_top_of_pos (by norm_num), Ideal.logistic_top]
    show ((1 / 2 : ℝ) : EReal) * (1 : EReal) + _ = 1
    rw [mul_one, ← EReal.coe_add]
    norm_num
  | coe r =>
    rw [Ideal.logistic_coe, ← EReal.coe_mul]
    show ((1 / 2 : ℝ) : EReal) * ((Real.tanh (1 / 2 * r) : ℝ) : EReal) + _ = _
    rw [← EReal.coe_mul, ← EReal.coe_add]
    congr 1
    rw [Real.tanh_eq_sinh_div_cosh, Real.sinh_eq, Real.cosh_eq]
    have h1 : Real.exp (1 / 2 * r) = Real.exp (-(1 / 2 * r)) * Real.exp r := by
      rw [← Real.exp_add]; congr 1; ring
    have h2 : Real.exp (-r) = (Real.exp r)⁻¹ := Real.exp_neg r
    rw [h1, h2]
    have hp := Real.exp_pos r
    have hq := Real.exp_pos (-(1 / 2 * r))
    field_simp
    ring

/-- A product with one fixed factor that is a nonnegative real distributes over a finite sum. -/
theorem sum_mul_coe {n : ℕ} (f : Fin n → EReal) (r : ℝ) (hr : 0 ≤ r) :
    (∑ k, f k) * (r : EReal) = ∑ k, f k * (r : EReal) := by
  classical
  induction (Finset.univ : Finset (Fin n)) using Finset.induction_on with
  | empty => simp
  | insert a s ha ih =>
    rw [Finset.sum_insert ha, Finset.sum_insert ha, ← ih]
    exact EReal.right_distrib_of_nonneg_of_ne_top (by exact_mod_cast hr) (EReal.coe_ne_top r) _ _

end Cert.Scalars
-- ==== Proof.Ctx.lean ====
/- The attention of the context queries over their keys and values, with a sink score per head: what the kernel leaves at every
   index of its result. -/
module

public import proofs.«01_k».proof.Proof.Gen.KernelIdeal.Value
public import proofs.«01_k».proof.Proof.Gen.ReferenceIdeal.Run
public import proofs.«01_k».proof.Proof.Scalars
public import Idealize.ShloMosaic.Lib.Pipeline.ValueKit
public import Idealize.ShloMosaic.Lib.Pointwise

@[expose] public section

set_option maxRecDepth 16384

noncomputable section

namespace Cert.CtxProof

open Idealize.ShloMosaic Idealize.ShloMosaic.TcCoe Idealize.SL.Sem
open Idealize.ShloMosaic.Pipeline (Dat)

/-- One entry of one head's attention output: the weighted sum of the values over the weights' sum and the sink's weight. -/
def headOut {n : ℕ} (b sk : EReal) (s v : Fin n → EReal) : EReal :=
  Ideal.div (∑ k, Ideal.exp (s k - max (Finset.fold max b s Finset.univ) sk) * v k)
    (∑ k, Ideal.exp (s k - max (Finset.fold max b s Finset.univ) sk) + Ideal.exp (sk - max (Finset.fold max b s Finset.univ) sk))

theorem headOut_congr {n : ℕ} {b sk sk' : EReal} {s s' v v' : Fin n → EReal} (hsk : sk = sk') (hs : ∀ k, s k = s' k)
    (hv : ∀ k, v k = v' k) : headOut b sk s v = headOut b sk' s' v' := by
  rw [hsk, funext hs, funext hv]

/-- The attention of every prompt sequence of 256 tokens, four query heads on two key heads, by array index. -/
def G (S : FVec Ideal Cert.KernelIdeal.S4 .f32) (Q : FVec Ideal Cert.KernelIdeal.S16384x512 .f32)
    (K V : FVec Ideal Cert.KernelIdeal.S16384x256 .f32) : FVec Ideal Cert.KernelIdeal.S8192x512 .bf16 := fun i =>
  have h0 : (i 0).val < 8192 := (i 0).isLt
  have h1 : (i 1).val < 512 := (i 1).isLt
  headOut (Ideal.ofBits .f32 0xFF800000#32) (S (ix1 ⟨(i 1).val / 128, by omega⟩))
    (fun k : Fin 256 => ∑ e : Fin 128, Q (ix2 ⟨(i 0).val, by omega⟩ ⟨(i 1).val / 128 * 128 + e.val, by omega⟩)
      * Ideal.ofBits .f32 0x3DB504F3#32 * K (ix2 ⟨(i 0).val / 256 * 256 + k.val, by omega⟩ ⟨(i 1).val / 256 * 128 + e.val, by omega⟩))
    (fun k : Fin 256 => V (ix2 ⟨(i 0).val / 256 * 256 + k.val, by omega⟩ ⟨(i 1).val / 256 * 128 + (i 1).val % 128, by omega⟩))

section
open Cert.KernelIdeal Cert.KernelIdeal.Gen
variable (m : (ℓ : Loc nD τ sig) → Buf (Elt Ideal) ℓ)

theorem idx : ∀ t : Fin cfg0.N, win0_0.index t = ![0] ∧ win0_1.index t = ![t.val, 0] ∧ win0_2.index t = ![t.val, 0] ∧ win0_3.index t = ![t.val, 0]
    ∧ win0_4.index t = ![t.val, 0] :=
  (by decide +kernel : ∀ t : Fin grid0.N, _)

theorem final (c : Dev nD) : (dats m 0 c).arrAt 4 cfg0.N = G (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4]
  unfold outsAt0
  frame_out
  canon_tiles x h
  all_goals
    open_payloads
    pointwise [G]
    refine headOut_congr (b := Ideal.ofBits .f32 0xFF800000#32) ?_ (fun k => Fin.sum_fin_congr fun e => ?_) (fun k => ?_)
    all_goals blk_point [iblk, V, idx t]
end

end Cert.CtxProof
-- ==== Proof.RefCtx.lean ====
/- The plain attention of the context queries, read at every index of its result. -/
module

public import proofs.«01_k».proof.Proof.Gen.ReferenceIdeal.Run
public import proofs.«01_k».proof.Proof.Scalars
public import Idealize.ShloMosaic.Lib.Pipeline.ValueKit
public import Idealize.ShloMosaic.Lib.Pointwise

@[expose] public section

set_option maxRecDepth 16384

noncomputable section

namespace Cert.RefCtx

open Idealize.ShloMosaic Idealize.ShloMosaic.TcCoe Idealize.SL.Sem
open Cert.ReferenceIdeal Cert.ReferenceIdeal.Gen Cert.ReferenceIdeal.Value

/-- The reference's scores. -/
def SC (Q : FVec Ideal S16384x512 .f32) (K : FVec Ideal S16384x256 .f32) : FVec Ideal S32x2x2x256x256 .f32 :=
  transpose S32x2x2x256x256 [0, 1, 4, 3, 2] (Host.dotGeneral dot_S32x256x2x128_S32x256x2x2x128_S32x2x256x256x2_3_4_1_13_02_02 none (shapeCast _ (extractStridedSlice S8192x256 ![0, 0] K slices_S16384x256_S8192x256_0_0) shapeCasts_S8192x256_S32x256x2x128) (shapeCast _ (mulf (extractStridedSlice S8192x512 ![0, 0] Q slices_S16384x512_S8192x512_0_0) (broadcastInDim S8192x512 ![] bcast_S_S8192x512 (constant S_ .f32 0x3DB504F3#32))) shapeCasts_S8192x512_S32x256x2x2x128)) transposes_S32x2x256x256x2_S32x2x2x256x256_0_1_4_3_2

/-- The sinks, one per query. -/
def SK (S : FVec Ideal S4 .f32) : FVec Ideal S32x2x2x256x1 .f32 :=
  broadcastInDim S32x2x2x256x1 ![0, 1, 2, 3, 4] bcast_S1x2x2x1x1_S32x2x2x256x1_0_1_2_3_4 (broadcastInDim S1x2x2x1x1 ![1, 2] bcast_S2x2_S1x2x2x1x1_1_2 (shapeCast _ S shapeCasts_S4_S2x2))

/-- The maximum of a row's scores and its sink. -/
def MX (S : FVec Ideal S4 .f32) (Q : FVec Ideal S16384x512 .f32) (K : FVec Ideal S16384x256 .f32) : FVec Ideal S32x2x2x256x1 .f32 :=
  maximumf (broadcastInDim S32x2x2x256x1 ![0, 1, 2, 3] bcast_S32x2x2x256_S32x2x2x256x1_0_1_2_3 (Host.reduce FloatOps.maximumf (SC Q K) (constant S_ .f32 0xFF800000#32) reducesTo_S32x2x2x256x256_S32x2x2x256_d4 h_S_)) (SK S)

/-- The scores' weights. -/
def EX (S : FVec Ideal S4 .f32) (Q : FVec Ideal S16384x512 .f32) (K : FVec Ideal S16384x256 .f32) : FVec Ideal S32x2x2x256x256 .f32 :=
  Host.exp (subf (SC Q K) (broadcastInDim S32x2x2x256x256 ![0, 1, 2, 3, 4] bcast_S32x2x2x256x1_S32x2x2x256x256_0_1_2_3_4 (MX S Q K)))

/-- The weights' sum with the sink's weight. -/
def DN (S : FVec Ideal S4 .f32) (Q : FVec Ideal S16384x512 .f32) (K : FVec Ideal S16384x256 .f32) : FVec Ideal S32x2x2x256x1 .f32 :=
  addf (broadcastInDim S32x2x2x256x1 ![0, 1, 2, 3] bcast_S32x2x2x256_S32x2x2x256x1_0_1_2_3 (Host.reduceAdd (EX S Q K) (constant S_ .f32 0x00000000#32) reducesTo_S32x2x2x256x256_S32x2x2x256_d4 h_S_)) (Host.exp (subf (SK S) (MX S Q K)))

/-- The reference's result by its vectors. -/
def REF (S : FVec Ideal S4 .f32) (Q : FVec Ideal S16384x512 .f32) (K : FVec Ideal S16384x256 .f32) (V : FVec Ideal S16384x256 .f32) : FVec Ideal S8192x512 .bf16 :=
  truncf .bf16 (shapeCast _ (transpose S32x256x2x2x128 [0, 4, 1, 3, 2] (Host.dotGeneral dot_S32x256x2x128_S32x2x2x256x256_S32x2x128x2x256_1_4_3_23_02_01 none (shapeCast _ (extractStridedSlice S8192x256 ![0, 0] V slices_S16384x256_S8192x256_0_0) shapeCasts_S8192x256_S32x256x2x128) (Host.divf (EX S Q K) (broadcastInDim S32x2x2x256x256 ![0, 1, 2, 3, 4] bcast_S32x2x2x256x1_S32x2x2x256x256_0_1_2_3_4 (DN S Q K)))) transposes_S32x2x128x2x256_S32x256x2x2x128_0_4_1_3_2) shapeCasts_S32x256x2x2x128_S8192x512) bitsLt_bf16_f32

theorem rowmax_at (X : FVec Ideal S32x2x2x256x256 .f32) (j) :
    Host.reduce FloatOps.maximumf X (constant S_ .f32 0xFF800000#32) reducesTo_S32x2x2x256x256_S32x2x2x256_d4 h_S_ j
      = Finset.fold max (Ideal.ofBits .f32 0xFF800000#32) (fun x => X (ix5 (j 0) (j 1) (j 2) (j 3) x)) Finset.univ := by
  pointwise

theorem sinkmax_at (M : FVec Ideal S32x2x2x256 .f32) (S : FVec Ideal S4 .f32) (j) :
    maximumf (broadcastInDim S32x2x2x256x1 ![0, 1, 2, 3] bcast_S32x2x2x256_S32x2x2x256x1_0_1_2_3 M) (SK S) j
      = max (M (ix4 (j 0) (j 1) (j 2) (j 3)))
        (S (ix1 ⟨(j 1).val * 2 + (j 2).val, by have h1 : (j 1).val < 2 := (j 1).isLt; have h2 : (j 2).val < 2 := (j 2).isLt; omega⟩)) := by
  unfold SK
  pointwise

theorem mx_at (S : FVec Ideal S4 .f32) (Q : FVec Ideal S16384x512 .f32) (K : FVec Ideal S16384x256 .f32) (j) :
    MX S Q K j = max (Finset.fold max (Ideal.ofBits .f32 0xFF800000#32) (fun x => SC Q K (ix5 (j 0) (j 1) (j 2) (j 3) x)) Finset.univ)
        (S (ix1 ⟨(j 1).val * 2 + (j 2).val, by have h1 : (j 1).val < 2 := (j 1).isLt; have h2 : (j 2).val < 2 := (j 2).isLt; omega⟩)) :=
  (sinkmax_at _ S j).trans (by rw [rowmax_at]; rfl)

theorem ex_at (S : FVec Ideal S4 .f32) (Q : FVec Ideal S16384x512 .f32) (K : FVec Ideal S16384x256 .f32) (j) :
    EX S Q K j = Ideal.exp (SC Q K j - MX S Q K (ix5 (j 0) (j 1) (j 2) (j 3) 0)) := by
  unfold EX
  pointwise

theorem dn_at (S : FVec Ideal S4 .f32) (Q : FVec Ideal S16384x512 .f32) (K : FVec Ideal S16384x256 .f32) (j) :
    DN S Q K j = ∑ x, EX S Q K (ix5 (j 0) (j 1) (j 2) (j 3) x)
      + Ideal.exp (S (ix1 ⟨(j 1).val * 2 + (j 2).val, by have h1 : (j 1).val < 2 := (j 1).isLt; have h2 : (j 2).val < 2 := (j 2).isLt; omega⟩) - MX S Q K j) := by
  unfold DN SK
  pointwise

/-- The result at an index: the values, each weighted by its quotient. -/
theorem ref_at (S : FVec Ideal S4 .f32) (Q : FVec Ideal S16384x512 .f32) (K : FVec Ideal S16384x256 .f32) (V : FVec Ideal S16384x256 .f32)
    (j : S8192x512.Idx) (h0 : (j 0).val < 8192) (h1 : (j 1).val < 512) :
    REF S Q K V j = ∑ x : Fin 256, V (ix2 ⟨(j 0).val / 256 * 256 + x.val, by omega⟩ ⟨(j 1).val / 256 * 128 + (j 1).val % 128, by omega⟩)
      * Ideal.div (EX S Q K (ix5 ⟨(j 0).val / 256, by omega⟩ ⟨(j 1).val / 256, by omega⟩ ⟨(j 1).val / 128 % 2, by omega⟩ ⟨(j 0).val % 256, by omega⟩ x))
        (DN S Q K (ix5 ⟨(j 0).val / 256, by omega⟩ ⟨(j 1).val / 256, by omega⟩ ⟨(j 1).val / 128 % 2, by omega⟩ ⟨(j 0).val % 256, by omega⟩ 0)) := by
  unfold REF
  pointwise

theorem sc_at (Q : FVec Ideal S16384x512 .f32) (K : FVec Ideal S16384x256 .f32) (a : Fin 32) (b c : Fin 2) (d x : Fin 256) :
    SC Q K (ix5 a b c d x) = ∑ e : Fin 128, Q (ix2 ⟨a.val * 256 + d.val, by omega⟩ ⟨b.val * 256 + c.val * 128 + e.val, by omega⟩)
      * Ideal.ofBits .f32 0x3DB504F3#32 * K (ix2 ⟨a.val * 256 + x.val, by omega⟩ ⟨b.val * 128 + e.val, by omega⟩) := by
  unfold SC
  pointwise
  exact Finset.sum_congr rfl fun x _ => mul_comm _ _

theorem coe_sum {n : ℕ} (f : Fin n → ℝ) : ((∑ i, f i : ℝ) : EReal) = ∑ i, (f i : EReal) := by
  classical
  induction (Finset.univ : Finset (Fin n)) using Finset.induction_on with
  | empty => simp
  | insert a t ha ih => rw [Finset.sum_insert ha, Finset.sum_insert ha, EReal.coe_add, ih]

/-- The greatest of finitely many reals and one more real is a real. -/
theorem max_real {n : ℕ} (s : Fin n → ℝ) (k : ℝ) : ∃ r : ℝ, max (Finset.fold max ⊥ (fun i => (s i : EReal)) Finset.univ) (k : EReal) = r := by
  classical
  induction (Finset.univ : Finset (Fin n)) using Finset.induction_on with
  | empty => exact ⟨k, by simp⟩
  | insert a t ha ih =>
    obtain ⟨r, hr⟩ := ih
    refine ⟨max (s a) r, ?_⟩
    rw [Finset.fold_insert ha, max_assoc, hr]
    exact (EReal.coe_strictMono.monotone.map_max).symm

/-- Dividing every weight by the weights' sum is dividing the weighted sum, for real scores and a real sink. -/
theorem head_eq {n : ℕ} (s : Fin n → ℝ) (k : ℝ) (v : Fin n → EReal) :
    ∑ x, v x * Ideal.div (Ideal.exp ((s x : EReal) - max (Finset.fold max ⊥ (fun i => (s i : EReal)) Finset.univ) (k : EReal)))
        (∑ y, Ideal.exp ((s y : EReal) - max (Finset.fold max ⊥ (fun i => (s i : EReal)) Finset.univ) (k : EReal))
          + Ideal.exp ((k : EReal) - max (Finset.fold max ⊥ (fun i => (s i : EReal)) Finset.univ) (k : EReal)))
      = Ideal.div (∑ x, Ideal.exp ((s x : EReal) - max (Finset.fold max ⊥ (fun i => (s i : EReal)) Finset.univ) (k : EReal)) * v x)
        (∑ y, Ideal.exp ((s y : EReal) - max (Finset.fold max ⊥ (fun i => (s i : EReal)) Finset.univ) (k : EReal))
          + Ideal.exp ((k : EReal) - max (Finset.fold max ⊥ (fun i => (s i : EReal)) Finset.univ) (k : EReal))) := by
  obtain ⟨r, hr⟩ := max_real s k
  rw [hr]
  have hd : (∑ y, Ideal.exp ((s y : EReal) - r) + Ideal.exp ((k : EReal) - r)) = ((∑ y, Real.exp (s y - r) + Real.exp (k - r) : ℝ) : EReal) := by
    rw [EReal.coe_add, coe_sum]
    rfl
  have hp : 0 < ∑ y, Real.exp (s y - r) + Real.exp (k - r) :=
    add_pos_of_nonneg_of_pos (Finset.sum_nonneg fun y _ => (Real.exp_pos _).le) (Real.exp_pos _)
  rw [hd, Ideal.div_coe hp.ne', Cert.Scalars.sum_mul_coe _ _ (by positivity)]
  refine Finset.sum_congr rfl fun x _ => ?_
  rw [Ideal.div_coe hp.ne', mul_comm (Ideal.exp _) (v x), mul_assoc]

/-- A finite sum of products of reals is a real. -/
theorem dot_real {n : ℕ} (a b : Fin n → ℝ) (c : ℝ) : ∑ e, (a e : EReal) * (c : EReal) * (b e : EReal) = ((∑ e, a e * c * b e : ℝ) : EReal) := by
  rw [coe_sum]
  exact Finset.sum_congr rfl fun e _ => by rw [EReal.coe_mul, EReal.coe_mul]

theorem scale_word : ∃ c : ℝ, Ideal.ofBits .f32 0x3DB504F3#32 = (c : EReal) := ⟨_, rfl⟩

end Cert.RefCtx
-- ==== Proof.Fin.lean ====
/- From the precondition, that the scores' ingredients are finite, to real numbers at every index. -/
module

public import proofs.«01_k».proof.Pre_finite
public import proofs.«01_k».proof.Proof.Scalars
public import Idealize.ShloMosaic.Lib.ReduceAll
public import Idealize.ShloMosaic.Lib.Pointwise

@[expose] public section

set_option maxRecDepth 16384

noncomputable section

namespace Cert.Finite

open Idealize.ShloMosaic

theorem inf_word : Ideal.ofBits .f32 0x7F800000#32 = (⊤ : EReal) := by
  simp [Ideal.ofBits, Ideal.ieee]

/-- A number whose absolute value is below the infinite word is a real. -/
theorem real_of_lt {s : Shape} (x : FVec Ideal s .f32) (y : FVec Ideal s .f32) (i : s.Idx) (hy : y i = Ideal.ofBits .f32 0x7F800000#32)
    (h : cmpf .olt (Host.absf x) y i = 1#1) : ∃ r : ℝ, x i = (r : EReal) := by
  have h' : Ideal.cmp .olt (max (x i) (-x i)) (y i) = 1#1 := h
  rw [hy, inf_word] at h'
  have h2 : max (x i) (-x i) < ⊤ := by
    by_contra hn
    simp [Ideal.cmp, hn] at h'
  obtain ⟨h3, h4⟩ := max_lt_iff.1 h2
  generalize (x i : EReal) = z at h3 h4 ⊢
  change ∃ r : ℝ, (z : EReal) = _
  induction (z : EReal) using EReal.rec with
  | bot => simp at h4
  | top => simp at h3
  | coe r => exact ⟨r, rfl⟩

theorem and_one (a b : BitVec 1) (h : a &&& b = 1#1) : a = 1#1 ∧ b = 1#1 := by
  revert a b
  decide

/-- The shapes the precondition's operations take fit. -/
theorem facts : Cert.Pre_finite.Facts where
  bcast_S_S4 := by decide
  reducesTo_S4_S_d0 := by decide
  h_S_ := by decide
  slices_S16384x512_S8192x512_0_0 := by decide
  bcast_S_S8192x512 := by decide
  reducesTo_S8192x512_S_d0_1 := by decide
  slices_S16384x256_S8192x256_0_0 := by decide
  bcast_S_S8192x256 := by decide
  reducesTo_S8192x256_S_d0_1 := by decide

/-- The sinks are real, and so are the prompt rows of the queries and the keys. -/
theorem reals [Cert.Pre_finite.Facts] (S Q K V)
    (h : Cert.Pre_finite.fn (F := Ideal) S Q K V = fun _ => 1#1) :
    (∀ i, ∃ r : ℝ, S i = (r : EReal)) ∧ (∀ (a : Fin 16384) (b : Fin 512), a.val < 8192 → ∃ r : ℝ, Q (ix2 a b) = (r : EReal))
      ∧ (∀ (a : Fin 16384) (b : Fin 256), a.val < 8192 → ∃ r : ℝ, K (ix2 a b) = (r : EReal)) := by
  have h := congrFun h ix0
  dsimp only [Cert.Pre_finite.fn] at h
  obtain ⟨h3, h4⟩ := and_one _ _ h
  obtain ⟨h5, h6⟩ := and_one _ _ h3
  haveI : Subsingleton Cert.Pre_finite.S_.Idx := ⟨fun a b => funext fun k => k.elim0⟩
  refine ⟨fun i => real_of_lt S _ i rfl (Host.reduce_andi_all _ _ _ _ _ h5 i), fun a b ha => ?_, fun a b ha => ?_⟩
  · obtain ⟨r, hr⟩ := real_of_lt _ _ (ix2 (⟨a.val, ha⟩ : Fin 8192) b) rfl (Host.reduce_andi_all _ _ _ _ _ h6 (ix2 ⟨a.val, ha⟩ b))
    refine ⟨r, Eq.trans ?_ hr⟩
    pointwise
  · obtain ⟨r, hr⟩ := real_of_lt _ _ (ix2 (⟨a.val, ha⟩ : Fin 8192) b) rfl (Host.reduce_andi_all _ _ _ _ _ h4 (ix2 ⟨a.val, ha⟩ b))
    refine ⟨r, Eq.trans ?_ hr⟩
    pointwise

end Cert.Finite
-- ==== Proof.CtxClaim.lean ====
/- The context attention's two programs give one array: the values weighted and summed before the division, or after it. -/
module

public import proofs.«01_k».proof.Defs
public import proofs.«01_k».proof.Proof.Ctx
public import proofs.«01_k».proof.Proof.RefCtx
public import proofs.«01_k».proof.Proof.Fin

@[expose] public section

set_option maxRecDepth 16384

noncomputable section

namespace Cert.CtxProof

open Idealize.ShloMosaic Idealize.ShloMosaic.TcCoe Idealize.SL.Sem

section
open Cert.ReferenceIdeal Cert.ReferenceIdeal.Gen Cert.ReferenceIdeal.Value Cert.RefCtx

/-- A row's quotient form is its weighted sum over the sum of the weights, when the scores and the sink are real. -/
theorem quotients_eq {n : ℕ} (A v : Fin n → EReal) (k : EReal) (hA : ∀ x, ∃ r : ℝ, A x = (r : EReal)) (hk : ∃ r : ℝ, k = (r : EReal)) :
    ∑ x, v x * Ideal.div (Ideal.exp (A x - max (Finset.fold max (Ideal.ofBits .f32 0xFF800000#32) A Finset.univ) k))
        (∑ y, Ideal.exp (A y - max (Finset.fold max (Ideal.ofBits .f32 0xFF800000#32) A Finset.univ) k)
          + Ideal.exp (k - max (Finset.fold max (Ideal.ofBits .f32 0xFF800000#32) A Finset.univ) k))
      = headOut (Ideal.ofBits .f32 0xFF800000#32) k A v := by
  choose s hs using hA
  obtain ⟨r, rfl⟩ := hk
  obtain rfl : A = fun x => (s x : EReal) := funext hs
  rw [Cert.Scalars.neg_inf_word]
  exact head_eq s r v

/-- A scaled product of rows of reals is a real. -/
theorem scaled_real {n : ℕ} (a b : Fin n → EReal) (c : ℝ) (ha : ∀ e, ∃ r : ℝ, a e = (r : EReal)) (hb : ∀ e, ∃ r : ℝ, b e = (r : EReal)) :
    ∃ r : ℝ, ∑ e, a e * (c : EReal) * b e = (r : EReal) := by
  choose p hp using ha
  choose q hq using hb
  simp only [hp, hq]
  exact ⟨_, dot_real _ _ _⟩

theorem ref_eq (S : FVec Ideal S4 .f32) (Q : FVec Ideal S16384x512 .f32) (K V : FVec Ideal S16384x256 .f32)
    (hS : ∀ i, ∃ r : ℝ, S i = (r : EReal)) (hQ : ∀ (a : Fin 16384) (b : Fin 512), a.val < 8192 → ∃ r : ℝ, Q (ix2 a b) = (r : EReal))
    (hK : ∀ (a : Fin 16384) (b : Fin 256), a.val < 8192 → ∃ r : ℝ, K (ix2 a b) = (r : EReal)) :
    REF S Q K V = G S Q K V := by
  funext i
  have h0 : (i 0).val < 8192 := (i 0).isLt
  have h1 : (i 1).val < 512 := (i 1).isLt
  rw [ref_at S Q K V i h0 h1]
  simp only [ex_at, dn_at, mx_at]
  refine (quotients_eq (fun x => SC Q K (ix5 ⟨(i 0).val / 256, by omega⟩ ⟨(i 1).val / 256, by omega⟩ ⟨(i 1).val / 128 % 2, by omega⟩ ⟨(i 0).val % 256, by omega⟩ x))
    _ (S (ix1 ⟨(i 1).val / 256 * 2 + (i 1).val / 128 % 2, by omega⟩)) (fun x => ?_) (hS _)).trans ?_
  · obtain ⟨c, hc⟩ := scale_word
    dsimp only
    rw [sc_at, hc]
    refine scaled_real _ _ c (fun e => hQ _ _ ?_) (fun e => hK _ _ ?_)
    all_goals
      dsimp only
      omega
  · unfold G
    refine headOut_congr ?_ (fun x => ?_) (fun x => rfl)
    · exact congrArg S (congrArg ix1 (Fin.ext (by dsimp only; omega)))
    · rw [sc_at]
      refine Finset.sum_congr rfl fun e _ => congrArg₂ (· * ·) (congrArg (fun j => Q j * _) (congrArg₂ ix2 (Fin.ext ?_) (Fin.ext ?_))) rfl
      all_goals
        dsimp only
        omega

theorem res_eq (m : (ℓ : Loc nD τ sig) → Buf (Elt Ideal) ℓ) (c : Dev nD) :
    res_out0 m c = REF (m ((c.tc : Thread nD τ).loc main_arg0)) (m ((c.tc : Thread nD τ).loc main_arg1))
      (m ((c.tc : Thread nD τ).loc main_arg2)) (m ((c.tc : Thread nD τ).loc main_arg3)) := rfl
end

/-- The two programs' results are one array. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hargs
  refine ⟨fun c => G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run _ _ _).mono (fun r h c => ⟨(h c).1.trans (final m c), (h c).2⟩) (Cert.KernelIdeal.Value.run_blocks m g)
  · refine (θ_run _ _ _).mono (fun r h c => ⟨?_, (h c).2⟩) (Cert.ReferenceIdeal.Value.run m' g')
    obtain ⟨e0, e1, e2, e3⟩ := hargs c
    haveI := Cert.Finite.facts
    obtain ⟨hS, hQ, hK⟩ := Cert.Finite.reals (h := hpre c)
    show _ = G _ _ _ _
    rw [(h c).1, ← ref_eq _ _ _ _ hS hQ hK, ← e0, ← e1, ← e2, ← e3]
    exact res_eq m' c

end Cert.CtxProof
-- ==== Proof.Ffn.lean ====
/- The half-step feed-forward of one block of rows: the eleven chunks of the hidden dimension put together again. -/
module

public import proofs.«01_k».proof.Proof.Gen.Kernel4Ideal.Frame
public import proofs.«01_k».proof.Proof.Scalars
public import Idealize.ShloMosaic.Lib.Pipeline.ValueKit
public import Idealize.ShloMosaic.Lib.Pointwise

@[expose] public section

set_option maxRecDepth 16384

noncomputable section

namespace Cert.Ffn

open Idealize.ShloMosaic Idealize.ShloMosaic.TcCoe Idealize.SL.Sem
open Cert.Kernel4Ideal Cert.Kernel4Ideal.Gen

/-- The gated activation as the kernel writes it: the sigmoid through the hyperbolic tangent. -/
def swi (g u : EReal) : EReal :=
  g * (Ideal.ofBits .f32 0x3F000000#32 * Ideal.tanh (Ideal.ofBits .f32 0x3F000000#32 * g) + Ideal.ofBits .f32 0x3F000000#32) * u

/-- 256 hidden units of a block of 512 rows. -/
def chunk (h : FVec Ideal S512x1024 .f32) (wg wu : FVec Ideal S1x1x1024x256 .f32) : FVec Ideal S512x256 .f32 := k0_pay8 h wg wu

theorem chunk_at (h : FVec Ideal S512x1024 .f32) (wg wu : FVec Ideal S1x1x1024x256 .f32) (j : S512x256.Idx) :
    chunk h wg wu j = swi (∑ k : Fin 1024, h (ix2 (j 0) k) * wg (ix4 0 0 k (j 1))) (∑ k : Fin 1024, h (ix2 (j 0) k) * wu (ix4 0 0 k (j 1))) := by
  pointwise [chunk, k0_pay8, swi]

/-- The normalised and modulated rows. -/
def modn (x g sc sh : Fin 1024 → EReal) (d : Fin 1024) : EReal :=
  x d * Ideal.rsqrt (Ideal.div (∑ k, x k * x k) (Ideal.ofBits .f32 0x44800000#32) + Ideal.ofBits .f32 0x358637BD#32) * g d
    * (Ideal.ofBits .f32 0x3F800000#32 + sc d) + sh d

theorem pay3_at (M : FVec Ideal S1x9x1024 .f32) (X : FVec Ideal S512x1024 .f32) (g : FVec Ideal S1x1024 .f32) (j : S512x1024.Idx) :
    k0_pay3 (F := Ideal) M X g j = modn (fun d => X (ix2 (j 0) d)) (fun d => g (ix2 0 d)) (fun d => M (ix3 0 1 d)) (fun d => M (ix3 0 0 d)) (j 1) := by
  pointwise [k0_pay3, k0_pay2, modn]

/-- The second product of a block: the eleven chunks side by side, times the second weight, times half the gate. -/
def closing (g : FVec Ideal S1x1024 .f32) (c0 c1 c2 c3 c4 c5 c6 c7 c8 c9 c10 : FVec Ideal S512x256 .f32)
    (wd : FVec Ideal S1x1x2816x1024 .f32) : FVec Ideal S512x1024 .f32 :=
  mulf (broadcastTo S512x1024 (mulf (broadcast S1x1024 (Scalar.ofBits .f32 0x3F000000#32)) g) broadcasts_S1x1024_S512x1024)
    (matmul dot_S512x2816_S2816x1024_S512x1024_1_0_0_1_n_n none
      (concatenate S512x2816 1 [⟨S512x256, c0⟩, ⟨S512x256, c1⟩, ⟨S512x256, c2⟩, ⟨S512x256, c3⟩, ⟨S512x256, c4⟩, ⟨S512x256, c5⟩,
        ⟨S512x256, c6⟩, ⟨S512x256, c7⟩, ⟨S512x256, c8⟩, ⟨S512x256, c9⟩, ⟨S512x256, c10⟩]
        concatenates_S512x256_S512x256_S512x256_S512x256_S512x256_S512x256_S512x256_S512x256_S512x256_S512x256_S512x256_S512x2816_d1)
      (shapeCast S2816x1024 wd shapeCasts_S1x1x2816x1024_S2816x1024) (constant S512x1024 .f32 0x00000000#32))

/-- `c` is the `i`-th run of 256 columns of `A`. -/
def IsPart (A : Fin 512 → Fin 2816 → EReal) (i : ℕ) (c : FVec Ideal S512x256 .f32) : Prop :=
  ∀ (r : Fin 512) (q : Fin 256) (f : Fin 2816), f.val = 256 * i + q.val → c (ix2 r q) = A r f

theorem dite_both {p : Prop} [Decidable p] {a : p → EReal} {b : ¬p → EReal} {x : EReal} (ha : ∀ h, a h = x) (hb : ∀ h, b h = x) :
    dite p a b = x := by
  by_cases h : p
  · rw [dif_pos h, ha]
  · rw [dif_neg h, hb]

set_option maxHeartbeats 1000000 in
theorem closing_at (A : Fin 512 → Fin 2816 → EReal) (g : FVec Ideal S1x1024 .f32)
    (c0 c1 c2 c3 c4 c5 c6 c7 c8 c9 c10 : FVec Ideal S512x256 .f32) (wd : FVec Ideal S1x1x2816x1024 .f32)
    (h0 : IsPart A 0 c0) (h1 : IsPart A 1 c1) (h2 : IsPart A 2 c2) (h3 : IsPart A 3 c3) (h4 : IsPart A 4 c4)
    (h5 : IsPart A 5 c5) (h6 : IsPart A 6 c6) (h7 : IsPart A 7 c7) (h8 : IsPart A 8 c8) (h9 : IsPart A 9 c9)
    (h10 : IsPart A 10 c10) (j : S512x1024.Idx) :
    closing g c0 c1 c2 c3 c4 c5 c6 c7 c8 c9 c10 wd j
      = Ideal.ofBits .f32 0x3F000000#32 * g (ix2 0 (j 1)) * ∑ f : Fin 2816, A (j 0) f * wd (ix4 0 0 f (j 1)) := by
  pointwise [closing]
  refine congrArg _ (Finset.sum_congr rfl fun f _ => congrArg (· * _) ?_)
  have hf := f.isLt
  refine dite_both (fun _ => h0 _ _ _ (by dsimp only; omega)) fun _ => dite_both (fun _ => h1 _ _ _ (by dsimp only; omega)) fun _ =>
    dite_both (fun _ => h2 _ _ _ (by dsimp only; omega)) fun _ => dite_both (fun _ => h3 _ _ _ (by dsimp only; omega)) fun _ =>
    dite_both (fun _ => h4 _ _ _ (by dsimp only; omega)) fun _ => dite_both (fun _ => h5 _ _ _ (by dsimp only; omega)) fun _ =>
    dite_both (fun _ => h6 _ _ _ (by dsimp only; omega)) fun _ => dite_both (fun _ => h7 _ _ _ (by dsimp only; omega)) fun _ =>
    dite_both (fun _ => h8 _ _ _ (by dsimp only; omega)) fun _ => dite_both (fun _ => h9 _ _ _ (by dsimp only; omega)) fun _ =>
    h10 _ _ _ (by dsimp only; omega)

/-- The hidden units of rows `h` through the first weight `w`, whose first 2816 columns make the gate. -/
def hid (h : Fin 1024 → EReal) (w : Fin 1024 → Fin 5632 → EReal) (f : Fin 2816) : EReal :=
  swi (∑ k, h k * w k ⟨f.val, by omega⟩) (∑ k, h k * w k ⟨2816 + f.val, by omega⟩)

/-- `W` is the 256 columns of `w` from column `o` on. -/
def IsTile (w : Fin 1024 → Fin 5632 → EReal) (o : ℕ) (W : FVec Ideal S1x1x1024x256 .f32) : Prop :=
  ∀ (k : Fin 1024) (q : Fin 256) (f : Fin 5632), f.val = o + q.val → W (ix4 0 0 k q) = w k f

/-- The load of 256 columns of a whole weight is a tile of it. -/
theorem isTile_ld (B : FVec Ideal S1x1x1024x5632 .f32) (o : ℕ)
    (hb : ∀ a, (![0, 0, 0, o] : Fin 4 → ℕ) a + S1x1x1024x256.size a ≤ S1x1x1024x5632.size a) :
    IsTile (fun k f => B (ix4 0 0 k f)) o (View.ld (Val := Elt Ideal) (e' := .f32) B (Rect.unit (s := S1x1x1024x5632) ![0, 0, 0, o] S1x1x1024x256.size hb)) := by
  intro k q f hf
  pointwise
  blk_ext

/-- A chunk computed from the tiles at the chunk's columns is that run of the hidden units. -/
theorem isPart_chunk (h : FVec Ideal S512x1024 .f32) (w : Fin 1024 → Fin 5632 → EReal) (i : ℕ)
    (wg wu : FVec Ideal S1x1x1024x256 .f32) (hg : IsTile w (256 * i) wg) (hu : IsTile w (2816 + 256 * i) wu) :
    IsPart (fun r f => hid (fun k => h (ix2 r k)) w f) i (chunk h wg wu) := by
  intro r q f hf
  rw [chunk_at]
  unfold hid
  congr 1
  · exact Finset.sum_congr rfl fun k _ => congrArg _ (hg k q _ hf)
  · exact Finset.sum_congr rfl fun k _ => congrArg _ (hu k q _ (by show 2816 + f.val = _; omega))

/-- One output entry of a half-step feed-forward: the input plus half the gate times the second product. -/
def ffnRow (x h : Fin 1024 → EReal) (gate : EReal) (w : Fin 1024 → Fin 5632 → EReal) (wd : Fin 2816 → Fin 1024 → EReal)
    (d : Fin 1024) : EReal :=
  x d + Ideal.ofBits .f32 0x3F000000#32 * gate * ∑ f, hid h w f * wd f d

theorem ffnRow_congr {x x' h h' : Fin 1024 → EReal} {gate gate' : EReal} {w w' : Fin 1024 → Fin 5632 → EReal}
    {wd wd' : Fin 2816 → Fin 1024 → EReal} {d d' : Fin 1024} (hx : ∀ k, x k = x' k) (hh : ∀ k, h k = h' k) (hg : gate = gate')
    (hw : ∀ k f, w k f = w' k f) (hwd : ∀ f k, wd f k = wd' f k) (hd : d = d') :
    ffnRow x h gate w wd d = ffnRow x' h' gate' w' wd' d' := by
  rw [funext hx, funext hh, hg, funext fun k => funext (hw k), funext fun f => funext (hwd f), hd]

theorem modn_congr {x x' g g' sc sc' sh sh' : Fin 1024 → EReal} {d d' : Fin 1024} (hx : ∀ k, x k = x' k) (hg : ∀ k, g k = g' k)
    (hsc : ∀ k, sc k = sc' k) (hsh : ∀ k, sh k = sh' k) (hd : d = d') : modn x g sc sh d = modn x' g' sc' sh' d' := by
  rw [funext hx, funext hg, funext hsc, funext hsh, hd]

/-- The whole block, from the tiles of its first weight: eleven pairs of 256 columns. -/
theorem block_at (X h : FVec Ideal S512x1024 .f32) (g : FVec Ideal S1x1024 .f32) (w : Fin 1024 → Fin 5632 → EReal)
    (wd : FVec Ideal S1x1x2816x1024 .f32) (a0 b0 a1 b1 a2 b2 a3 b3 a4 b4 a5 b5 a6 b6 a7 b7 a8 b8 a9 b9 a10 b10 : FVec Ideal S1x1x1024x256 .f32)
    (h0 : IsTile w 0 a0 ∧ IsTile w 2816 b0) (h1 : IsTile w 256 a1 ∧ IsTile w 3072 b1) (h2 : IsTile w 512 a2 ∧ IsTile w 3328 b2)
    (h3 : IsTile w 768 a3 ∧ IsTile w 3584 b3) (h4 : IsTile w 1024 a4 ∧ IsTile w 3840 b4) (h5 : IsTile w 1280 a5 ∧ IsTile w 4096 b5)
    (h6 : IsTile w 1536 a6 ∧ IsTile w 4352 b6) (h7 : IsTile w 1792 a7 ∧ IsTile w 4608 b7) (h8 : IsTile w 2048 a8 ∧ IsTile w 4864 b8)
    (h9 : IsTile w 2304 a9 ∧ IsTile w 5120 b9) (h10 : IsTile w 2560 a10 ∧ IsTile w 5376 b10) (j : S512x1024.Idx) :
    addf X (closing g (chunk h a0 b0) (chunk h a1 b1) (chunk h a2 b2) (chunk h a3 b3) (chunk h a4 b4) (chunk h a5 b5) (chunk h a6 b6)
        (chunk h a7 b7) (chunk h a8 b8) (chunk h a9 b9) (chunk h a10 b10) wd) j
      = ffnRow (fun d => X (ix2 (j 0) d)) (fun d => h (ix2 (j 0) d)) (g (ix2 0 (j 1))) w (fun f d => wd (ix4 0 0 f d)) (j 1) := by
  refine congrArg₂ (· + ·) (congrArg X (by idx_vars j)) ?_
  exact closing_at _ _ _ _ _ _ _ _ _ _ _ _ _ _ (isPart_chunk h w 0 _ _ h0.1 h0.2) (isPart_chunk h w 1 _ _ h1.1 h1.2)
    (isPart_chunk h w 2 _ _ h2.1 h2.2) (isPart_chunk h w 3 _ _ h3.1 h3.2) (isPart_chunk h w 4 _ _ h4.1 h4.2)
    (isPart_chunk h w 5 _ _ h5.1 h5.2) (isPart_chunk h w 6 _ _ h6.1 h6.2) (isPart_chunk h w 7 _ _ h7.1 h7.2)
    (isPart_chunk h w 8 _ _ h8.1 h8.2) (isPart_chunk h w 9 _ _ h9.1 h9.2) (isPart_chunk h w 10 _ _ h10.1 h10.2) j

end Cert.Ffn
-- ==== Proof.RefFfn.lean ====
/- The reference's feed-forward, vector by vector: what each of its vectors holds at an index. -/
module

public import proofs.«01_k».proof.Proof.Gen.Reference4Ideal.Run
public import proofs.«01_k».proof.Proof.Ffn

@[expose] public section

set_option maxRecDepth 16384

noncomputable section

namespace Cert.RefFfn

open Idealize.ShloMosaic Idealize.ShloMosaic.TcCoe Idealize.SL.Sem Idealize.ShloMosaic.StableHlo
open Cert.Reference4Ideal Cert.Reference4Ideal.Gen
open Cert.Ffn (swi modn hid ffnRow)

/-- One modulation vector per row: the first for the prompt's rows, one of the eight others for each sample sequence. -/
def perRow (M : FVec Ideal S9x1x1024 .f32) : FVec Ideal S16384x1024 .f32 :=
  concatenate S16384x1024 0 [⟨S8192x1024, (broadcastInDim S8192x1024 ![0, 1] bcast_S1x1024_S8192x1024_0_1 (extractStridedSlice S1x1024 ![0, 0]
      (shapeCast S9x1024 M shapeCasts_S9x1x1024_S9x1024) slices_S9x1024_S1x1024_0_0))⟩, ⟨S8192x1024, (shapeCast S8192x1024 (broadcastInDim
      S8x1024x1024 ![0, 1, 2] bcast_S8x1x1024_S8x1024x1024_0_1_2 (broadcastInDim S8x1x1024 ![0, 2] bcast_S8x1024_S8x1x1024_0_2
      (extractStridedSlice S8x1024 ![1, 0] (shapeCast S9x1024 M shapeCasts_S9x1x1024_S9x1024) slices_S9x1024_S8x1024_1_0)))
      shapeCasts_S8x1024x1024_S8192x1024)⟩] concatenates_S8192x1024_S8192x1024_S16384x1024_d0

theorem perRow_at (M : FVec Ideal S9x1x1024 .f32) (j : S16384x1024.Idx) (r : Fin 9) (hr : r.val = (j 0).val / 1024 - 7) :
    perRow M j = M (ix3 r 0 (j 1)) := by
  have h0 : (j 0).val < 16384 := (j 0).isLt
  pointwise [perRow]
  blk_point

theorem perRow_ix (M : FVec Ideal S9x1x1024 .f32) (a : Fin 16384) (b : Fin 1024) (r : Fin 9) (hr : r.val = a.val / 1024 - 7) :
    perRow M (ix2 a b) = M (ix3 r 0 b) :=
  perRow_at M (ix2 a b) r hr

/-- The normalised rows, modulated. -/
def refH (x : FVec Ideal S16384x1024 .f32) (g : FVec Ideal S1024 .f32) (sc sh : FVec Ideal S16384x1024 .f32) : FVec Ideal S16384x1024 .f32 :=
  addf (mulf (mulf (mulf x (broadcastInDim S16384x1024 ![0, 1] bcast_S16384x1_S16384x1024_0_1 (Host.rsqrt (addf (Host.divf (broadcastInDim
      S16384x1 ![0] bcast_S16384_S16384x1_0 (Host.reduceAdd (mulf x x) (constant S_ .f32 0x0000000#32) reducesTo_S16384x1024_S16384_d1
      h_S_)) (broadcastInDim S16384x1 ![] bcast_S_S16384x1 (constant S_ .f32 0x44800000#32))) (broadcastInDim S16384x1 ![] bcast_S_S16384x1
      (constant S_ .f32 0x358637BD#32)))))) (broadcastInDim S16384x1024 ![0, 1] bcast_S1x1024_S16384x1024_0_1 (broadcastInDim S1x1024 ![1]
      bcast_S1024_S1x1024_1 g))) (addf (broadcastInDim S16384x1024 ![] bcast_S_S16384x1024 (constant S_ .f32 0x3F800000#32)) sc)) sh

theorem refH_at (x : FVec Ideal S16384x1024 .f32) (g : FVec Ideal S1024 .f32) (sc sh : FVec Ideal S16384x1024 .f32) (j : S16384x1024.Idx) :
    refH x g sc sh j = modn (fun d => x (ix2 (j 0) d)) (fun d => g (ix1 d)) (fun d => sc (ix2 (j 0) d)) (fun d => sh (ix2 (j 0) d)) (j 1) := by
  pointwise [refH, modn]

/-- The input plus half the gate times the feed-forward of `h`. -/
def refTop (x gate h : FVec Ideal S16384x1024 .f32) (w : FVec Ideal S1024x5632 .f32) (wd : FVec Ideal S2816x1024 .f32) :
    FVec Ideal S16384x1024 .f32 :=
  addf x (mulf (mulf (broadcastInDim S16384x1024 ![] bcast_S_S16384x1024 (constant S_ .f32 0x3F000000#32)) gate) (Host.dotGeneral
      dot_S16384x2816_S2816x1024_S16384x1024_1_0_0_1_n_n none (mulf (mulf (extractStridedSlice S16384x2816 ![0, 0] (Host.dotGeneral
      dot_S16384x1024_S1024x5632_S16384x5632_1_0_0_1_n_n none h w) slices_S16384x5632_S16384x2816_0_0) (Host.divf (broadcastInDim
      S16384x2816 ![] bcast_S_S16384x2816 (constant S_ .f32 0x3F800000#32)) (addf (broadcastInDim S16384x2816 ![] bcast_S_S16384x2816
      (constant S_ .f32 0x3F800000#32)) (Host.exp (Host.negf (extractStridedSlice S16384x2816 ![0, 0] (Host.dotGeneral
      dot_S16384x1024_S1024x5632_S16384x5632_1_0_0_1_n_n none h w) slices_S16384x5632_S16384x2816_0_0)))))) (extractStridedSlice S16384x2816
      ![0, 2816] (Host.dotGeneral dot_S16384x1024_S1024x5632_S16384x5632_1_0_0_1_n_n none h w) slices_S16384x5632_S16384x2816_0_2816)) wd))

theorem swi_eq (g u : EReal) : swi g u = g * Ideal.div 1 (1 + Ideal.exp (-g)) * u := by
  unfold swi
  rw [Scalars.half_tanh]
  rfl

theorem refTop_at (x gate h : FVec Ideal S16384x1024 .f32) (w : FVec Ideal S1024x5632 .f32) (wd : FVec Ideal S2816x1024 .f32)
    (j : S16384x1024.Idx) :
    refTop x gate h w wd j = ffnRow (fun d => x (ix2 (j 0) d)) (fun d => h (ix2 (j 0) d)) (gate j) (fun k f => w (ix2 k f))
      (fun f d => wd (ix2 f d)) (j 1) := by
  pointwise [refTop, ffnRow, hid, swi_eq]

end Cert.RefFfn
-- ==== Proof.Ffn1.lean ====
/- The layer's first half-step feed-forward, of the prompt's rows and the sample's rows: the kernel's result and the
   reference's result are the same array. -/
module

public import proofs.«01_k».proof.Proof.Gen.Kernel3Ideal.Value
public import proofs.«01_k».proof.Proof.Gen.Reference3Ideal.Run
public import proofs.«01_k».proof.Proof.RefFfn
public import proofs.«01_k».proof.Defs

@[expose] public section

set_option maxRecDepth 16384

noncomputable section

namespace Cert.Ffn1Proof

open Idealize.ShloMosaic Idealize.ShloMosaic.TcCoe Idealize.SL.Sem
open Idealize.ShloMosaic.Pipeline (Dat)
open Cert.Ffn

section
open Cert.Kernel3Ideal Cert.Kernel3Ideal.Gen

/-- The grid point's rows: the prompt's for the first sixteen points, then the sample's. -/
def pick (i : grid0.Coords) (X0 X1 : FVec Ideal S512x1024 .f32) : FVec Ideal S512x1024 .f32 :=
  k0_pay3 (F := Ideal) i X0 X1

theorem pick_at (i : grid0.Coords) (X0 X1 : FVec Ideal S512x1024 .f32) (j : S512x1024.Idx) :
    pick i X0 X1 j = if (i 0).val < 16 then X0 j else X1 j := by
  have hb : ∀ n : Fin 32, Scalar.cmpi .slt (BitVec.ofNat 32 n.val) 16#32 = if n.val < 16 then 1#1 else 0#1 := by decide
  unfold pick k0_pay3
  dsimp only
  rw [hb (i 0)]
  split <;> rfl

/-- The body's stored value, its chunks named. -/
theorem body_eq (i : grid0.Coords) (X0 X1 : FVec Ideal S512x1024 .f32) (M : FVec Ideal S1x9x1024 .f32) (X3 : FVec Ideal S1x1024 .f32)
    (W0 W1 W2 W3 W4 W5 W6 W7 W8 W9 W10 W11 W12 W13 W14 W15 W16 W17 W18 W19 W20 W21 : FVec Ideal S1x1x1024x256 .f32) (X5 : FVec Ideal S1x1x2816x1024 .f32) :
    k0_pay1 (F := Ideal) (k0_pay3 i X0 X1) (k0_pay23 (k0_pay2 M)) (k0_pay24 (k0_pay4 i M X0 X1 X3) (k0_pay7 (k0_pay5 i M X0 X1 X3 W0) (k0_pay6 i M X0 X1 X3 W1) (Scalar.ofBits .f32 0x3F000000#32)) (k0_pay8 (k0_pay4 i M X0 X1 X3) W2 W3) (k0_pay12 (k0_pay9 (k0_pay4 i M X0 X1 X3) W4) (k0_pay10 (k0_pay4 i M X0 X1 X3) W5) (k0_pay11 (k0_pay4 i M X0 X1 X3) W4) (Scalar.ofBits .f32 0x3F000000#32)) (k0_pay13 (k0_pay4 i M X0 X1 X3) W6 W7) (k0_pay18 (k0_pay14 (k0_pay4 i M X0 X1 X3) W8) (k0_pay15 (k0_pay4 i M X0 X1 X3) W9) (k0_pay16 (k0_pay4 i M X0 X1 X3) W8) (k0_pay17 (F := Ideal))) (k0_pay19 (k0_pay4 i M X0 X1 X3) W10 W11) (k0_pay20 (k0_pay4 i M X0 X1 X3) W12 W13) (k0_pay21 (k0_pay4 i M X0 X1 X3) W14 W15) (k0_pay22 (k0_pay4 i M X0 X1 X3) W16 W17) W18 W19 W20 W21) X5
      = addf (pick i X0 X1) (closing (extractStridedSlice S1x1024 ![2, 0] (shapeCast S9x1024 M shapeCasts_S1x9x1024_S9x1024) slices_S9x1024_o2_0_S1x1024)
          (chunk (k0_pay4 i M X0 X1 X3) W0 W1) (chunk (k0_pay4 i M X0 X1 X3) W2 W3) (chunk (k0_pay4 i M X0 X1 X3) W4 W5) (chunk (k0_pay4 i M X0 X1 X3) W6 W7) (chunk (k0_pay4 i M X0 X1 X3) W8 W9) (chunk (k0_pay4 i M X0 X1 X3) W10 W11) (chunk (k0_pay4 i M X0 X1 X3) W12 W13) (chunk (k0_pay4 i M X0 X1 X3) W14 W15) (chunk (k0_pay4 i M X0 X1 X3) W16 W17) (chunk (k0_pay4 i M X0 X1 X3) W18 W19) (chunk (k0_pay4 i M X0 X1 X3) W20 W21) X5) := rfl

/-- The body's stored value by index, when the tiles are the eleven pairs of columns of `w`. -/
theorem body_at (i : grid0.Coords) (X0 X1 : FVec Ideal S512x1024 .f32) (M : FVec Ideal S1x9x1024 .f32) (X3 : FVec Ideal S1x1024 .f32)
    (W0 W1 W2 W3 W4 W5 W6 W7 W8 W9 W10 W11 W12 W13 W14 W15 W16 W17 W18 W19 W20 W21 : FVec Ideal S1x1x1024x256 .f32) (X5 : FVec Ideal S1x1x2816x1024 .f32)
    (w : Fin 1024 → Fin 5632 → EReal) (y : S512x1024.Idx)
    (h0 : IsTile w 0 W0 ∧ IsTile w 2816 W1)
    (h1 : IsTile w 256 W2 ∧ IsTile w 3072 W3)
    (h2 : IsTile w 512 W4 ∧ IsTile w 3328 W5)
    (h3 : IsTile w 768 W6 ∧ IsTile w 3584 W7)
    (h4 : IsTile w 1024 W8 ∧ IsTile w 3840 W9)
    (h5 : IsTile w 1280 W10 ∧ IsTile w 4096 W11)
    (h6 : IsTile w 1536 W12 ∧ IsTile w 4352 W13)
    (h7 : IsTile w 1792 W14 ∧ IsTile w 4608 W15)
    (h8 : IsTile w 2048 W16 ∧ IsTile w 4864 W17)
    (h9 : IsTile w 2304 W18 ∧ IsTile w 5120 W19)
    (h10 : IsTile w 2560 W20 ∧ IsTile w 5376 W21) :
    k0_pay1 (F := Ideal) (k0_pay3 i X0 X1) (k0_pay23 (k0_pay2 M)) (k0_pay24 (k0_pay4 i M X0 X1 X3) (k0_pay7 (k0_pay5 i M X0 X1 X3 W0) (k0_pay6 i M X0 X1 X3 W1) (Scalar.ofBits .f32 0x3F000000#32)) (k0_pay8 (k0_pay4 i M X0 X1 X3) W2 W3) (k0_pay12 (k0_pay9 (k0_pay4 i M X0 X1 X3) W4) (k0_pay10 (k0_pay4 i M X0 X1 X3) W5) (k0_pay11 (k0_pay4 i M X0 X1 X3) W4) (Scalar.ofBits .f32 0x3F000000#32)) (k0_pay13 (k0_pay4 i M X0 X1 X3) W6 W7) (k0_pay18 (k0_pay14 (k0_pay4 i M X0 X1 X3) W8) (k0_pay15 (k0_pay4 i M X0 X1 X3) W9) (k0_pay16 (k0_pay4 i M X0 X1 X3) W8) (k0_pay17 (F := Ideal))) (k0_pay19 (k0_pay4 i M X0 X1 X3) W10 W11) (k0_pay20 (k0_pay4 i M X0 X1 X3) W12 W13) (k0_pay21 (k0_pay4 i M X0 X1 X3) W14 W15) (k0_pay22 (k0_pay4 i M X0 X1 X3) W16 W17) W18 W19 W20 W21) X5 y
      = ffnRow (fun d => (pick i X0 X1) (ix2 (y 0) d)) (modn (fun d => (pick i X0 X1) (ix2 (y 0) d)) (fun d => X3 (ix2 0 d)) (fun d => M (ix3 0 1 d))
          (fun d => M (ix3 0 0 d))) (M (ix3 0 2 (y 1))) w (fun f d => X5 (ix4 0 0 f d)) (y 1) := by
  rw [body_eq, block_at _ _ _ w _ _ _ _ _ _ _ _ _ _ _ _ _ _ _ _ _ _ _ _ _ _ _ h0 h1 h2 h3 h4 h5 h6 h7 h8 h9 h10]
  refine ffnRow_congr (fun _ => rfl) (fun k => pay3_at M (pick i X0 X1) X3 _) ?_ (fun _ _ => rfl) (fun _ _ => rfl) rfl
  pointwise

/-- The prompt's rows, then the sample's. -/
def rows (xp xs : FVec Ideal S8192x1024 .f32) (a : Fin 16384) (d : Fin 1024) : EReal :=
  if h : a.val < 8192 then xp (ix2 ⟨a.val, h⟩ d) else xs (ix2 ⟨a.val - 8192, by omega⟩ d)

/-- The result by array index, of the six arguments. -/
def G (xp xs : FVec Ideal S8192x1024 .f32) (mod : FVec Ideal S9x9x1024 .f32) (g : FVec Ideal S1024 .f32)
    (w : FVec Ideal S2x2x1024x5632 .f32) (wd : FVec Ideal S2x2x2816x1024 .f32) : FVec Ideal S16384x1024 .f32 := fun i =>
  have h0 : (i 0).val < 16384 := (i 0).isLt
  ffnRow (fun d => rows xp xs ⟨(i 0).val, h0⟩ d)
    (modn (fun d => rows xp xs ⟨(i 0).val, h0⟩ d) (fun d => g (ix1 d)) (fun d => mod (ix3 ⟨(i 0).val / 1024 - 7, by omega⟩ 1 d))
      (fun d => mod (ix3 ⟨(i 0).val / 1024 - 7, by omega⟩ 0 d)))
    (mod (ix3 ⟨(i 0).val / 1024 - 7, by omega⟩ 2 ⟨(i 1).val, (i 1).isLt⟩)) (fun k f => w (ix4 0 0 k f)) (fun f d => wd (ix4 0 0 f d)) ⟨(i 1).val, (i 1).isLt⟩

variable (m : (ℓ : Loc nD τ sig) → Buf (Elt Ideal) ℓ)

theorem idx : ∀ t : Fin cfg0.N, win0_0.index t = ![min t.val 15, 0] ∧ win0_1.index t = ![t.val - 16, 0] ∧ win0_2.index t = ![t.val / 2 - 7, 0, 0] ∧ win0_3.index t = ![0, 0]
    ∧ win0_4.index t = ![0, 0, 0, 0] ∧ win0_5.index t = ![0, 0, 0, 0] ∧ win0_6.index t = ![t.val, 0] :=
  (by decide +kernel : ∀ t : Fin grid0.N, _)

theorem crd : ∀ t : Fin cfg0.N, ((grid0.coords t) 0).val = t.val :=
  (by decide +kernel : ∀ t : Fin grid0.N, _)

set_option maxHeartbeats 1000000 in
theorem final (c : Dev nD) : (dats m 0 c).arrAt 6 cfg0.N = G (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  unfold_out out0_6
  frame_out
  rw [body_at (w := fun k f => iblk m c 4 t (ix4 0 0 k f))]
  · unfold G
    refine ffnRow_congr (fun k => ?_) (fun k => modn_congr (fun k => ?_) (fun k => ?_) (fun k => ?_) (fun k => ?_) ?_) ?_ (fun k f => ?_) (fun f k => ?_) ?_
    case refine_1 | refine_2 =>
      rw [pick_at, crd t]
      unfold rows
      blk_simp [idx t]
      have hy : (y 0).val < 512 := (y 0).isLt
      split_ifs with h h' h'
      · blk_point [iblk, V, idx t]
      · exact absurd h' (by dsimp only; omega)
      · exact absurd h' (by dsimp only; omega)
      · blk_point [iblk, V, idx t]
    all_goals first | blk_point [iblk, V, idx t] | exact Fin.ext (by blk_simp [idx t])
  all_goals exact ⟨isTile_ld _ _ _, isTile_ld _ _ _⟩

end

section
open Cert.Reference3Ideal Cert.Reference3Ideal.Gen Cert.Reference3Ideal.Value Cert.RefFfn
variable (m : (ℓ : Loc nD τ sig) → Buf (Elt Ideal) ℓ)

/-- The two arrays' rows in one array. -/
def cat (xp xs : FVec Ideal S8192x1024 .f32) : FVec Ideal S16384x1024 .f32 :=
  concatenate S16384x1024 0 [⟨S8192x1024, xp⟩, ⟨S8192x1024, xs⟩] concatenates_S8192x1024_S8192x1024_S16384x1024_d0

theorem cat_at (xp xs : FVec Ideal S8192x1024 .f32) (a : Fin 16384) (d : Fin 1024) : cat xp xs (ix2 a d) = rows xp xs a d := by
  unfold cat rows
  pointwise

/-- The reference's result by its vectors. -/
def REF (xp xs : FVec Ideal S8192x1024 .f32) (mod : FVec Ideal S9x9x1024 .f32) (g : FVec Ideal S1024 .f32)
    (w : FVec Ideal S2x2x1024x5632 .f32) (wd : FVec Ideal S2x2x2816x1024 .f32) : FVec Ideal S16384x1024 .f32 :=
  refTop (cat xp xs) (perRow (extractStridedSlice S9x1x1024 ![0, 2, 0] mod slices_S9x9x1024_S9x1x1024_0_2_0))
    (refH (cat xp xs) g (perRow (extractStridedSlice S9x1x1024 ![0, 1, 0] mod slices_S9x9x1024_S9x1x1024_0_1_0))
      (perRow (extractStridedSlice S9x1x1024 ![0, 0, 0] mod slices_S9x9x1024_S9x1x1024_0_0_0)))
    (shapeCast S1024x5632 (extractStridedSlice S1x1x1024x5632 ![0, 0, 0, 0] w slices_S2x2x1024x5632_S1x1x1024x5632_0_0_0_0)
      shapeCasts_S1x1x1024x5632_S1024x5632)
    (shapeCast S2816x1024 (extractStridedSlice S1x1x2816x1024 ![0, 0, 0, 0] wd slices_S2x2x2816x1024_S1x1x2816x1024_0_0_0_0)
      shapeCasts_S1x1x2816x1024_S2816x1024)

theorem res_eq (c : Dev nD) : res_out0 m c = REF (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)) := rfl

theorem ref_eq (xp xs : FVec Ideal S8192x1024 .f32) (mod : FVec Ideal S9x9x1024 .f32) (g : FVec Ideal S1024 .f32)
    (w : FVec Ideal S2x2x1024x5632 .f32) (wd : FVec Ideal S2x2x2816x1024 .f32) : REF xp xs mod g w wd = G xp xs mod g w wd := by
  funext i
  have h0 : (i 0).val < 16384 := (i 0).isLt
  unfold REF G
  rw [refTop_at]
  refine ffnRow_congr (fun k => ?_) (fun k => (refH_at _ _ _ _ _).trans (modn_congr (fun k => ?_) (fun k => ?_) (fun k => ?_) (fun k => ?_) ?_)) ?_ (fun k f => ?_) (fun f k => ?_) ?_
  case refine_1 => exact cat_at _ _ _ _
  case refine_2 => exact cat_at _ _ _ _
  case refine_4 => exact Eq.trans (perRow_ix _ (i 0) k ⟨(i 0).val / 1024 - 7, by omega⟩ rfl) (by pointwise)
  case refine_5 => exact Eq.trans (perRow_ix _ (i 0) k ⟨(i 0).val / 1024 - 7, by omega⟩ rfl) (by pointwise)
  case refine_7 => rw [perRow_at _ _ ⟨(i 0).val / 1024 - 7, by omega⟩ rfl]; pointwise
  all_goals first | rfl | pointwise
end

/-- The two programs' results are one array. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => G (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)), ?_, ?_⟩
  · exact (θ_run _ _ _).mono (fun r h c => ⟨(h c).1.trans (final m c), (h c).2⟩) (Cert.Kernel3Ideal.Value.run_blocks m g)
  · refine (θ_run _ _ _).mono (fun r h c => ⟨?_, (h c).2⟩) (Cert.Reference3Ideal.Value.run m' g')
    obtain ⟨e0, e1, e2, e3, e4, e5⟩ := hargs c
    show _ = G _ _ _ _ _ _
    rw [(h c).1, ← ref_eq, ← e0, ← e1, ← e2, ← e3, ← e4, ← e5]
    exact res_eq m' c

end Cert.Ffn1Proof
-- ==== Proof.Ffn3.lean ====
/- The layer's last half-step feed-forward of the odd half (`x + ½·gate·FFN(modulated norm of x)`): the kernel's result and the
   reference's result are the same array. -/
module

public import proofs.«01_k».proof.Proof.Gen.Kernel4Ideal.Value
public import proofs.«01_k».proof.Proof.Gen.Reference4Ideal.Run
public import proofs.«01_k».proof.Proof.RefFfn
public import proofs.«01_k».proof.Defs

@[expose] public section

set_option maxRecDepth 16384

noncomputable section

namespace Cert.Ffn3Proof

open Idealize.ShloMosaic Idealize.ShloMosaic.TcCoe Idealize.SL.Sem
open Idealize.ShloMosaic.Pipeline (Dat)
open Cert.Ffn

section
open Cert.Kernel4Ideal Cert.Kernel4Ideal.Gen

/-- The body's stored value, its chunks named. -/
theorem body_eq (X0 : FVec Ideal S512x1024 .f32) (X1 : FVec Ideal S1x9x1024 .f32) (X2 : FVec Ideal S1x1024 .f32)
    (W0 W1 W2 W3 W4 W5 W6 W7 W8 W9 W10 W11 W12 W13 W14 W15 W16 W17 W18 W19 W20 W21 : FVec Ideal S1x1x1024x256 .f32) (X4 : FVec Ideal S1x1x2816x1024 .f32) :
    k0_pay1 (F := Ideal) X0 (k0_pay20 (k0_pay2 X1) (k0_pay3 X1 X0 X2) (k0_pay7 (k0_pay4 X1 X0 X2 W0) (k0_pay5 X1 X0 X2 W1) (k0_pay6 X1 X0 X2 W0))
      (k0_pay8 (k0_pay3 X1 X0 X2) W2 W3) (k0_pay11 (k0_pay9 (k0_pay3 X1 X0 X2) W5) (k0_pay10 (k0_pay3 X1 X0 X2) W4))
      (k0_pay12 (k0_pay3 X1 X0 X2) W6 W7) (k0_pay13 (k0_pay3 X1 X0 X2) W8 W9) (k0_pay14 (k0_pay3 X1 X0 X2) W10 W11)
      (k0_pay15 (k0_pay3 X1 X0 X2) W12 W13) (k0_pay17 (k0_pay3 X1 X0 X2) (k0_pay16 W14) (constant S512x256 .f32 0x00000000#32) W15)
      (k0_pay18 (k0_pay3 X1 X0 X2) W16 W17) (k0_pay19 (k0_pay3 X1 X0 X2) W18) W19 W20 W21 X4)
      = addf X0 (closing (extractStridedSlice S1x1024 ![2, 0] (shapeCast S9x1024 X1 shapeCasts_S1x9x1024_S9x1024) slices_S9x1024_o2_0_S1x1024)
          (chunk (k0_pay3 X1 X0 X2) W0 W1) (chunk (k0_pay3 X1 X0 X2) W2 W3) (chunk (k0_pay3 X1 X0 X2) W4 W5) (chunk (k0_pay3 X1 X0 X2) W6 W7) (chunk (k0_pay3 X1 X0 X2) W8 W9) (chunk (k0_pay3 X1 X0 X2) W10 W11) (chunk (k0_pay3 X1 X0 X2) W12 W13) (chunk (k0_pay3 X1 X0 X2) W14 W15) (chunk (k0_pay3 X1 X0 X2) W16 W17) (chunk (k0_pay3 X1 X0 X2) W18 W19) (chunk (k0_pay3 X1 X0 X2) W20 W21) X4) := rfl

/-- The body's stored value by index, when the tiles are the eleven pairs of columns of `w`. -/
theorem body_at (X0 : FVec Ideal S512x1024 .f32) (X1 : FVec Ideal S1x9x1024 .f32) (X2 : FVec Ideal S1x1024 .f32)
    (W0 W1 W2 W3 W4 W5 W6 W7 W8 W9 W10 W11 W12 W13 W14 W15 W16 W17 W18 W19 W20 W21 : FVec Ideal S1x1x1024x256 .f32) (X4 : FVec Ideal S1x1x2816x1024 .f32)
    (w : Fin 1024 → Fin 5632 → EReal) (y : S512x1024.Idx)
    (h0 : IsTile w 0 W0 ∧ IsTile w 2816 W1)
    (h1 : IsTile w 256 W2 ∧ IsTile w 3072 W3)
    (h2 : IsTile w 512 W4 ∧ IsTile w 3328 W5)
    (h3 : IsTile w 768 W6 ∧ IsTile w 3584 W7)
    (h4 : IsTile w 1024 W8 ∧ IsTile w 3840 W9)
    (h5 : IsTile w 1280 W10 ∧ IsTile w 4096 W11)
    (h6 : IsTile w 1536 W12 ∧ IsTile w 4352 W13)
    (h7 : IsTile w 1792 W14 ∧ IsTile w 4608 W15)
    (h8 : IsTile w 2048 W16 ∧ IsTile w 4864 W17)
    (h9 : IsTile w 2304 W18 ∧ IsTile w 5120 W19)
    (h10 : IsTile w 2560 W20 ∧ IsTile w 5376 W21) :
    k0_pay1 (F := Ideal) X0 (k0_pay20 (k0_pay2 X1) (k0_pay3 X1 X0 X2) (k0_pay7 (k0_pay4 X1 X0 X2 W0) (k0_pay5 X1 X0 X2 W1) (k0_pay6 X1 X0 X2 W0))
      (k0_pay8 (k0_pay3 X1 X0 X2) W2 W3) (k0_pay11 (k0_pay9 (k0_pay3 X1 X0 X2) W5) (k0_pay10 (k0_pay3 X1 X0 X2) W4))
      (k0_pay12 (k0_pay3 X1 X0 X2) W6 W7) (k0_pay13 (k0_pay3 X1 X0 X2) W8 W9) (k0_pay14 (k0_pay3 X1 X0 X2) W10 W11)
      (k0_pay15 (k0_pay3 X1 X0 X2) W12 W13) (k0_pay17 (k0_pay3 X1 X0 X2) (k0_pay16 W14) (constant S512x256 .f32 0x00000000#32) W15)
      (k0_pay18 (k0_pay3 X1 X0 X2) W16 W17) (k0_pay19 (k0_pay3 X1 X0 X2) W18) W19 W20 W21 X4) y
      = ffnRow (fun d => X0 (ix2 (y 0) d)) (modn (fun d => X0 (ix2 (y 0) d)) (fun d => X2 (ix2 0 d)) (fun d => X1 (ix3 0 1 d))
          (fun d => X1 (ix3 0 0 d))) (X1 (ix3 0 2 (y 1))) w (fun f d => X4 (ix4 0 0 f d)) (y 1) := by
  rw [body_eq, block_at _ _ _ w _ _ _ _ _ _ _ _ _ _ _ _ _ _ _ _ _ _ _ _ _ _ _ h0 h1 h2 h3 h4 h5 h6 h7 h8 h9 h10]
  refine ffnRow_congr (fun _ => rfl) (fun k => pay3_at _ _ _ _) ?_ (fun _ _ => rfl) (fun _ _ => rfl) rfl
  pointwise

/-- The result by array index, of the five arguments. -/
def G (x : FVec Ideal S16384x1024 .f32) (mod : FVec Ideal S9x9x1024 .f32) (g : FVec Ideal S1024 .f32)
    (w : FVec Ideal S2x2x1024x5632 .f32) (wd : FVec Ideal S2x2x2816x1024 .f32) : FVec Ideal S16384x1024 .f32 := fun i =>
  have h0 : (i 0).val < 16384 := (i 0).isLt
  ffnRow (fun d => x (ix2 ⟨(i 0).val, h0⟩ d))
    (modn (fun d => x (ix2 ⟨(i 0).val, h0⟩ d)) (fun d => g (ix1 d)) (fun d => mod (ix3 ⟨(i 0).val / 1024 - 7, by omega⟩ 1 d))
      (fun d => mod (ix3 ⟨(i 0).val / 1024 - 7, by omega⟩ 0 d)))
    (mod (ix3 ⟨(i 0).val / 1024 - 7, by omega⟩ 2 ⟨(i 1).val, (i 1).isLt⟩)) (fun k f => w (ix4 1 0 k f)) (fun f d => wd (ix4 1 0 f d)) ⟨(i 1).val, (i 1).isLt⟩

variable (m : (ℓ : Loc nD τ sig) → Buf (Elt Ideal) ℓ)

theorem idx : ∀ t : Fin cfg0.N, win0_0.index t = ![t.val, 0] ∧ win0_1.index t = ![t.val / 2 - 7, 0, 0] ∧ win0_2.index t = ![0, 0]
    ∧ win0_3.index t = ![1, 0, 0, 0] ∧ win0_4.index t = ![1, 0, 0, 0] ∧ win0_5.index t = ![t.val, 0] :=
  (by decide +kernel : ∀ t : Fin grid0.N, _)

set_option maxHeartbeats 1000000 in
theorem final (c : Dev nD) : (dats m 0 c).arrAt 5 cfg0.N = G (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  unfold_out out0_5
  frame_out
  rw [body_at (w := fun k f => iblk m c 3 t (ix4 0 0 k f))]
  · unfold G
    refine ffnRow_congr (fun k => ?_) (fun k => modn_congr (fun k => ?_) (fun k => ?_) (fun k => ?_) (fun k => ?_) ?_) ?_ (fun k f => ?_) (fun f k => ?_) ?_
    all_goals first | blk_point [iblk, V, idx t] | exact Fin.ext (by blk_simp [idx t])
  all_goals exact ⟨isTile_ld _ _ _, isTile_ld _ _ _⟩
end

section
open Cert.Reference4Ideal Cert.Reference4Ideal.Gen Cert.Reference4Ideal.Value Cert.RefFfn
variable (m : (ℓ : Loc nD τ sig) → Buf (Elt Ideal) ℓ)

/-- The reference's result by its vectors. -/
def REF (x : FVec Ideal S16384x1024 .f32) (mod : FVec Ideal S9x9x1024 .f32) (g : FVec Ideal S1024 .f32)
    (w : FVec Ideal S2x2x1024x5632 .f32) (wd : FVec Ideal S2x2x2816x1024 .f32) : FVec Ideal S16384x1024 .f32 :=
  refTop x (perRow (extractStridedSlice S9x1x1024 ![0, 2, 0] mod slices_S9x9x1024_S9x1x1024_0_2_0))
    (refH x g (perRow (extractStridedSlice S9x1x1024 ![0, 1, 0] mod slices_S9x9x1024_S9x1x1024_0_1_0))
      (perRow (extractStridedSlice S9x1x1024 ![0, 0, 0] mod slices_S9x9x1024_S9x1x1024_0_0_0)))
    (shapeCast S1024x5632 (extractStridedSlice S1x1x1024x5632 ![1, 0, 0, 0] w slices_S2x2x1024x5632_S1x1x1024x5632_1_0_0_0)
      shapeCasts_S1x1x1024x5632_S1024x5632)
    (shapeCast S2816x1024 (extractStridedSlice S1x1x2816x1024 ![1, 0, 0, 0] wd slices_S2x2x2816x1024_S1x1x2816x1024_1_0_0_0)
      shapeCasts_S1x1x2816x1024_S2816x1024)

theorem res_eq (c : Dev nD) : res_out0 m c = REF (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl

theorem ref_eq (x : FVec Ideal S16384x1024 .f32) (mod : FVec Ideal S9x9x1024 .f32) (g : FVec Ideal S1024 .f32)
    (w : FVec Ideal S2x2x1024x5632 .f32) (wd : FVec Ideal S2x2x2816x1024 .f32) : REF x mod g w wd = G x mod g w wd := by
  funext i
  have h0 : (i 0).val < 16384 := (i 0).isLt
  unfold REF G
  rw [refTop_at]
  refine ffnRow_congr (fun k => ?_) (fun k => (refH_at _ _ _ _ _).trans (modn_congr (fun k => ?_) (fun k => ?_) (fun k => ?_) (fun k => ?_) ?_)) ?_ (fun k f => ?_) (fun f k => ?_) ?_
  case refine_4 => exact Eq.trans (perRow_ix _ (i 0) k ⟨(i 0).val / 1024 - 7, by omega⟩ rfl) (by pointwise)
  case refine_5 => exact Eq.trans (perRow_ix _ (i 0) k ⟨(i 0).val / 1024 - 7, by omega⟩ rfl) (by pointwise)
  case refine_7 => rw [perRow_at _ _ ⟨(i 0).val / 1024 - 7, by omega⟩ rfl]; pointwise
  all_goals first | rfl | pointwise
end

/-- The two programs' results are one array. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => G (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4)), ?_, ?_⟩
  · exact (θ_run _ _ _).mono (fun r h c => ⟨(h c).1.trans (final m c), (h c).2⟩) (Cert.Kernel4Ideal.Value.run_blocks m g)
  · refine (θ_run _ _ _).mono (fun r h c => ⟨?_, (h c).2⟩) (Cert.Reference4Ideal.Value.run m' g')
    obtain ⟨e0, e1, e2, e3, e4⟩ := hargs c
    show _ = G _ _ _ _ _
    rw [(h c).1, ← ref_eq, ← e0, ← e1, ← e2, ← e3, ← e4]
    exact res_eq m' c

end Cert.Ffn3Proof
-- ==== Proof.Cols.lean ====
/- A row times a column, the form every projection of a layer takes. -/
module

public import proofs.«01_k».proof.Proof.Ffn

@[expose] public section

noncomputable section

namespace Cert.Cols

/-- A row's product with one column. -/
def col {n : ℕ} (h w : Fin n → EReal) : EReal := ∑ k, h k * w k

theorem col_congr {n : ℕ} {h h' w w' : Fin n → EReal} (hh : ∀ k, h k = h' k) (hw : ∀ k, w k = w' k) : col h w = col h' w' := by
  rw [funext hh, funext hw]

end Cert.Cols
-- ==== Proof.In0.lean ====
/- The even layer's projections: what the kernel's six results hold, row by row. -/
module

public import proofs.«01_k».proof.Proof.Gen.Kernel5Ideal.Value
public import proofs.«01_k».proof.Proof.Cols
public import Idealize.ShloMosaic.Lib.StableHlo.RunRead

@[expose] public section

set_option maxRecDepth 16384

noncomputable section

namespace Cert.In0

open Idealize.ShloMosaic Idealize.ShloMosaic.TcCoe Idealize.SL.Sem
open Idealize.ShloMosaic.Pipeline (Dat)
open Cert.Ffn (modn modn_congr)
open Cert.Cols
open Cert.Kernel5Ideal Cert.Kernel5Ideal.Gen

theorem pay3_at (M : FVec Ideal S1x9x1024 .f32) (X : FVec Ideal S512x1024 .f32) (g : FVec Ideal S1x1024 .f32) (j : S512x1024.Idx) :
    k0_pay3 (F := Ideal) M X g j = modn (fun d => X (ix2 (j 0) d)) (fun d => g (ix2 0 d)) (fun d => M (ix3 0 4 d)) (fun d => M (ix3 0 3 d)) (j 1) := by
  pointwise [k0_pay3, k0_pay2, modn]

theorem pay4_at (M : FVec Ideal S1x9x1024 .f32) (X : FVec Ideal S512x1024 .f32) (g : FVec Ideal S1x1024 .f32)
    (W : FVec Ideal S1x1024x1536 .f32) (j : S512x1536.Idx) : k0_pay4 (F := Ideal) M X g W j = col (modn (fun d => X (ix2 (j 0) d)) (fun d => g (ix2 0 d)) (fun d => M (ix3 0 4 d)) (fun d => M (ix3 0 3 d))) (fun k => W (ix3 0 k (j 1))) := by
  unfold k0_pay4 col
  pointwise
  refine Finset.sum_congr rfl fun k _ => congrArg (· * _) ?_
  rw [pay3_at]
  rfl

theorem pay15_at (M : FVec Ideal S1x9x1024 .f32) (X : FVec Ideal S512x1024 .f32) (g : FVec Ideal S1x1024 .f32)
    (W : FVec Ideal S1x1024x1536 .f32) (j : S512x1536.Idx) : k0_pay15 (F := Ideal) X (k0_pay10 g) (k0_pay11 (k0_pay2 M)) (k0_pay12 (k0_pay2 M)) (k0_pay13 X) W j = col (modn (fun d => X (ix2 (j 0) d)) (fun d => g (ix2 0 d)) (fun d => M (ix3 0 4 d)) (fun d => M (ix3 0 3 d))) (fun k => W (ix3 0 k (j 1))) :=
  pay4_at M X g W j

theorem pay5_at (M : FVec Ideal S1x9x1024 .f32) (X : FVec Ideal S512x1024 .f32) (g : FVec Ideal S1x1024 .f32)
    (W : FVec Ideal S1x1024x512 .f32) (j : S512x512.Idx) : k0_pay5 (F := Ideal) M X g W j = col (modn (fun d => X (ix2 (j 0) d)) (fun d => g (ix2 0 d)) (fun d => M (ix3 0 4 d)) (fun d => M (ix3 0 3 d))) (fun k => W (ix3 0 k (j 1))) := by
  unfold k0_pay5 col
  pointwise
  refine Finset.sum_congr rfl fun k _ => congrArg (· * _) ?_
  rw [pay3_at]
  rfl

theorem pay16_at (M : FVec Ideal S1x9x1024 .f32) (X : FVec Ideal S512x1024 .f32) (g : FVec Ideal S1x1024 .f32)
    (W : FVec Ideal S1x1024x512 .f32) (j : S512x512.Idx) : k0_pay16 (F := Ideal) X (k0_pay10 g) (k0_pay11 (k0_pay2 M)) (k0_pay12 (k0_pay2 M)) (k0_pay13 X) W j = col (modn (fun d => X (ix2 (j 0) d)) (fun d => g (ix2 0 d)) (fun d => M (ix3 0 4 d)) (fun d => M (ix3 0 3 d))) (fun k => W (ix3 0 k (j 1))) :=
  pay5_at M X g W j

theorem pay6_at (M : FVec Ideal S1x9x1024 .f32) (X : FVec Ideal S512x1024 .f32) (g : FVec Ideal S1x1024 .f32)
    (W : FVec Ideal S1024x512 .f32) (j : S512x512.Idx) : k0_pay6 (F := Ideal) (k0_pay3 M X g) W j = col (modn (fun d => X (ix2 (j 0) d)) (fun d => g (ix2 0 d)) (fun d => M (ix3 0 4 d)) (fun d => M (ix3 0 3 d))) (fun k => W (ix2 k (j 1))) := by
  unfold k0_pay6 col
  pointwise
  refine Finset.sum_congr rfl fun k _ => congrArg (· * _) ?_
  rw [pay3_at]
  rfl

theorem pay17_at (M : FVec Ideal S1x9x1024 .f32) (X : FVec Ideal S512x1024 .f32) (g : FVec Ideal S1x1024 .f32)
    (W : FVec Ideal S1024x512 .f32) (j : S512x512.Idx) : k0_pay17 (F := Ideal) X (k0_pay10 g) (k0_pay11 (k0_pay2 M)) (k0_pay12 (k0_pay2 M)) (k0_pay13 X) W j = col (modn (fun d => X (ix2 (j 0) d)) (fun d => g (ix2 0 d)) (fun d => M (ix3 0 4 d)) (fun d => M (ix3 0 3 d))) (fun k => W (ix2 k (j 1))) :=
  pay6_at M X g W j

theorem pay7_at (M : FVec Ideal S1x9x1024 .f32) (X : FVec Ideal S512x1024 .f32) (g : FVec Ideal S1x1024 .f32)
    (W : FVec Ideal S1024x256 .f32) (j : S512x256.Idx) : k0_pay7 (F := Ideal) (k0_pay3 M X g) W j = col (modn (fun d => X (ix2 (j 0) d)) (fun d => g (ix2 0 d)) (fun d => M (ix3 0 4 d)) (fun d => M (ix3 0 3 d))) (fun k => W (ix2 k (j 1))) := by
  unfold k0_pay7 col
  pointwise
  refine Finset.sum_congr rfl fun k _ => congrArg (· * _) ?_
  rw [pay3_at]
  rfl

theorem pay18_at (M : FVec Ideal S1x9x1024 .f32) (X : FVec Ideal S512x1024 .f32) (g : FVec Ideal S1x1024 .f32)
    (W : FVec Ideal S1024x256 .f32) (j : S512x256.Idx) : k0_pay18 (F := Ideal) X (k0_pay10 g) (k0_pay11 (k0_pay2 M)) (k0_pay12 (k0_pay2 M)) (k0_pay13 X) W j = col (modn (fun d => X (ix2 (j 0) d)) (fun d => g (ix2 0 d)) (fun d => M (ix3 0 4 d)) (fun d => M (ix3 0 3 d))) (fun k => W (ix2 k (j 1))) :=
  pay7_at M X g W j

theorem pay8_at (M : FVec Ideal S1x9x1024 .f32) (X : FVec Ideal S512x1024 .f32) (g : FVec Ideal S1x1024 .f32)
    (W : FVec Ideal S1024x256 .f32) (j : S512x256.Idx) : k0_pay8 (F := Ideal) (k0_pay3 M X g) W j = col (modn (fun d => X (ix2 (j 0) d)) (fun d => g (ix2 0 d)) (fun d => M (ix3 0 4 d)) (fun d => M (ix3 0 3 d))) (fun k => W (ix2 k (j 1))) := by
  unfold k0_pay8 col
  pointwise
  refine Finset.sum_congr rfl fun k _ => congrArg (· * _) ?_
  rw [pay3_at]
  rfl

theorem pay19_at (M : FVec Ideal S1x9x1024 .f32) (X : FVec Ideal S512x1024 .f32) (g : FVec Ideal S1x1024 .f32)
    (W : FVec Ideal S1024x256 .f32) (j : S512x256.Idx) : k0_pay19 (F := Ideal) X (k0_pay10 g) (k0_pay11 (k0_pay2 M)) (k0_pay12 (k0_pay2 M)) (k0_pay13 X) W j = col (modn (fun d => X (ix2 (j 0) d)) (fun d => g (ix2 0 d)) (fun d => M (ix3 0 4 d)) (fun d => M (ix3 0 3 d))) (fun k => W (ix2 k (j 1))) :=
  pay8_at M X g W j

theorem pay9_at (M : FVec Ideal S1x9x1024 .f32) (X : FVec Ideal S512x1024 .f32) (g : FVec Ideal S1x1024 .f32)
    (W : FVec Ideal S1024x128 .f32) (j : S512x128.Idx) : k0_pay9 (F := Ideal) (k0_pay3 M X g) W j = col (modn (fun d => X (ix2 (j 0) d)) (fun d => g (ix2 0 d)) (fun d => M (ix3 0 4 d)) (fun d => M (ix3 0 3 d))) (fun k => W (ix2 k (j 1))) := by
  unfold k0_pay9 col
  pointwise
  refine Finset.sum_congr rfl fun k _ => congrArg (· * _) ?_
  rw [pay3_at]
  rfl

theorem pay1_at (M : FVec Ideal S1x9x1024 .f32) (X : FVec Ideal S512x1024 .f32) (g : FVec Ideal S1x1024 .f32)
    (W : FVec Ideal S1024x128 .f32) (j : S512x128.Idx) : k0_pay1 (F := Ideal) (k0_pay14 X (k0_pay10 g) (k0_pay11 (k0_pay2 M)) (k0_pay12 (k0_pay2 M)) (k0_pay13 X)) W j = col (modn (fun d => X (ix2 (j 0) d)) (fun d => g (ix2 0 d)) (fun d => M (ix3 0 4 d)) (fun d => M (ix3 0 3 d))) (fun k => W (ix2 k (j 1))) :=
  pay9_at M X g W j

variable (m : (ℓ : Loc nD τ sig) → Buf (Elt Ideal) ℓ)

theorem idx : ∀ t : Fin cfg0.N, win0_0.index t = ![t.val, 0] ∧ win0_1.index t = ![t.val - 7, 0, 0] ∧ win0_2.index t = ![0, 0]
    ∧ win0_3.index t = ![0, 0, 0] ∧ win0_4.index t = ![0, 0, 3] ∧ win0_5.index t = ![0, 0] ∧ win0_6.index t = ![0, 2] ∧ win0_7.index t = ![0, 3] ∧ win0_8.index t = ![0, 8]
    ∧ win0_9.index t = ![t.val, 0] ∧ win0_10.index t = ![t.val, 0] ∧ win0_11.index t = ![t.val, 0] ∧ win0_12.index t = ![t.val, 0]
    ∧ win0_13.index t = ![t.val, 0] ∧ win0_14.index t = ![t.val, 0] :=
  (by decide +kernel : ∀ t : Fin grid0.N, _)

/-- The gathered tail of the weight. -/
def tail (w : FVec Ideal S1x1024x3088 .f32) : FVec Ideal S1024x1152 .f32 := fun i =>
  if h : (i 1).val < 1024 then w (ix3 0 (i 0) ⟨2064 + (i 1).val, by omega⟩)
  else if h : (i 1).val - 1024 < 16 then w (ix3 0 (i 0) ⟨2048 + ((i 1).val - 1024), by omega⟩) else 0

theorem v4_eq (c : Dev nD) : V m c main_v4 = (concatenate S1024x1152 1 [⟨S1024x1024, extractStridedSlice S1024x1024 ![0, 2064] (shapeCast S1024x3088 (m ((c : Thread nD τ).loc main_arg3)) shapeCasts_S1x1024x3088_S1024x3088) slices_S1024x3088_S1024x1024_0_2064⟩,
   ⟨S1024x16, extractStridedSlice S1024x16 ![0, 2048] (shapeCast S1024x3088 (m ((c : Thread nD τ).loc main_arg3)) shapeCasts_S1x1024x3088_S1024x3088) slices_S1024x3088_S1024x16_0_2048⟩,
   ⟨S1024x112, broadcastInDim S1024x112 ![] bcast_S_S1024x112 (constant (F := Ideal) S_ .f32 0x00000000#32)⟩] concatenates_S1024x1024_S1024x16_S1024x112_S1024x1152_d1 : FVec Ideal S1024x1152 .f32) := by
  show StableHlo.after hostOps0 (fun b => m (c, b)) (Proc.tc.devRef main_v4) = _
  after_reads_simp
  rfl

theorem cat3_at (w : FVec Ideal S1x1024x3088 .f32) : (concatenate S1024x1152 1 [⟨S1024x1024, extractStridedSlice S1024x1024 ![0, 2064] (shapeCast S1024x3088 w shapeCasts_S1x1024x3088_S1024x3088) slices_S1024x3088_S1024x1024_0_2064⟩,
   ⟨S1024x16, extractStridedSlice S1024x16 ![0, 2048] (shapeCast S1024x3088 w shapeCasts_S1x1024x3088_S1024x3088) slices_S1024x3088_S1024x16_0_2048⟩,
   ⟨S1024x112, broadcastInDim S1024x112 ![] bcast_S_S1024x112 (constant (F := Ideal) S_ .f32 0x00000000#32)⟩] concatenates_S1024x1024_S1024x16_S1024x112_S1024x1152_d1 : FVec Ideal S1024x1152 .f32) = tail w := by
  funext i
  have h1 : (i 1).val < 1152 := (i 1).isLt
  unfold tail
  pointwise

theorem tail_eq (c : Dev nD) : V m c main_v4 = tail (m ((c : Thread nD τ).loc main_arg3)) := by
  rw [v4_eq]
  generalize m ((c : Thread nD τ).loc main_arg3) = w
  exact cat3_at w
theorem tail_lo (w : FVec Ideal S1x1024x3088 .f32) (j : S1024x1152.Idx) (k : Fin 1024) (f : ℕ) (hf : f < 1024) (h0 : (j 0).val = k.val)
    (h1 : (j 1).val = f) : tail w j = w (ix3 0 k ⟨2064 + f, by omega⟩) := by
  subst h1
  unfold tail
  rw [dif_pos hf, show j 0 = k from Fin.ext h0]

theorem tail_hi (w : FVec Ideal S1x1024x3088 .f32) (j : S1024x1152.Idx) (k : Fin 1024) (f : Fin 128) (h0 : (j 0).val = k.val)
    (h1 : (j 1).val = 1024 + f.val) : tail w j = if h : f.val < 16 then w (ix3 0 k ⟨2048 + f.val, by omega⟩) else 0 := by
  unfold tail
  rw [dif_neg (by omega), show j 0 = k from Fin.ext h0]
  have e : (j 1).val - 1024 = f.val := by omega
  simp only [e]

/-- The rows' products with the columns `W`. -/
def G {n : ℕ} (x : FVec Ideal S16384x1024 .f32) (mod : FVec Ideal S9x9x1024 .f32) (g : FVec Ideal S1024 .f32)
    (W : Fin 1024 → Fin n → EReal) (a : Fin 16384) (b : Fin n) : EReal :=
  col (modn (fun d => x (ix2 a d)) (fun d => g (ix1 d)) (fun d => mod (ix3 ⟨a.val / 1024 - 7, by omega⟩ 4 d))
      (fun d => mod (ix3 ⟨a.val / 1024 - 7, by omega⟩ 3 d))) (fun k => W k b)

/-- Output 0 by the call's arguments. -/
def G0 (x : FVec Ideal S16384x1024 .f32) (mod : FVec Ideal S9x9x1024 .f32) (g : FVec Ideal S1024 .f32)
    (w : FVec Ideal S1x1024x3088 .f32) : FVec Ideal S16384x1536 .f32 :=
  fun i => G (n := 1536) x mod g (fun k f => w (ix3 0 k ⟨f.val, by omega⟩)) (i 0) (i 1)

theorem final0 (c : Dev nD) : (dats m 0 c).arrAt 9 cfg0.N = G0 (m ((c : Thread nD τ).loc main_arg0)) (m ((c : Thread nD τ).loc main_arg1))
    (m ((c : Thread nD τ).loc main_arg2)) (m ((c : Thread nD τ).loc main_arg3)) := by
  refine (dats m 0 c).arrAt_eq_of_covers 9 _ (by decide +kernel) fun t _ y => ?_
  blk_simp
  rw [after0_9]
  unfold outsAt0
  frame_out
  canon_tiles x h
  all_goals
    first | refine (pay15_at _ _ _ _ _).trans ?_ | refine (pay4_at _ _ _ _ _).trans ?_
    unfold G0 G
    refine col_congr (fun k => modn_congr (fun d => ?_) (fun d => ?_) (fun d => ?_) (fun d => ?_) rfl) (fun k => ?_)
    on_goal 5 => unfold X0_3 Pipeline.Window.fill; rw [dif_pos (moved0_3 t _)]
    all_goals blk_point [iblk, V, idx t]

/-- Output 1 by the call's arguments. -/
def G1 (x : FVec Ideal S16384x1024 .f32) (mod : FVec Ideal S9x9x1024 .f32) (g : FVec Ideal S1024 .f32)
    (w : FVec Ideal S1x1024x3088 .f32) : FVec Ideal S16384x512 .bf16 :=
  fun i => G (n := 512) x mod g (fun k f => w (ix3 0 k ⟨1536 + f.val, by omega⟩)) (i 0) (i 1)

theorem final1 (c : Dev nD) : (dats m 0 c).arrAt 10 cfg0.N = G1 (m ((c : Thread nD τ).loc main_arg0)) (m ((c : Thread nD τ).loc main_arg1))
    (m ((c : Thread nD τ).loc main_arg2)) (m ((c : Thread nD τ).loc main_arg3)) := by
  refine (dats m 0 c).arrAt_eq_of_covers 10 _ (by decide +kernel) fun t _ y => ?_
  blk_simp
  rw [after0_10]
  unfold outsAt0
  frame_out
  canon_tiles x h
  all_goals
    first | refine (pay16_at _ _ _ _ _).trans ?_ | refine (pay5_at _ _ _ _ _).trans ?_
    unfold G1 G
    refine col_congr (fun k => modn_congr (fun d => ?_) (fun d => ?_) (fun d => ?_) (fun d => ?_) rfl) (fun k => ?_)
    on_goal 5 => unfold X0_4 Pipeline.Window.fill; rw [dif_pos (moved0_4 t _)]
    all_goals blk_point [iblk, V, idx t]

/-- Output 2 by the call's arguments. -/
def G2 (x : FVec Ideal S16384x1024 .f32) (mod : FVec Ideal S9x9x1024 .f32) (g : FVec Ideal S1024 .f32)
    (w : FVec Ideal S1x1024x3088 .f32) : FVec Ideal S16384x512 .f32 :=
  fun i => G (n := 512) x mod g (fun k f => w (ix3 0 k ⟨2064 + f.val, by omega⟩)) (i 0) (i 1)

theorem final2 (c : Dev nD) : (dats m 0 c).arrAt 11 cfg0.N = G2 (m ((c : Thread nD τ).loc main_arg0)) (m ((c : Thread nD τ).loc main_arg1))
    (m ((c : Thread nD τ).loc main_arg2)) (m ((c : Thread nD τ).loc main_arg3)) := by
  refine (dats m 0 c).arrAt_eq_of_covers 11 _ (by decide +kernel) fun t _ y => ?_
  blk_simp
  rw [after0_11]
  unfold outsAt0
  frame_out
  canon_tiles x h
  all_goals
    first | refine (pay17_at _ _ _ _ _).trans ?_ | refine (pay6_at _ _ _ _ _).trans ?_
    unfold G2 G
    refine col_congr (fun k => modn_congr (fun d => ?_) (fun d => ?_) (fun d => ?_) (fun d => ?_) rfl) (fun k => ?_)
    on_goal 5 => unfold X0_5 Pipeline.Window.fill; rw [dif_pos (moved0_5 t _)]
    on_goal 5 =>
      refine (congrFun (tail_eq m c) _).trans ((tail_lo _ _ k (0 + (y 1).val) (by omega) (by blk_simp [idx t]) (by blk_simp [idx t]; dsimp only; omega)).trans ?_)
    all_goals blk_point [iblk, V, idx t]

/-- Output 3 by the call's arguments. -/
def G3 (x : FVec Ideal S16384x1024 .f32) (mod : FVec Ideal S9x9x1024 .f32) (g : FVec Ideal S1024 .f32)
    (w : FVec Ideal S1x1024x3088 .f32) : FVec Ideal S16384x256 .f32 :=
  fun i => G (n := 256) x mod g (fun k f => w (ix3 0 k ⟨2576 + f.val, by omega⟩)) (i 0) (i 1)

theorem final3 (c : Dev nD) : (dats m 0 c).arrAt 12 cfg0.N = G3 (m ((c : Thread nD τ).loc main_arg0)) (m ((c : Thread nD τ).loc main_arg1))
    (m ((c : Thread nD τ).loc main_arg2)) (m ((c : Thread nD τ).loc main_arg3)) := by
  refine (dats m 0 c).arrAt_eq_of_covers 12 _ (by decide +kernel) fun t _ y => ?_
  blk_simp
  rw [after0_12]
  unfold outsAt0
  frame_out
  canon_tiles x h
  all_goals
    first | refine (pay18_at _ _ _ _ _).trans ?_ | refine (pay7_at _ _ _ _ _).trans ?_
    unfold G3 G
    refine col_congr (fun k => modn_congr (fun d => ?_) (fun d => ?_) (fun d => ?_) (fun d => ?_) rfl) (fun k => ?_)
    on_goal 5 => unfold X0_6 Pipeline.Window.fill; rw [dif_pos (moved0_6 t _)]
    on_goal 5 =>
      refine (congrFun (tail_eq m c) _).trans ((tail_lo _ _ k (512 + (y 1).val) (by omega) (by blk_simp [idx t]) (by blk_simp [idx t]; dsimp only; omega)).trans ?_)
    all_goals blk_point [iblk, V, idx t]

/-- Output 4 by the call's arguments. -/
def G4 (x : FVec Ideal S16384x1024 .f32) (mod : FVec Ideal S9x9x1024 .f32) (g : FVec Ideal S1024 .f32)
    (w : FVec Ideal S1x1024x3088 .f32) : FVec Ideal S16384x256 .f32 :=
  fun i => G (n := 256) x mod g (fun k f => w (ix3 0 k ⟨2832 + f.val, by omega⟩)) (i 0) (i 1)

theorem final4 (c : Dev nD) : (dats m 0 c).arrAt 13 cfg0.N = G4 (m ((c : Thread nD τ).loc main_arg0)) (m ((c : Thread nD τ).loc main_arg1))
    (m ((c : Thread nD τ).loc main_arg2)) (m ((c : Thread nD τ).loc main_arg3)) := by
  refine (dats m 0 c).arrAt_eq_of_covers 13 _ (by decide +kernel) fun t _ y => ?_
  blk_simp
  rw [after0_13]
  unfold outsAt0
  frame_out
  canon_tiles x h
  all_goals
    first | refine (pay19_at _ _ _ _ _).trans ?_ | refine (pay8_at _ _ _ _ _).trans ?_
    unfold G4 G
    refine col_congr (fun k => modn_congr (fun d => ?_) (fun d => ?_) (fun d => ?_) (fun d => ?_) rfl) (fun k => ?_)
    on_goal 5 => unfold X0_7 Pipeline.Window.fill; rw [dif_pos (moved0_7 t _)]
    on_goal 5 =>
      refine (congrFun (tail_eq m c) _).trans ((tail_lo _ _ k (768 + (y 1).val) (by omega) (by blk_simp [idx t]) (by blk_simp [idx t]; dsimp only; omega)).trans ?_)
    all_goals blk_point [iblk, V, idx t]

/-- Output 5 by the call's arguments. -/
def G5 (x : FVec Ideal S16384x1024 .f32) (mod : FVec Ideal S9x9x1024 .f32) (g : FVec Ideal S1024 .f32)
    (w : FVec Ideal S1x1024x3088 .f32) : FVec Ideal S16384x128 .f32 :=
  fun i => G (n := 128) x mod g (fun k f => if h : f.val < 16 then w (ix3 0 k ⟨2048 + f.val, by omega⟩) else 0) (i 0) (i 1)

theorem final5 (c : Dev nD) : (dats m 0 c).arrAt 14 cfg0.N = G5 (m ((c : Thread nD τ).loc main_arg0)) (m ((c : Thread nD τ).loc main_arg1))
    (m ((c : Thread nD τ).loc main_arg2)) (m ((c : Thread nD τ).loc main_arg3)) := by
  refine (dats m 0 c).arrAt_eq_of_covers 14 _ (by decide +kernel) fun t _ y => ?_
  blk_simp
  rw [after0_14]
  unfold outsAt0
  frame_out
  canon_tiles x h
  all_goals
    first | refine (pay1_at _ _ _ _ _).trans ?_ | refine (pay9_at _ _ _ _ _).trans ?_
    unfold G5 G
    refine col_congr (fun k => modn_congr (fun d => ?_) (fun d => ?_) (fun d => ?_) (fun d => ?_) rfl) (fun k => ?_)
    on_goal 5 =>
      refine (congrFun (tail_eq m c) _).trans ((tail_hi _ _ k (x 1) (by blk_simp [idx t]) (by blk_simp [idx t])).trans ?_)
      have e : ((((View.whole main_v6_5).slice (win0_14.rect t)).emb y 1 : Fin 128)) = x 1 := Fin.ext (by blk_simp [idx t]; omega)
      rw [e]
    all_goals blk_point [iblk, V, idx t]

end Cert.In0
-- ==== Proof.In0Claim.lean ====
/- The even layer's projections: the reference's six results, and the equality with the kernel's. -/
module

public import proofs.«01_k».proof.Proof.In0
public import proofs.«01_k».proof.Proof.RefFfn
public import proofs.«01_k».proof.Proof.Gen.Reference5Ideal.Run
public import proofs.«01_k».proof.Defs

@[expose] public section

set_option maxRecDepth 16384

noncomputable section

namespace Cert.In0

open Idealize.ShloMosaic Idealize.ShloMosaic.TcCoe Idealize.SL.Sem
open Cert.Ffn (modn modn_congr)
open Cert.Cols

section
open Cert.Reference5Ideal Cert.Reference5Ideal.Gen Cert.Reference5Ideal.Value Cert.RefFfn

/-- The reference's one product, all columns. -/
def Y (x : FVec Ideal S16384x1024 .f32) (mod : FVec Ideal S9x9x1024 .f32) (g : FVec Ideal S1024 .f32) (w : FVec Ideal S1x1024x3088 .f32) :
    FVec Ideal S16384x3088 .f32 :=
  Host.dotGeneral dot_S16384x1024_S1024x3088_S16384x3088_1_0_0_1_n_n none
    (refH x g (perRow (extractStridedSlice S9x1x1024 ![0, 4, 0] mod slices_S9x9x1024_S9x1x1024_0_4_0))
      (perRow (extractStridedSlice S9x1x1024 ![0, 3, 0] mod slices_S9x9x1024_S9x1x1024_0_3_0)))
    (shapeCast S1024x3088 w shapeCasts_S1x1024x3088_S1024x3088)

theorem Y_at (x : FVec Ideal S16384x1024 .f32) (mod : FVec Ideal S9x9x1024 .f32) (g : FVec Ideal S1024 .f32) (w : FVec Ideal S1x1024x3088 .f32)
    (i : S16384x3088.Idx) : Y x mod g w i = G (n := 3088) x mod g (fun k f => w (ix3 0 k f)) (i 0) (i 1) := by
  have h0 : (i 0).val < 16384 := (i 0).isLt
  unfold Y G col
  pointwise
  refine Finset.sum_congr rfl fun k _ => congrArg (· * _) ?_
  refine (refH_at _ _ _ _ _).trans (modn_congr (fun k => ?_) (fun k => ?_) (fun k => ?_) (fun k => ?_) ?_)
  case refine_3 => exact Eq.trans (perRow_ix _ (i 0) k ⟨(i 0).val / 1024 - 7, by omega⟩ rfl) (by pointwise)
  case refine_4 => exact Eq.trans (perRow_ix _ (i 0) k ⟨(i 0).val / 1024 - 7, by omega⟩ rfl) (by pointwise)
  all_goals first | rfl | pointwise

theorem ref0 (x : FVec Ideal S16384x1024 .f32) (mod : FVec Ideal S9x9x1024 .f32) (g : FVec Ideal S1024 .f32) (w : FVec Ideal S1x1024x3088 .f32) :
    extractStridedSlice S16384x1536 ![0, 0] (Y x mod g w) slices_S16384x3088_S16384x1536_0_0 = G0 x mod g w := by
  funext i
  refine Eq.trans (b := Y x mod g w (ix2 (i 0) ⟨0 + (i 1).val, by have h : (i 1).val < 1536 := (i 1).isLt; omega⟩)) (by pointwise) ((Y_at x mod g w _).trans ?_)
  unfold G0 G
  pointwise

theorem ref1 (x : FVec Ideal S16384x1024 .f32) (mod : FVec Ideal S9x9x1024 .f32) (g : FVec Ideal S1024 .f32) (w : FVec Ideal S1x1024x3088 .f32) :
    truncf .bf16 (extractStridedSlice S16384x512 ![0, 1536] (Y x mod g w) slices_S16384x3088_S16384x512_0_1536) bitsLt_bf16_f32 = G1 x mod g w := by
  funext i
  refine Eq.trans (b := Y x mod g w (ix2 (i 0) ⟨1536 + (i 1).val, by have h : (i 1).val < 512 := (i 1).isLt; omega⟩)) (by pointwise) ((Y_at x mod g w _).trans ?_)
  unfold G1 G
  pointwise

theorem ref2 (x : FVec Ideal S16384x1024 .f32) (mod : FVec Ideal S9x9x1024 .f32) (g : FVec Ideal S1024 .f32) (w : FVec Ideal S1x1024x3088 .f32) :
    extractStridedSlice S16384x512 ![0, 2064] (Y x mod g w) slices_S16384x3088_S16384x512_0_2064 = G2 x mod g w := by
  funext i
  refine Eq.trans (b := Y x mod g w (ix2 (i 0) ⟨2064 + (i 1).val, by have h : (i 1).val < 512 := (i 1).isLt; omega⟩)) (by pointwise) ((Y_at x mod g w _).trans ?_)
  unfold G2 G
  pointwise

theorem ref3 (x : FVec Ideal S16384x1024 .f32) (mod : FVec Ideal S9x9x1024 .f32) (g : FVec Ideal S1024 .f32) (w : FVec Ideal S1x1024x3088 .f32) :
    extractStridedSlice S16384x256 ![0, 2576] (Y x mod g w) slices_S16384x3088_S16384x256_0_2576 = G3 x mod g w := by
  funext i
  refine Eq.trans (b := Y x mod g w (ix2 (i 0) ⟨2576 + (i 1).val, by have h : (i 1).val < 256 := (i 1).isLt; omega⟩)) (by pointwise) ((Y_at x mod g w _).trans ?_)
  unfold G3 G
  pointwise

theorem ref4 (x : FVec Ideal S16384x1024 .f32) (mod : FVec Ideal S9x9x1024 .f32) (g : FVec Ideal S1024 .f32) (w : FVec Ideal S1x1024x3088 .f32) :
    extractStridedSlice S16384x256 ![0, 2832] (Y x mod g w) slices_S16384x3088_S16384x256_0_2832 = G4 x mod g w := by
  funext i
  refine Eq.trans (b := Y x mod g w (ix2 (i 0) ⟨2832 + (i 1).val, by have h : (i 1).val < 256 := (i 1).isLt; omega⟩)) (by pointwise) ((Y_at x mod g w _).trans ?_)
  unfold G4 G
  pointwise

theorem ref5 (x : FVec Ideal S16384x1024 .f32) (mod : FVec Ideal S9x9x1024 .f32) (g : FVec Ideal S1024 .f32) (w : FVec Ideal S1x1024x3088 .f32) :
    concatenate S16384x128 1 [⟨S16384x16, extractStridedSlice S16384x16 ![0, 2048] (Y x mod g w) slices_S16384x3088_S16384x16_0_2048⟩,
      ⟨S16384x112, broadcastInDim S16384x112 ![] bcast_S_S16384x112 (constant (F := Ideal) S_ .f32 0x00000000#32)⟩] concatenates_S16384x16_S16384x112_S16384x128_d1
      = G5 x mod g w := by
  funext i
  have hi : (i 1).val < 128 := (i 1).isLt
  have e : G5 x mod g w i = if h : (i 1).val < 16 then Y x mod g w (ix2 (i 0) ⟨2048 + (i 1).val, by omega⟩) else 0 := by
    by_cases h : (i 1).val < 16
    · rw [dif_pos h, Y_at]
      unfold G5 G
      exact col_congr (fun _ => rfl) fun k => dif_pos h
    · rw [dif_neg h]
      unfold G5 G col
      exact Finset.sum_eq_zero fun k _ => (congrArg (_ * ·) (dif_neg h)).trans (mul_zero _)
  rw [e]
  pointwise
end

/-- The two programs' six results are the same arrays. -/
theorem algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => G0 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)), fun c => G1 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)), fun c => G2 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)), fun c => G3 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)), fun c => G4 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)), fun c => G5 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)), ?_, ?_⟩
  · refine (θ_run _ _ _).mono (fun r h c => ?_) (Cert.Kernel5Ideal.Value.run_blocks m g)
    obtain ⟨h0, h1, h2, h3, h4, h5, hk⟩ := h c
    exact ⟨h0.trans (final0 m c), h1.trans (final1 m c), h2.trans (final2 m c), h3.trans (final3 m c), h4.trans (final4 m c), h5.trans (final5 m c), hk⟩
  · refine (θ_run _ _ _).mono (fun r h c => ?_) (Cert.Reference5Ideal.Value.run m' g')
    obtain ⟨e0, e1, e2, e3⟩ := hargs c
    obtain ⟨h0, h1, h2, h3, h4, h5, hk⟩ := h c
    refine ⟨?_, ?_, ?_, ?_, ?_, ?_, hk⟩
    · show _ = G0 _ _ _ _
      rw [h0, ← ref0, ← e0, ← e1, ← e2, ← e3]
      rfl
    · show _ = G1 _ _ _ _
      rw [h1, ← ref1, ← e0, ← e1, ← e2, ← e3]
      rfl
    · show _ = G2 _ _ _ _
      rw [h2, ← ref2, ← e0, ← e1, ← e2, ← e3]
      rfl
    · show _ = G3 _ _ _ _
      rw [h3, ← ref3, ← e0, ← e1, ← e2, ← e3]
      rfl
    · show _ = G4 _ _ _ _
      rw [h4, ← ref4, ← e0, ← e1, ← e2, ← e3]
      rfl
    · show _ = G5 _ _ _ _
      rw [h5, ← ref5, ← e0, ← e1, ← e2, ← e3]
      rfl

end Cert.In0
-- ==== Proof.In1.lean ====
/- The odd layer's projections: what the kernel's five results hold, row by row. -/
module

public import proofs.«01_k».proof.Proof.Gen.Kernel6Ideal.Value
public import proofs.«01_k».proof.Proof.Cols
public import Idealize.ShloMosaic.Lib.StableHlo.RunRead

@[expose] public section

set_option maxRecDepth 16384

noncomputable section

namespace Cert.In1

open Idealize.ShloMosaic Idealize.ShloMosaic.TcCoe Idealize.SL.Sem
open Idealize.ShloMosaic.Pipeline (Dat)
open Cert.Ffn (modn modn_congr)
open Cert.Cols
open Cert.Kernel6Ideal Cert.Kernel6Ideal.Gen

theorem pay2_at (M : FVec Ideal S1x9x1024 .f32) (X : FVec Ideal S512x1024 .f32) (g : FVec Ideal S1x1024 .f32) (j : S512x1024.Idx) :
    k0_pay2 (F := Ideal) M X g j = modn (fun d => X (ix2 (j 0) d)) (fun d => g (ix2 0 d)) (fun d => M (ix3 0 4 d)) (fun d => M (ix3 0 3 d)) (j 1) := by
  pointwise [k0_pay2, k0_pay1, modn]

theorem pay3_at (M : FVec Ideal S1x9x1024 .f32) (X : FVec Ideal S512x1024 .f32) (g : FVec Ideal S1x1024 .f32)
    (W : FVec Ideal S1x1024x512 .f32) (j : S512x512.Idx) : k0_pay3 (F := Ideal) M X g W j
      = col (modn (fun d => X (ix2 (j 0) d)) (fun d => g (ix2 0 d)) (fun d => M (ix3 0 4 d)) (fun d => M (ix3 0 3 d))) (fun k => W (ix3 0 k (j 1))) := by
  unfold k0_pay3 col
  pointwise
  refine Finset.sum_congr rfl fun k _ => congrArg (· * _) ?_
  rw [pay2_at]
  rfl

theorem pay12_at (M : FVec Ideal S1x9x1024 .f32) (X : FVec Ideal S512x1024 .f32) (g : FVec Ideal S1x1024 .f32)
    (W : FVec Ideal S1x1024x512 .f32) (j : S512x512.Idx) : k0_pay12 (F := Ideal) (k0_pay8 (k0_pay1 M)) (k0_pay9 X g) (k0_pay10 (k0_pay1 M)) W j
      = col (modn (fun d => X (ix2 (j 0) d)) (fun d => g (ix2 0 d)) (fun d => M (ix3 0 4 d)) (fun d => M (ix3 0 3 d))) (fun k => W (ix3 0 k (j 1))) :=
  pay3_at M X g W j

theorem pay4_at (M : FVec Ideal S1x9x1024 .f32) (X : FVec Ideal S512x1024 .f32) (g : FVec Ideal S1x1024 .f32)
    (W : FVec Ideal S1x1024x512 .f32) (j : S512x512.Idx) : k0_pay4 (F := Ideal) M X g W j
      = col (modn (fun d => X (ix2 (j 0) d)) (fun d => g (ix2 0 d)) (fun d => M (ix3 0 4 d)) (fun d => M (ix3 0 3 d))) (fun k => W (ix3 0 k (j 1))) := by
  unfold k0_pay4 col
  pointwise
  refine Finset.sum_congr rfl fun k _ => congrArg (· * _) ?_
  rw [pay2_at]
  rfl

theorem pay13_at (M : FVec Ideal S1x9x1024 .f32) (X : FVec Ideal S512x1024 .f32) (g : FVec Ideal S1x1024 .f32)
    (W : FVec Ideal S1x1024x512 .f32) (j : S512x512.Idx) : k0_pay13 (F := Ideal) (k0_pay8 (k0_pay1 M)) (k0_pay9 X g) (k0_pay10 (k0_pay1 M)) W j
      = col (modn (fun d => X (ix2 (j 0) d)) (fun d => g (ix2 0 d)) (fun d => M (ix3 0 4 d)) (fun d => M (ix3 0 3 d))) (fun k => W (ix3 0 k (j 1))) :=
  pay4_at M X g W j

theorem pay5_at (M : FVec Ideal S1x9x1024 .f32) (X : FVec Ideal S512x1024 .f32) (g : FVec Ideal S1x1024 .f32)
    (W : FVec Ideal S1x1024x1024 .f32) (j : S512x1024.Idx) : k0_pay5 (F := Ideal) (k0_pay2 M X g) W j
      = col (modn (fun d => X (ix2 (j 0) d)) (fun d => g (ix2 0 d)) (fun d => M (ix3 0 4 d)) (fun d => M (ix3 0 3 d))) (fun k => W (ix3 0 k (j 1))) := by
  unfold k0_pay5 col
  pointwise
  refine Finset.sum_congr rfl fun k _ => congrArg (· * _) ?_
  rw [pay2_at]
  rfl

theorem pay14_at (M : FVec Ideal S1x9x1024 .f32) (X : FVec Ideal S512x1024 .f32) (g : FVec Ideal S1x1024 .f32)
    (W : FVec Ideal S1x1024x1024 .f32) (j : S512x1024.Idx) : k0_pay14 (F := Ideal) (k0_pay8 (k0_pay1 M)) (k0_pay9 X g) (k0_pay10 (k0_pay1 M)) W j
      = col (modn (fun d => X (ix2 (j 0) d)) (fun d => g (ix2 0 d)) (fun d => M (ix3 0 4 d)) (fun d => M (ix3 0 3 d))) (fun k => W (ix3 0 k (j 1))) :=
  pay5_at M X g W j

theorem pay6_at (M : FVec Ideal S1x9x1024 .f32) (X : FVec Ideal S512x1024 .f32) (g : FVec Ideal S1x1024 .f32)
    (W : FVec Ideal S1x1024x1024 .f32) (j : S512x1024.Idx) : k0_pay6 (F := Ideal) (k0_pay2 M X g) W j
      = col (modn (fun d => X (ix2 (j 0) d)) (fun d => g (ix2 0 d)) (fun d => M (ix3 0 4 d)) (fun d => M (ix3 0 3 d))) (fun k => W (ix3 0 k (j 1))) := by
  unfold k0_pay6 col
  pointwise
  refine Finset.sum_congr rfl fun k _ => congrArg (· * _) ?_
  rw [pay2_at]
  rfl

theorem pay15_at (M : FVec Ideal S1x9x1024 .f32) (X : FVec Ideal S512x1024 .f32) (g : FVec Ideal S1x1024 .f32)
    (W : FVec Ideal S1x1024x1024 .f32) (j : S512x1024.Idx) : k0_pay15 (F := Ideal) (k0_pay8 (k0_pay1 M)) (k0_pay9 X g) (k0_pay10 (k0_pay1 M)) W j
      = col (modn (fun d => X (ix2 (j 0) d)) (fun d => g (ix2 0 d)) (fun d => M (ix3 0 4 d)) (fun d => M (ix3 0 3 d))) (fun k => W (ix3 0 k (j 1))) :=
  pay6_at M X g W j

theorem pay7_at (M : FVec Ideal S1x9x1024 .f32) (X : FVec Ideal S512x1024 .f32) (g : FVec Ideal S1x1024 .f32)
    (W : FVec Ideal S1024x128 .f32) (j : S512x128.Idx) : k0_pay7 (F := Ideal) (k0_pay2 M X g) W j
      = col (modn (fun d => X (ix2 (j 0) d)) (fun d => g (ix2 0 d)) (fun d => M (ix3 0 4 d)) (fun d => M (ix3 0 3 d))) (fun k => W (ix2 k (j 1))) := by
  unfold k0_pay7 col
  pointwise
  refine Finset.sum_congr rfl fun k _ => congrArg (· * _) ?_
  rw [pay2_at]
  rfl

theorem pay16_at (M : FVec Ideal S1x9x1024 .f32) (X : FVec Ideal S512x1024 .f32) (g : FVec Ideal S1x1024 .f32)
    (W : FVec Ideal S1024x128 .f32) (j : S512x128.Idx) : k0_pay16 (F := Ideal) (k0_pay8 (k0_pay1 M)) (k0_pay9 X g) (k0_pay10 (k0_pay1 M)) W j
      = col (modn (fun d => X (ix2 (j 0) d)) (fun d => g (ix2 0 d)) (fun d => M (ix3 0 4 d)) (fun d => M (ix3 0 3 d))) (fun k => W (ix2 k (j 1))) :=
  pay7_at M X g W j

variable (m : (ℓ : Loc nD τ sig) → Buf (Elt Ideal) ℓ)

theorem idx : ∀ t : Fin cfg0.N, win0_0.index t = ![t.val, 0] ∧ win0_1.index t = ![t.val - 7, 0, 0] ∧ win0_2.index t = ![0, 0]
    ∧ win0_3.index t = ![0, 0, 0] ∧ win0_4.index t = ![0, 0, 1] ∧ win0_5.index t = ![0, 0, 1] ∧ win0_6.index t = ![0, 0, 2] ∧ win0_7.index t = ![0, 0]
    ∧ win0_8.index t = ![t.val, 0] ∧ win0_9.index t = ![t.val, 0] ∧ win0_10.index t = ![t.val, 0] ∧ win0_11.index t = ![t.val, 0]
    ∧ win0_12.index t = ![t.val, 0] :=
  (by decide +kernel : ∀ t : Fin grid0.N, _)

/-- The last columns of the weight, filled up with zeros. -/
def tail (w : FVec Ideal S1x1024x3104 .f32) : FVec Ideal S1024x128 .f32 := fun i =>
  if h : (i 1).val < 32 then w (ix3 0 (i 0) ⟨3072 + (i 1).val, by omega⟩) else 0

theorem v3_eq (c : Dev nD) : V m c main_v3 = (concatenate S1024x128 1 [⟨S1024x32, extractStridedSlice S1024x32 ![0, 3072]
      (shapeCast S1024x3104 (m ((c : Thread nD τ).loc main_arg3)) shapeCasts_S1x1024x3104_S1024x3104) slices_S1024x3104_S1024x32_0_3072⟩,
    ⟨S1024x96, broadcastInDim S1024x96 ![] bcast_S_S1024x96 (constant (F := Ideal) S_ .f32 0x00000000#32)⟩]
    concatenates_S1024x32_S1024x96_S1024x128_d1 : FVec Ideal S1024x128 .f32) := by
  show StableHlo.after hostOps0 (fun b => m (c, b)) (Proc.tc.devRef main_v3) = _
  after_reads_simp
  rfl

theorem cat_at (w : FVec Ideal S1x1024x3104 .f32) : (concatenate S1024x128 1 [⟨S1024x32, extractStridedSlice S1024x32 ![0, 3072]
      (shapeCast S1024x3104 w shapeCasts_S1x1024x3104_S1024x3104) slices_S1024x3104_S1024x32_0_3072⟩,
    ⟨S1024x96, broadcastInDim S1024x96 ![] bcast_S_S1024x96 (constant (F := Ideal) S_ .f32 0x00000000#32)⟩]
    concatenates_S1024x32_S1024x96_S1024x128_d1 : FVec Ideal S1024x128 .f32) = tail w := by
  funext i
  have h1 : (i 1).val < 128 := (i 1).isLt
  unfold tail
  pointwise

theorem tail_eq (c : Dev nD) : V m c main_v3 = tail (m ((c : Thread nD τ).loc main_arg3)) := by
  rw [v3_eq]
  generalize m ((c : Thread nD τ).loc main_arg3) = w
  exact cat_at w

theorem tail_at (w : FVec Ideal S1x1024x3104 .f32) (j : S1024x128.Idx) (k : Fin 1024) (f : Fin 128) (h0 : (j 0).val = k.val)
    (h1 : (j 1).val = f.val) : tail w j = if h : f.val < 32 then w (ix3 0 k ⟨3072 + f.val, by omega⟩) else 0 := by
  obtain rfl : k = j 0 := Fin.ext h0.symm
  obtain rfl : f = j 1 := Fin.ext h1.symm
  rfl

/-- The rows' products with the columns `W`. -/
def G {n : ℕ} (x : FVec Ideal S16384x1024 .f32) (mod : FVec Ideal S9x9x1024 .f32) (g : FVec Ideal S1024 .f32)
    (W : Fin 1024 → Fin n → EReal) (a : Fin 16384) (b : Fin n) : EReal :=
  col (modn (fun d => x (ix2 a d)) (fun d => g (ix1 d)) (fun d => mod (ix3 ⟨a.val / 1024 - 7, by omega⟩ 4 d))
      (fun d => mod (ix3 ⟨a.val / 1024 - 7, by omega⟩ 3 d))) (fun k => W k b)

/-- Output 0 by the call's arguments. -/
def G0 (x : FVec Ideal S16384x1024 .f32) (mod : FVec Ideal S9x9x1024 .f32) (g : FVec Ideal S1024 .f32)
    (w : FVec Ideal S1x1024x3104 .f32) : FVec Ideal S16384x512 .f32 :=
  fun i => G (n := 512) x mod g (fun k f => w (ix3 0 k ⟨0 + f.val, by omega⟩)) (i 0) (i 1)

theorem final0 (c : Dev nD) : (dats m 0 c).arrAt 8 cfg0.N = G0 (m ((c : Thread nD τ).loc main_arg0)) (m ((c : Thread nD τ).loc main_arg1))
    (m ((c : Thread nD τ).loc main_arg2)) (m ((c : Thread nD τ).loc main_arg3)) := by
  refine (dats m 0 c).arrAt_eq_of_covers 8 _ (by decide +kernel) fun t _ y => ?_
  blk_simp
  rw [after0_8]
  unfold outsAt0
  frame_out
  canon_tiles x h
  all_goals
    first | refine (pay12_at _ _ _ _ _).trans ?_ | refine (pay3_at _ _ _ _ _).trans ?_
    unfold G0 G
    refine col_congr (fun k => modn_congr (fun d => ?_) (fun d => ?_) (fun d => ?_) (fun d => ?_) rfl) (fun k => ?_)
    on_goal 5 => unfold X0_3 Pipeline.Window.fill; rw [dif_pos (moved0_3 t _)]
    all_goals blk_point [iblk, V, idx t]

/-- Output 1 by the call's arguments. -/
def G1 (x : FVec Ideal S16384x1024 .f32) (mod : FVec Ideal S9x9x1024 .f32) (g : FVec Ideal S1024 .f32)
    (w : FVec Ideal S1x1024x3104 .f32) : FVec Ideal S16384x512 .f32 :=
  fun i => G (n := 512) x mod g (fun k f => w (ix3 0 k ⟨512 + f.val, by omega⟩)) (i 0) (i 1)

theorem final1 (c : Dev nD) : (dats m 0 c).arrAt 9 cfg0.N = G1 (m ((c : Thread nD τ).loc main_arg0)) (m ((c : Thread nD τ).loc main_arg1))
    (m ((c : Thread nD τ).loc main_arg2)) (m ((c : Thread nD τ).loc main_arg3)) := by
  refine (dats m 0 c).arrAt_eq_of_covers 9 _ (by decide +kernel) fun t _ y => ?_
  blk_simp
  rw [after0_9]
  unfold outsAt0
  frame_out
  canon_tiles x h
  all_goals
    first | refine (pay13_at _ _ _ _ _).trans ?_ | refine (pay4_at _ _ _ _ _).trans ?_
    unfold G1 G
    refine col_congr (fun k => modn_congr (fun d => ?_) (fun d => ?_) (fun d => ?_) (fun d => ?_) rfl) (fun k => ?_)
    on_goal 5 => unfold X0_4 Pipeline.Window.fill; rw [dif_pos (moved0_4 t _)]
    all_goals blk_point [iblk, V, idx t]

/-- Output 2 by the call's arguments. -/
def G2 (x : FVec Ideal S16384x1024 .f32) (mod : FVec Ideal S9x9x1024 .f32) (g : FVec Ideal S1024 .f32)
    (w : FVec Ideal S1x1024x3104 .f32) : FVec Ideal S16384x1024 .bf16 :=
  fun i => G (n := 1024) x mod g (fun k f => w (ix3 0 k ⟨1024 + f.val, by omega⟩)) (i 0) (i 1)

theorem final2 (c : Dev nD) : (dats m 0 c).arrAt 10 cfg0.N = G2 (m ((c : Thread nD τ).loc main_arg0)) (m ((c : Thread nD τ).loc main_arg1))
    (m ((c : Thread nD τ).loc main_arg2)) (m ((c : Thread nD τ).loc main_arg3)) := by
  refine (dats m 0 c).arrAt_eq_of_covers 10 _ (by decide +kernel) fun t _ y => ?_
  blk_simp
  rw [after0_10]
  unfold outsAt0
  frame_out
  canon_tiles x h
  all_goals
    first | refine (pay14_at _ _ _ _ _).trans ?_ | refine (pay5_at _ _ _ _ _).trans ?_
    unfold G2 G
    refine col_congr (fun k => modn_congr (fun d => ?_) (fun d => ?_) (fun d => ?_) (fun d => ?_) rfl) (fun k => ?_)
    on_goal 5 => unfold X0_5 Pipeline.Window.fill; rw [dif_pos (moved0_5 t _)]
    all_goals blk_point [iblk, V, idx t]

/-- Output 3 by the call's arguments. -/
def G3 (x : FVec Ideal S16384x1024 .f32) (mod : FVec Ideal S9x9x1024 .f32) (g : FVec Ideal S1024 .f32)
    (w : FVec Ideal S1x1024x3104 .f32) : FVec Ideal S16384x1024 .bf16 :=
  fun i => G (n := 1024) x mod g (fun k f => w (ix3 0 k ⟨2048 + f.val, by omega⟩)) (i 0) (i 1)

theorem final3 (c : Dev nD) : (dats m 0 c).arrAt 11 cfg0.N = G3 (m ((c : Thread nD τ).loc main_arg0)) (m ((c : Thread nD τ).loc main_arg1))
    (m ((c : Thread nD τ).loc main_arg2)) (m ((c : Thread nD τ).loc main_arg3)) := by
  refine (dats m 0 c).arrAt_eq_of_covers 11 _ (by decide +kernel) fun t _ y => ?_
  blk_simp
  rw [after0_11]
  unfold outsAt0
  frame_out
  canon_tiles x h
  all_goals
    first | refine (pay15_at _ _ _ _ _).trans ?_ | refine (pay6_at _ _ _ _ _).trans ?_
    unfold G3 G
    refine col_congr (fun k => modn_congr (fun d => ?_) (fun d => ?_) (fun d => ?_) (fun d => ?_) rfl) (fun k => ?_)
    on_goal 5 => unfold X0_6 Pipeline.Window.fill; rw [dif_pos (moved0_6 t _)]
    all_goals blk_point [iblk, V, idx t]

/-- Output 4 by the call's arguments. -/
def G4 (x : FVec Ideal S16384x1024 .f32) (mod : FVec Ideal S9x9x1024 .f32) (g : FVec Ideal S1024 .f32)
    (w : FVec Ideal S1x1024x3104 .f32) : FVec Ideal S16384x128 .f32 :=
  fun i => G (n := 128) x mod g (fun k f => if h : f.val < 32 then w (ix3 0 k ⟨3072 + f.val, by omega⟩) else 0) (i 0) (i 1)

theorem final4 (c : Dev nD) : (dats m 0 c).arrAt 12 cfg0.N = G4 (m ((c : Thread nD τ).loc main_arg0)) (m ((c : Thread nD τ).loc main_arg1))
    (m ((c : Thread nD τ).loc main_arg2)) (m ((c : Thread nD τ).loc main_arg3)) := by
  refine (dats m 0 c).arrAt_eq_of_covers 12 _ (by decide +kernel) fun t _ y => ?_
  blk_simp
  rw [after0_12]
  unfold outsAt0
  frame_out
  canon_tiles x h
  all_goals
    first | refine (pay16_at _ _ _ _ _).trans ?_ | refine (pay7_at _ _ _ _ _).trans ?_
    unfold G4 G
    refine col_congr (fun k => modn_congr (fun d => ?_) (fun d => ?_) (fun d => ?_) (fun d => ?_) rfl) (fun k => ?_)
    on_goal 5 =>
      refine (congrFun (tail_eq m c) _).trans ((tail_at _ _ k (x 1) (by blk_simp [idx t]) (by blk_simp [idx t])).trans ?_)
      have e : ((((View.whole main_v5_4).slice (win0_12.rect t)).emb y 1 : Fin 128)) = x 1 := Fin.ext (by blk_simp [idx t]; omega)
      rw [e]
    all_goals blk_point [iblk, V, idx t]

end Cert.In1
-- ==== Proof.In1Claim.lean ====
/- The odd layer's projections: the reference's five results, and the equality with the kernel's. -/
module

public import proofs.«01_k».proof.Proof.In1
public import proofs.«01_k».proof.Proof.RefFfn
public import proofs.«01_k».proof.Proof.Gen.Reference6Ideal.Run
public import proofs.«01_k».proof.Defs

@[expose] public section

set_option maxRecDepth 16384

noncomputable section

namespace Cert.In1

open Idealize.ShloMosaic Idealize.ShloMosaic.TcCoe Idealize.SL.Sem
open Cert.Ffn (modn modn_congr)
open Cert.Cols

section
open Cert.Reference6Ideal Cert.Reference6Ideal.Gen Cert.Reference6Ideal.Value Cert.RefFfn

/-- The reference's one product, all columns. -/
def Y (x : FVec Ideal S16384x1024 .f32) (mod : FVec Ideal S9x9x1024 .f32) (g : FVec Ideal S1024 .f32) (w : FVec Ideal S1x1024x3104 .f32) :
    FVec Ideal S16384x3104 .f32 :=
  Host.dotGeneral dot_S16384x1024_S1024x3104_S16384x3104_1_0_0_1_n_n none
    (refH x g (perRow (extractStridedSlice S9x1x1024 ![0, 4, 0] mod slices_S9x9x1024_S9x1x1024_0_4_0))
      (perRow (extractStridedSlice S9x1x1024 ![0, 3, 0] mod slices_S9x9x1024_S9x1x1024_0_3_0)))
    (shapeCast S1024x3104 w shapeCasts_S1x1024x3104_S1024x3104)

theorem Y_at (x : FVec Ideal S16384x1024 .f32) (mod : FVec Ideal S9x9x1024 .f32) (g : FVec Ideal S1024 .f32) (w : FVec Ideal S1x1024x3104 .f32)
    (i : S16384x3104.Idx) : Y x mod g w i = G (n := 3104) x mod g (fun k f => w (ix3 0 k f)) (i 0) (i 1) := by
  have h0 : (i 0).val < 16384 := (i 0).isLt
  unfold Y G col
  pointwise
  refine Finset.sum_congr rfl fun k _ => congrArg (· * _) ?_
  refine (refH_at _ _ _ _ _).trans (modn_congr (fun k => ?_) (fun k => ?_) (fun k => ?_) (fun k => ?_) ?_)
  case refine_3 => exact Eq.trans (perRow_ix _ (i 0) k ⟨(i 0).val / 1024 - 7, by omega⟩ rfl) (by pointwise)
  case refine_4 => exact Eq.trans (perRow_ix _ (i 0) k ⟨(i 0).val / 1024 - 7, by omega⟩ rfl) (by pointwise)
  all_goals first | rfl | pointwise

theorem ref0 (x : FVec Ideal S16384x1024 .f32) (mod : FVec Ideal S9x9x1024 .f32) (g : FVec Ideal S1024 .f32) (w : FVec Ideal S1x1024x3104 .f32) :
    extractStridedSlice S16384x512 ![0, 0] (Y x mod g w) slices_S16384x3104_S16384x512_0_0 = G0 x mod g w := by
  funext i
  refine Eq.trans (b := Y x mod g w (ix2 (i 0) ⟨0 + (i 1).val, by have h : (i 1).val < 512 := (i 1).isLt; omega⟩)) (by pointwise) ((Y_at x mod g w _).trans ?_)
  unfold G0 G
  pointwise

theorem ref1 (x : FVec Ideal S16384x1024 .f32) (mod : FVec Ideal S9x9x1024 .f32) (g : FVec Ideal S1024 .f32) (w : FVec Ideal S1x1024x3104 .f32) :
    extractStridedSlice S16384x512 ![0, 512] (Y x mod g w) slices_S16384x3104_S16384x512_0_512 = G1 x mod g w := by
  funext i
  refine Eq.trans (b := Y x mod g w (ix2 (i 0) ⟨512 + (i 1).val, by have h : (i 1).val < 512 := (i 1).isLt; omega⟩)) (by pointwise) ((Y_at x mod g w _).trans ?_)
  unfold G1 G
  pointwise

theorem ref2 (x : FVec Ideal S16384x1024 .f32) (mod : FVec Ideal S9x9x1024 .f32) (g : FVec Ideal S1024 .f32) (w : FVec Ideal S1x1024x3104 .f32) :
    truncf .bf16 (extractStridedSlice S16384x1024 ![0, 1024] (Y x mod g w) slices_S16384x3104_S16384x1024_0_1024) bitsLt_bf16_f32 = G2 x mod g w := by
  funext i
  refine Eq.trans (b := Y x mod g w (ix2 (i 0) ⟨1024 + (i 1).val, by have h : (i 1).val < 1024 := (i 1).isLt; omega⟩)) (by pointwise) ((Y_at x mod g w _).trans ?_)
  unfold G2 G
  pointwise

theorem ref3 (x : FVec Ideal S16384x1024 .f32) (mod : FVec Ideal S9x9x1024 .f32) (g : FVec Ideal S1024 .f32) (w : FVec Ideal S1x1024x3104 .f32) :
    truncf .bf16 (extractStridedSlice S16384x1024 ![0, 2048] (Y x mod g w) slices_S16384x3104_S16384x1024_0_2048) bitsLt_bf16_f32 = G3 x mod g w := by
  funext i
  refine Eq.trans (b := Y x mod g w (ix2 (i 0) ⟨2048 + (i 1).val, by have h : (i 1).val < 1024 := (i 1).isLt; omega⟩)) (by pointwise) ((Y_at x mod g w _).trans ?_)
  unfold G3 G
  pointwise

theorem ref4 (x : FVec Ideal S16384x1024 .f32) (mod : FVec Ideal S9x9x1024 .f32) (g : FVec Ideal S1024 .f32) (w : FVec Ideal S1x1024x3104 .f32) :
    concatenate S16384x128 1 [⟨S16384x32, extractStridedSlice S16384x32 ![0, 3072] (Y x mod g w) slices_S16384x3104_S16384x32_0_3072⟩,
      ⟨S16384x96, broadcastInDim S16384x96 ![] bcast_S_S16384x96 (constant (F := Ideal) S_ .f32 0x00000000#32)⟩] concatenates_S16384x32_S16384x96_S16384x128_d1
      = G4 x mod g w := by
  funext i
  have hi : (i 1).val < 128 := (i 1).isLt
  have e : G4 x mod g w i = if h : (i 1).val < 32 then Y x mod g w (ix2 (i 0) ⟨3072 + (i 1).val, by omega⟩) else 0 := by
    by_cases h : (i 1).val < 32
    · rw [dif_pos h, Y_at]
      unfold G4 G
      exact col_congr (fun _ => rfl) fun k => dif_pos h
    · rw [dif_neg h]
      unfold G4 G col
      exact Finset.sum_eq_zero fun k _ => (congrArg (_ * ·) (dif_neg h)).trans (mul_zero _)
  rw [e]
  pointwise
end

/-- The two programs' five results are the same arrays. -/
theorem algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => G0 (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)), fun c => G1 (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)), fun c => G2 (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)), fun c => G3 (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)), fun c => G4 (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)), ?_, ?_⟩
  · refine (θ_run _ _ _).mono (fun r h c => ?_) (Cert.Kernel6Ideal.Value.run_blocks m g)
    obtain ⟨h0, h1, h2, h3, h4, hk⟩ := h c
    exact ⟨h0.trans (final0 m c), h1.trans (final1 m c), h2.trans (final2 m c), h3.trans (final3 m c), h4.trans (final4 m c), hk⟩
  · refine (θ_run _ _ _).mono (fun r h c => ?_) (Cert.Reference6Ideal.Value.run m' g')
    obtain ⟨e0, e1, e2, e3⟩ := hargs c
    obtain ⟨h0, h1, h2, h3, h4, hk⟩ := h c
    refine ⟨?_, ?_, ?_, ?_, ?_, hk⟩
    · show _ = G0 _ _ _ _
      rw [h0, ← ref0, ← e0, ← e1, ← e2, ← e3]
      rfl
    · show _ = G1 _ _ _ _
      rw [h1, ← ref1, ← e0, ← e1, ← e2, ← e3]
      rfl
    · show _ = G2 _ _ _ _
      rw [h2, ← ref2, ← e0, ← e1, ← e2, ← e3]
      rfl
    · show _ = G3 _ _ _ _
      rw [h3, ← ref3, ← e0, ← e1, ← e2, ← e3]
      rfl
    · show _ = G4 _ _ _ _
      rw [h4, ← ref4, ← e0, ← e1, ← e2, ← e3]
      rfl

end Cert.In1
-- ==== Proof.Ffn2.lean ====
/- The layer's mixer output and its second half-step feed-forward: the kernel's result and the reference's result are the same
   array. -/
module

public import proofs.«01_k».proof.Proof.Gen.Kernel7Ideal.Value
public import proofs.«01_k».proof.Proof.Gen.Reference7Ideal.Run
public import proofs.«01_k».proof.Proof.RefFfn
public import proofs.«01_k».proof.Defs

@[expose] public section

set_option maxRecDepth 16384

noncomputable section

namespace Cert.Ffn2Proof

open Idealize.ShloMosaic Idealize.ShloMosaic.TcCoe Idealize.SL.Sem
open Idealize.ShloMosaic.Pipeline (Dat)
open Cert.Ffn

/-- A gate's number times its logistic, which the body writes by a hyperbolic tangent. -/
def sil (z : EReal) : EReal :=
  z * (Ideal.ofBits .f32 0x3F000000#32 * Ideal.tanh (Ideal.ofBits .f32 0x3F000000#32 * z) + Ideal.ofBits .f32 0x3F000000#32)

theorem sil_eq (z : EReal) : sil z = z * Ideal.div 1 (1 + Ideal.exp (-z)) := by
  unfold sil
  rw [Scalars.half_tanh]
  rfl

/-- One head's row of a mixer, from its 128 columns of the scan's sum `s` and of the gate `z`. -/
def head (s z g : Fin 128 → EReal) (q : Fin 128) : EReal :=
  s q * Ideal.rsqrt (Ideal.div (∑ k, s k * s k) (Ideal.ofBits .f32 0x43000000#32) + Ideal.ofBits .f32 0x358637BD#32) * g q * sil (z q)

/-- The four heads' rows side by side. -/
def heads (s z : Fin 512 → EReal) (g : Fin 128 → EReal) (f : Fin 512) : EReal :=
  head (fun k => s ⟨128 * (f.val / 128) + k.val, by omega⟩) (fun k => z ⟨128 * (f.val / 128) + k.val, by omega⟩) g ⟨f.val % 128, by omega⟩

/-- The scan's heads, then the attention's. -/
def mix (a b : Fin 512 → EReal) (k : Fin 1024) : EReal :=
  if h : k.val < 512 then a ⟨k.val, h⟩ else b ⟨k.val - 512, by omega⟩

/-- The input plus the gated projection of the mixed row. -/
def proj (x gt mx : Fin 1024 → EReal) (w : Fin 1024 → Fin 1024 → EReal) (d : Fin 1024) : EReal :=
  x d + gt d * ∑ k, mx k * w k d

theorem proj_congr {x x' gt gt' mx mx' : Fin 1024 → EReal} {w w' : Fin 1024 → Fin 1024 → EReal} {d d' : Fin 1024} (hx : ∀ k, x k = x' k)
    (hg : ∀ k, gt k = gt' k) (hm : ∀ k, mx k = mx' k) (hw : ∀ k d, w k d = w' k d) (hd : d = d') : proj x gt mx w d = proj x' gt' mx' w' d' := by
  rw [funext hx, funext hg, funext hm, funext fun k => funext (hw k), hd]

theorem heads_congr {s s' z z' : Fin 512 → EReal} {g g' : Fin 128 → EReal} (hs : ∀ k, s k = s' k) (hz : ∀ k, z k = z' k)
    (hg : ∀ k, g k = g' k) : heads s z g = heads s' z' g' := by
  rw [funext hs, funext hz, funext hg]

/-- A sum of 1024 terms in the body's order: the second half, then the first half in two parts. -/
theorem sum_parts (f : Fin 1024 → EReal) : ∑ k, f k = ((∑ k : Fin 512, f ⟨512 + k.val, by omega⟩) + ∑ k : Fin 256, f ⟨0 + k.val, by omega⟩)
    + ∑ k : Fin 256, f ⟨256 + k.val, by omega⟩ := by
  have h1 : ∑ k, f k = (∑ k : Fin 512, f ⟨k.val, by omega⟩) + ∑ k : Fin 512, f ⟨512 + k.val, by omega⟩ := Fin.sum_univ_add (a := 512) (b := 512) f
  have h2 : ∑ k : Fin 512, f ⟨k.val, by omega⟩ = (∑ k : Fin 256, f ⟨k.val, by omega⟩) + ∑ k : Fin 256, f ⟨256 + k.val, by omega⟩ :=
    Fin.sum_univ_add (a := 256) (b := 256) fun k : Fin 512 => f ⟨k.val, by omega⟩
  have h3 : ∑ k : Fin 256, f ⟨k.val, by omega⟩ = ∑ k : Fin 256, f ⟨0 + k.val, by omega⟩ :=
    Finset.sum_congr rfl fun k _ => congrArg f (Fin.ext (by dsimp only; omega))
  rw [h1, h2, h3]
  exact (add_comm _ _).trans (add_assoc _ _ _).symm

section
open Cert.Kernel7Ideal Cert.Kernel7Ideal.Gen

/-- A head of a block of rows. -/
def headK (s z : FVec Ideal S512x128 .f32) (g : FVec Ideal S1x128 .f32) : FVec Ideal S512x128 .f32 :=
  mulf (mulf (mulf s (broadcastTo S512x128 (rsqrt (addf (divf (shapeCast S512x1 (multiReduction .add [1] S512 (mulf s s) 0x00000000#32
      reduces_S512x128_S512 (.inl rfl) rfl) shapeCasts_S512_S512x1) (broadcast S512x1 (Scalar.ofBits .f32 0x43000000#32)))
      (broadcast S512x1 (Scalar.ofBits .f32 0x358637BD#32)))) broadcasts_S512x1_S512x128))
      (broadcastTo S512x128 (shapeCast S1x128 g shapeCasts_S1x128_S1x128) broadcasts_S1x128_S512x128))
    (mulf z (addf (mulf (broadcast S512x128 (Scalar.ofBits .f32 0x3F000000#32)) (tanh (mulf (broadcast S512x128 (Scalar.ofBits .f32 0x3F000000#32)) z)))
      (broadcast S512x128 (Scalar.ofBits .f32 0x3F000000#32))))

theorem headK_at (s z : FVec Ideal S512x128 .f32) (g : FVec Ideal S1x128 .f32) (j : S512x128.Idx) :
    headK s z g j = head (fun k => s (ix2 (j 0) k)) (fun k => z (ix2 (j 0) k)) (fun k => g (ix2 0 k)) (j 1) := by
  pointwise [headK, head, sil]

/-- `c` is the `h`-th run of 128 columns of `A`. -/
def IsHead (A : Fin 512 → Fin 512 → EReal) (h : ℕ) (c : FVec Ideal S512x128 .f32) : Prop :=
  ∀ (r : Fin 512) (q : Fin 128) (f : Fin 512), f.val = 128 * h + q.val → c (ix2 r q) = A r f

theorem isHead_slice (v : FVec Ideal S512x512 .f32) (h o : ℕ) (ho : o = 128 * h) (hs : S512x512.Slices ![0, o] S512x128) :
    IsHead (fun r f => v (ix2 r f)) h (extractStridedSlice S512x128 ![0, o] v hs) := by
  subst ho
  intro r q f hf
  pointwise
  blk_ext

theorem isHead_headK (S Z : Fin 512 → Fin 512 → EReal) (h : ℕ) (s z : FVec Ideal S512x128 .f32) (g : FVec Ideal S1x128 .f32)
    (hs : IsHead S h s) (hz : IsHead Z h z) : IsHead (fun r f => heads (S r) (Z r) (fun k => g (ix2 0 k)) f) h (headK s z g) := by
  intro r q f hf
  rw [headK_at]
  unfold heads
  have e1 : (fun k : Fin 128 => s (ix2 r k)) = fun k => S r ⟨128 * (f.val / 128) + k.val, by omega⟩ :=
    funext fun k => hs _ _ _ (by dsimp only; omega)
  have e2 : (fun k : Fin 128 => z (ix2 r k)) = fun k => Z r ⟨128 * (f.val / 128) + k.val, by omega⟩ :=
    funext fun k => hz _ _ _ (by dsimp only; omega)
  have e3 : q = ⟨f.val % 128, by omega⟩ := Fin.ext (by dsimp only; omega)
  show head (fun k => s (ix2 r k)) (fun k => z (ix2 r k)) _ q = _
  rw [e1, e2]
  exact congrArg _ e3

/-- Two heads side by side times their 256 rows of the projection. -/
def pair (a b : FVec Ideal S512x128 .bf16) (w : FVec Ideal S256x1024 .bf16) : FVec Ideal S512x1024 .f32 :=
  matmul dot_S512x256_S256x1024_S512x1024_1_0_0_1_n_n none
    (concatenate S512x256 1 [⟨S512x128, a⟩, ⟨S512x128, b⟩] concatenates_S512x128_S512x128_S512x256_d1) w (constant S512x1024 .f32 0x00000000#32)

theorem pair_at (A : Fin 512 → Fin 512 → EReal) (h : ℕ) (hh : h ≤ 2) (a b : FVec Ideal S512x128 .bf16) (w : FVec Ideal S256x1024 .bf16)
    (ha : IsHead A h a) (hb : IsHead A (h + 1) b) (j : S512x1024.Idx) :
    pair a b w j = ∑ k : Fin 256, A (j 0) ⟨128 * h + k.val, by omega⟩ * w (ix2 k (j 1)) := by
  have e : ∑ k : Fin 256, A (j 0) ⟨128 * h + k.val, by omega⟩ * w (ix2 k (j 1))
      = (∑ k : Fin 128, A (j 0) ⟨128 * h + k.val, by omega⟩ * w (ix2 ⟨k.val, by omega⟩ (j 1)))
        + ∑ k : Fin 128, A (j 0) ⟨128 * h + (128 + k.val), by omega⟩ * w (ix2 ⟨128 + k.val, by omega⟩ (j 1)) :=
    Fin.sum_univ_add (a := 128) (b := 128) fun k : Fin 256 => A (j 0) ⟨128 * h + k.val, by omega⟩ * w (ix2 k (j 1))
  rw [e]
  pointwise [pair]
  refine congrArg₂ (· + ·) (Finset.sum_congr rfl fun k _ => ?_) (Finset.sum_congr rfl fun k _ => ?_)
  · exact congrArg (fun z : EReal => z * _) (ha _ _ _ rfl)
  · exact congrArg (fun z : EReal => z * _) (hb _ _ _ (by dsimp only; omega))

/-- The attention's rows times their half of the projection. -/
theorem pay6_at (i : grid0.Coords) (a b : FVec Ideal S512x512 .bf16) (w : FVec Ideal S512x1024 .bf16) (j : S512x1024.Idx) :
    k0_pay6 (F := Ideal) i a b w j = ∑ k : Fin 512, (if (i 0).val < 16 then a (ix2 (j 0) k) else b (ix2 (j 0) k)) * w (ix2 k (j 1)) := by
  have hb : ∀ n : Fin 32, Scalar.cmpi .slt (BitVec.ofNat 32 n.val) 16#32 = if n.val < 16 then 1#1 else 0#1 := by decide
  unfold k0_pay6
  dsimp only
  rw [hb (i 0)]
  by_cases h : (i 0).val < 16
  · simp only [if_pos h]
    show matmul _ none a w _ j = _
    pointwise
  · simp only [if_neg h]
    show matmul _ none b w _ j = _
    pointwise

/-- The rows after the mixer. -/
def xK (i : grid0.Coords) (X : FVec Ideal S512x1024 .f32) (M : FVec Ideal S1x9x1024 .f32) (of ob z a b : FVec Ideal S512x512 .bf16)
    (g : FVec Ideal S1x128 .f32) (Wh : FVec Ideal S512x1024 .bf16) (W0 W1 : FVec Ideal S256x1024 .bf16) : FVec Ideal S512x1024 .f32 :=
  k0_pay15 X (k0_pay3 M) (k0_pay10 (k0_pay4 of ob) (k0_pay5 z) (k0_pay6 i a b Wh) (k0_pay7 of ob g) (k0_pay8 z) k0_pay9 g W0)
    (k0_pay13 (k0_pay5 z) (k0_pay11 (k0_pay4 of ob)) (k0_pay12 (k0_pay4 of ob)) g) (k0_pay14 (k0_pay4 of ob) (k0_pay5 z) g) W1

theorem xK_eq (i : grid0.Coords) (X : FVec Ideal S512x1024 .f32) (M : FVec Ideal S1x9x1024 .f32) (of ob z a b : FVec Ideal S512x512 .bf16)
    (g : FVec Ideal S1x128 .f32) (Wh : FVec Ideal S512x1024 .bf16) (W0 W1 : FVec Ideal S256x1024 .bf16) :
    xK i X M of ob z a b g Wh W0 W1 = addf X (mulf (broadcastTo S512x1024 (k0_pay3 M) broadcasts_S1x1024_S512x1024)
      (addf (addf (k0_pay6 i a b Wh)
        (pair (headK (extractStridedSlice S512x128 ![0, 0] (k0_pay4 of ob) slices_S512x512_o0_0_S512x128)
            (extractStridedSlice S512x128 ![0, 0] (k0_pay5 z) slices_S512x512_o0_0_S512x128) g)
          (headK (extractStridedSlice S512x128 ![0, 128] (k0_pay4 of ob) slices_S512x512_o0_128_S512x128)
            (extractStridedSlice S512x128 ![0, 128] (k0_pay5 z) slices_S512x512_o0_128_S512x128) g) W0))
        (pair (headK (extractStridedSlice S512x128 ![0, 256] (k0_pay4 of ob) slices_S512x512_o0_256_S512x128)
            (extractStridedSlice S512x128 ![0, 256] (k0_pay5 z) slices_S512x512_o0_256_S512x128) g)
          (headK (extractStridedSlice S512x128 ![0, 384] (k0_pay4 of ob) slices_S512x512_o0_384_S512x128)
            (extractStridedSlice S512x128 ![0, 384] (k0_pay5 z) slices_S512x512_o0_384_S512x128) g) W1))) := rfl

/-- The body's rows after the mixer, when the three parts of the projection are the rows of `w`. -/
theorem xK_at (i : grid0.Coords) (X : FVec Ideal S512x1024 .f32) (M : FVec Ideal S1x9x1024 .f32) (of ob z a b : FVec Ideal S512x512 .bf16)
    (g : FVec Ideal S1x128 .f32) (Wh : FVec Ideal S512x1024 .bf16) (W0 W1 : FVec Ideal S256x1024 .bf16) (w : Fin 1024 → Fin 1024 → EReal)
    (hh : ∀ (k : Fin 512) d, Wh (ix2 k d) = w ⟨512 + k.val, by omega⟩ d) (h0 : ∀ (k : Fin 256) d, W0 (ix2 k d) = w ⟨0 + k.val, by omega⟩ d)
    (h1 : ∀ (k : Fin 256) d, W1 (ix2 k d) = w ⟨256 + k.val, by omega⟩ d) (j : S512x1024.Idx) :
    xK i X M of ob z a b g Wh W0 W1 j = proj (fun d => X (ix2 (j 0) d)) (fun d => M (ix3 0 5 d))
      (mix (heads (fun f => of (ix2 (j 0) f) + ob (ix2 (j 0) f)) (fun f => z (ix2 (j 0) f)) (fun k => g (ix2 0 k)))
        (fun k => if (i 0).val < 16 then a (ix2 (j 0) k) else b (ix2 (j 0) k))) w (j 1) := by
  have hS : ∀ (h o : ℕ) (ho : o = 128 * h) (hs : S512x512.Slices ![0, o] S512x128),
      IsHead (fun r f => heads (fun f => of (ix2 r f) + ob (ix2 r f)) (fun f => z (ix2 r f)) (fun k => g (ix2 0 k)) f) h
        (headK (extractStridedSlice S512x128 ![0, o] (k0_pay4 of ob) hs) (extractStridedSlice S512x128 ![0, o] (k0_pay5 z) hs) g) :=
    fun h o ho hs => isHead_headK _ _ h _ _ g (isHead_slice (k0_pay4 of ob) h o ho hs) (isHead_slice (k0_pay5 z) h o ho hs)
  rw [xK_eq]
  unfold proj
  rw [sum_parts]
  refine congrArg₂ (· + ·) (congrArg X (by idx_vars j)) (congrArg₂ (· * ·) ?_ (congrArg₂ (· + ·) (congrArg₂ (· + ·) ?_ ?_) ?_))
  · pointwise [k0_pay3, k0_pay2]
  · refine (pay6_at i a b Wh j).trans (Finset.sum_congr rfl fun k _ => congrArg₂ (· * ·) ?_ (hh k _))
    unfold mix
    rw [dif_neg (by dsimp only; omega)]
    simp only [Nat.add_sub_cancel_left]
  · refine (pair_at _ 0 (by omega) _ _ W0 (hS 0 0 rfl _) (hS 1 128 rfl _) j).trans (Finset.sum_congr rfl fun k _ => congrArg₂ (· * ·) ?_ (h0 k _))
    unfold mix
    rw [dif_pos (by dsimp only; omega)]
  · refine (pair_at _ 2 (by omega) _ _ W1 (hS 2 256 rfl _) (hS 3 384 rfl _) j).trans (Finset.sum_congr rfl fun k _ => congrArg₂ (· * ·) ?_ (h1 k _))
    unfold mix
    rw [dif_pos (by dsimp only; omega)]

/-- The second norm of the rows, modulated. -/
def normK (M : FVec Ideal S1x9x1024 .f32) (X : FVec Ideal S512x1024 .f32) (g : FVec Ideal S1x1024 .f32) : FVec Ideal S512x1024 .f32 :=
  addf (mulf (mulf (mulf X (broadcastTo S512x1024 (rsqrt (addf (divf (shapeCast S512x1 (multiReduction .add [1] S512 (mulf X X) 0x00000000#32
      reduces_S512x1024_S512 (.inl rfl) rfl) shapeCasts_S512_S512x1) (broadcast S512x1 (Scalar.ofBits .f32 0x44800000#32)))
      (broadcast S512x1 (Scalar.ofBits .f32 0x358637BD#32)))) broadcasts_S512x1_S512x1024))
      (broadcastTo S512x1024 (shapeCast S1x1024 g shapeCasts_S1x1024_S1x1024) broadcasts_S1x1024_S512x1024))
      (broadcastTo S512x1024 (addf (broadcast S1x1024 (Scalar.ofBits .f32 0x3F800000#32))
        (extractStridedSlice S1x1024 ![7, 0] (k0_pay2 M) slices_S9x1024_o7_0_S1x1024)) broadcasts_S1x1024_S512x1024))
    (broadcastTo S512x1024 (extractStridedSlice S1x1024 ![6, 0] (k0_pay2 M) slices_S9x1024_o6_0_S1x1024) broadcasts_S1x1024_S512x1024)

theorem normK_at (M : FVec Ideal S1x9x1024 .f32) (X : FVec Ideal S512x1024 .f32) (g : FVec Ideal S1x1024 .f32) (j : S512x1024.Idx) :
    normK M X g j = modn (fun d => X (ix2 (j 0) d)) (fun d => g (ix2 0 d)) (fun d => M (ix3 0 7 d)) (fun d => M (ix3 0 6 d)) (j 1) := by
  pointwise [normK, k0_pay2, modn]

/-- The rows after the mixer, from the blocks of the grid point. -/
def xB (i : grid0.Coords) (x0 : FVec Ideal S512x1024 .f32) (x1 : FVec Ideal S1x9x1024 .f32) (x5 x6 x7 : FVec Ideal S512x512 .bf16)
    (x8 : FVec Ideal S1x128 .f32) (x9 : FVec Ideal S1024x1024 .bf16) (x10 x11 : FVec Ideal S512x512 .bf16) : FVec Ideal S512x1024 .f32 :=
  xK i (View.ld (Val := Elt Ideal) (e' := .f32) x0 r0_1) (View.ld (Val := Elt Ideal) (e' := .f32) x1 r0_0) (View.ld (Val := Elt Ideal) (e' := .bf16) x5 r0_2) (View.ld (Val := Elt Ideal) (e' := .bf16) x6 r0_2) (View.ld (Val := Elt Ideal) (e' := .bf16) x7 r0_2) (View.ld (Val := Elt Ideal) (e' := .bf16) x10 r0_2) (View.ld (Val := Elt Ideal) (e' := .bf16) x11 r0_2)
    (View.ld (Val := Elt Ideal) (e' := .f32) x8 r0_4) (View.ld (Val := Elt Ideal) (e' := .bf16) x9 r0_3) (View.ld (Val := Elt Ideal) (e' := .bf16) x9 r0_5) (View.ld (Val := Elt Ideal) (e' := .bf16) x9 r0_6)

theorem xB_at (i : grid0.Coords) (x0 : FVec Ideal S512x1024 .f32) (x1 : FVec Ideal S1x9x1024 .f32) (x5 x6 x7 : FVec Ideal S512x512 .bf16)
    (x8 : FVec Ideal S1x128 .f32) (x9 : FVec Ideal S1024x1024 .bf16) (x10 x11 : FVec Ideal S512x512 .bf16) (j : S512x1024.Idx) :
    xB i x0 x1 x5 x6 x7 x8 x9 x10 x11 j = proj (fun d => x0 (ix2 (j 0) d)) (fun d => x1 (ix3 0 5 d))
      (mix (heads (fun f => x5 (ix2 (j 0) f) + x6 (ix2 (j 0) f)) (fun f => x7 (ix2 (j 0) f)) (fun k => x8 (ix2 0 k)))
        (fun k => if (i 0).val < 16 then x10 (ix2 (j 0) k) else x11 (ix2 (j 0) k))) (fun k d => x9 (ix2 k d)) (j 1) := by
  unfold xB
  refine (xK_at _ _ _ _ _ _ _ _ _ _ _ _ (fun k d => x9 (ix2 k d)) ?_ ?_ ?_ j).trans ?_
  · intro k d
    pointwise
  · intro k d
    pointwise
  · intro k d
    pointwise
  · refine proj_congr (fun k => ?_) (fun k => ?_) (fun k => congrArg (fun f => f k) (congrArg₂ mix
      (heads_congr (fun k => congrArg₂ (· + ·) ?_ ?_) (fun k => ?_) (fun k => ?_)) (funext fun k => ?_))) (fun _ _ => rfl) rfl
    all_goals pointwise

/-- What the body leaves in the output block. -/
theorem out_eq (i : grid0.Coords) (x0 : FVec Ideal S512x1024 .f32) (x1 : FVec Ideal S1x9x1024 .f32) (x2 : FVec Ideal S1x1024 .f32)
    (x3 : FVec Ideal S1x1x1024x5632 .bf16) (x4 : FVec Ideal S1x1x2816x1024 .bf16) (x5 x6 x7 : FVec Ideal S512x512 .bf16)
    (x8 : FVec Ideal S1x128 .f32) (x9 : FVec Ideal S1024x1024 .bf16) (x10 x11 : FVec Ideal S512x512 .bf16) :
    out0_12 (F := Ideal) i x0 x1 x2 x3 x4 x5 x6 x7 x8 x9 x10 x11
      = View.canon [⟨r0_1, addf (xB i x0 x1 x5 x6 x7 x8 x9 x10 x11) (closing (extractStridedSlice S1x1024 ![8, 0] (k0_pay2 (View.ld (Val := Elt Ideal) (e' := .f32) x1 r0_0)) slices_S9x1024_o8_0_S1x1024)
          (chunk (normK (View.ld (Val := Elt Ideal) (e' := .f32) x1 r0_0) (xB i x0 x1 x5 x6 x7 x8 x9 x10 x11) (View.ld (Val := Elt Ideal) (e' := .f32) x2 r0_7)) (View.ld (Val := Elt Ideal) (e' := .bf16) x3 r0_8) (View.ld (Val := Elt Ideal) (e' := .bf16) x3 r0_9)) (chunk (normK (View.ld (Val := Elt Ideal) (e' := .f32) x1 r0_0) (xB i x0 x1 x5 x6 x7 x8 x9 x10 x11) (View.ld (Val := Elt Ideal) (e' := .f32) x2 r0_7)) (View.ld (Val := Elt Ideal) (e' := .bf16) x3 r0_10) (View.ld (Val := Elt Ideal) (e' := .bf16) x3 r0_11)) (chunk (normK (View.ld (Val := Elt Ideal) (e' := .f32) x1 r0_0) (xB i x0 x1 x5 x6 x7 x8 x9 x10 x11) (View.ld (Val := Elt Ideal) (e' := .f32) x2 r0_7)) (View.ld (Val := Elt Ideal) (e' := .bf16) x3 r0_12) (View.ld (Val := Elt Ideal) (e' := .bf16) x3 r0_13)) (chunk (normK (View.ld (Val := Elt Ideal) (e' := .f32) x1 r0_0) (xB i x0 x1 x5 x6 x7 x8 x9 x10 x11) (View.ld (Val := Elt Ideal) (e' := .f32) x2 r0_7)) (View.ld (Val := Elt Ideal) (e' := .bf16) x3 r0_14) (View.ld (Val := Elt Ideal) (e' := .bf16) x3 r0_15)) (chunk (normK (View.ld (Val := Elt Ideal) (e' := .f32) x1 r0_0) (xB i x0 x1 x5 x6 x7 x8 x9 x10 x11) (View.ld (Val := Elt Ideal) (e' := .f32) x2 r0_7)) (View.ld (Val := Elt Ideal) (e' := .bf16) x3 r0_16) (View.ld (Val := Elt Ideal) (e' := .bf16) x3 r0_17)) (chunk (normK (View.ld (Val := Elt Ideal) (e' := .f32) x1 r0_0) (xB i x0 x1 x5 x6 x7 x8 x9 x10 x11) (View.ld (Val := Elt Ideal) (e' := .f32) x2 r0_7)) (View.ld (Val := Elt Ideal) (e' := .bf16) x3 r0_18) (View.ld (Val := Elt Ideal) (e' := .bf16) x3 r0_19)) (chunk (normK (View.ld (Val := Elt Ideal) (e' := .f32) x1 r0_0) (xB i x0 x1 x5 x6 x7 x8 x9 x10 x11) (View.ld (Val := Elt Ideal) (e' := .f32) x2 r0_7)) (View.ld (Val := Elt Ideal) (e' := .bf16) x3 r0_20) (View.ld (Val := Elt Ideal) (e' := .bf16) x3 r0_21)) (chunk (normK (View.ld (Val := Elt Ideal) (e' := .f32) x1 r0_0) (xB i x0 x1 x5 x6 x7 x8 x9 x10 x11) (View.ld (Val := Elt Ideal) (e' := .f32) x2 r0_7)) (View.ld (Val := Elt Ideal) (e' := .bf16) x3 r0_22) (View.ld (Val := Elt Ideal) (e' := .bf16) x3 r0_23)) (chunk (normK (View.ld (Val := Elt Ideal) (e' := .f32) x1 r0_0) (xB i x0 x1 x5 x6 x7 x8 x9 x10 x11) (View.ld (Val := Elt Ideal) (e' := .f32) x2 r0_7)) (View.ld (Val := Elt Ideal) (e' := .bf16) x3 r0_24) (View.ld (Val := Elt Ideal) (e' := .bf16) x3 r0_25)) (chunk (normK (View.ld (Val := Elt Ideal) (e' := .f32) x1 r0_0) (xB i x0 x1 x5 x6 x7 x8 x9 x10 x11) (View.ld (Val := Elt Ideal) (e' := .f32) x2 r0_7)) (View.ld (Val := Elt Ideal) (e' := .bf16) x3 r0_26) (View.ld (Val := Elt Ideal) (e' := .bf16) x3 r0_27)) (chunk (normK (View.ld (Val := Elt Ideal) (e' := .f32) x1 r0_0) (xB i x0 x1 x5 x6 x7 x8 x9 x10 x11) (View.ld (Val := Elt Ideal) (e' := .f32) x2 r0_7)) (View.ld (Val := Elt Ideal) (e' := .bf16) x3 r0_28) (View.ld (Val := Elt Ideal) (e' := .bf16) x3 r0_29)) (View.ld (Val := Elt Ideal) (e' := .bf16) x4 r0_30))⟩] := rfl

/-- The attention's rows: the prompt's, then the sample's. -/
def rows (ap sa : FVec Ideal S8192x512 .bf16) (a : Fin 16384) (k : Fin 512) : EReal :=
  if h : a.val < 8192 then ap (ix2 ⟨a.val, h⟩ k) else sa (ix2 ⟨a.val - 8192, by omega⟩ k)

/-- Row `a` after the mixer. -/
def X (x : FVec Ideal S16384x1024 .f32) (mod : FVec Ideal S9x9x1024 .f32) (of ob z : FVec Ideal S16384x512 .bf16) (on : FVec Ideal S128 .f32)
    (wo : FVec Ideal S1024x1024 .bf16) (ap sa : FVec Ideal S8192x512 .bf16) (a : Fin 16384) (d : Fin 1024) : EReal :=
  proj (fun d => x (ix2 a d)) (fun d => mod (ix3 ⟨a.val / 1024 - 7, by omega⟩ 5 d))
    (mix (heads (fun f => of (ix2 a f) + ob (ix2 a f)) (fun f => z (ix2 a f)) (fun k => on (ix1 k))) (fun k => rows ap sa a k))
    (fun k d => wo (ix2 k d)) d

/-- The result by array index, of the twelve arguments. -/
def G (x : FVec Ideal S16384x1024 .f32) (mod : FVec Ideal S9x9x1024 .f32) (g : FVec Ideal S1024 .f32)
    (w : FVec Ideal S2x1x1024x5632 .bf16) (wd : FVec Ideal S2x1x2816x1024 .bf16) (of ob z : FVec Ideal S16384x512 .bf16)
    (on : FVec Ideal S128 .f32) (wo : FVec Ideal S1024x1024 .bf16) (ap sa : FVec Ideal S8192x512 .bf16) : FVec Ideal S16384x1024 .f32 := fun i =>
  have h0 : (i 0).val < 16384 := (i 0).isLt
  ffnRow (fun d => X x mod of ob z on wo ap sa ⟨(i 0).val, h0⟩ d)
    (modn (fun d => X x mod of ob z on wo ap sa ⟨(i 0).val, h0⟩ d) (fun d => g (ix1 d)) (fun d => mod (ix3 ⟨(i 0).val / 1024 - 7, by omega⟩ 7 d))
      (fun d => mod (ix3 ⟨(i 0).val / 1024 - 7, by omega⟩ 6 d)))
    (mod (ix3 ⟨(i 0).val / 1024 - 7, by omega⟩ 8 ⟨(i 1).val, (i 1).isLt⟩)) (fun k f => w (ix4 0 0 k f)) (fun f d => wd (ix4 0 0 f d)) ⟨(i 1).val, (i 1).isLt⟩

variable (m : (ℓ : Loc nD τ sig) → Buf (Elt Ideal) ℓ)

theorem idx : ∀ t : Fin cfg0.N, win0_0.index t = ![t.val, 0] ∧ win0_1.index t = ![t.val / 2 - 7, 0, 0] ∧ win0_2.index t = ![0, 0]
    ∧ win0_3.index t = ![0, 0, 0, 0] ∧ win0_4.index t = ![0, 0, 0, 0] ∧ win0_5.index t = ![t.val, 0] ∧ win0_6.index t = ![t.val, 0]
    ∧ win0_7.index t = ![t.val, 0] ∧ win0_8.index t = ![0, 0] ∧ win0_9.index t = ![0, 0] ∧ win0_10.index t = ![min t.val 15, 0]
    ∧ win0_11.index t = ![t.val - 16, 0] ∧ win0_12.index t = ![t.val, 0] :=
  (by decide +kernel : ∀ t : Fin grid0.N, _)

theorem crd : ∀ t : Fin cfg0.N, ((grid0.coords t) 0).val = t.val :=
  (by decide +kernel : ∀ t : Fin grid0.N, _)

theorem gate_at (M : FVec Ideal S1x9x1024 .f32) (d : Fin 1024) :
    extractStridedSlice S1x1024 ![8, 0] (k0_pay2 M) slices_S9x1024_o8_0_S1x1024 (ix2 0 d) = M (ix3 0 8 d) := by
  pointwise [k0_pay2]

/-- A tile of the bf16 weight. -/
theorem isTile_ld' (B : FVec Ideal S1x1x1024x5632 .bf16) (o : ℕ)
    (hb : ∀ a, (![0, 0, 0, o] : Fin 4 → ℕ) a + S1x1x1024x256.size a ≤ S1x1x1024x5632.size a) :
    IsTile (fun k f => B (ix4 0 0 k f)) o (View.ld (Val := Elt Ideal) (e' := .bf16) B (Rect.unit (s := S1x1x1024x5632) ![0, 0, 0, o] S1x1x1024x256.size hb)) := by
  intro k q f hf
  pointwise
  blk_ext

/-- The block's rows after the mixer are the array's. -/
theorem rowX (c : Dev nD) (t : Fin cfg0.N) (r : Fin 512) (d : Fin 1024) (a : Fin 16384) (ha : a.val = 512 * t.val + r.val) :
    xB (grid0.coords t) (iblk m c 0 t) (iblk m c 1 t) (iblk m c 5 t) (iblk m c 6 t) (iblk m c 7 t) (iblk m c 8 t) (iblk m c 9 t) (iblk m c 10 t)
        (iblk m c 11 t) (ix2 r d)
      = X (m ((c : Thread nD τ).loc main_arg0)) (m ((c : Thread nD τ).loc main_arg1)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) a d := by
  have ht : t.val < 32 := t.isLt
  have hb : 512 * t.val + r.val < 16384 := by
    clear ha
    omega
  obtain rfl : a = ⟨512 * t.val + r.val, hb⟩ := Fin.ext ha
  refine (xB_at _ _ _ _ _ _ _ _ _ _ _).trans ?_
  unfold X
  refine proj_congr (fun k => ?_) (fun k => ?_) (fun k => congrArg (fun f => f k) (congrArg₂ mix
    (heads_congr (fun k => congrArg₂ (fun p q : EReal => p + q) ?_ ?_) (fun k => ?_) (fun k => ?_)) (funext fun k => ?_))) (fun _ _ => ?_) rfl
  case refine_7 =>
    rw [crd t]
    unfold rows
    split_ifs with h h' h'
    · blk_point [iblk, V, idx t]
    · exact absurd h' (by dsimp only; omega)
    · exact absurd h' (by dsimp only; omega)
    · blk_point [iblk, V, idx t]
  all_goals blk_point [iblk, V, idx t]

set_option maxHeartbeats 1000000 in
theorem final (c : Dev nD) : (dats m 0 c).arrAt 12 cfg0.N = G (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) := by
  refine (dats m 0 c).arrAt_eq_of_covers 12 _ (by decide +kernel) fun t _ y => ?_
  blk_simp
  rw [after0_12, out_eq]
  frame_out
  rw [block_at (w := fun k f => iblk m c 3 t (ix4 0 0 k f))]
  · have hy : (y 0).val < 512 := (y 0).isLt
    have ht : t.val < 32 := t.isLt
    unfold G
    refine ffnRow_congr (fun k => ?_) (fun k => (normK_at _ _ _ _).trans (modn_congr (fun k => ?_) (fun k => ?_) (fun k => ?_) (fun k => ?_) ?_)) ?_ (fun k f => ?_) (fun f k => ?_) ?_
    case refine_1 | refine_2 =>
      refine rowX m c t _ k _ ?_
      blk_simp [idx t]
      dsimp only
      omega
    case refine_7 =>
      refine (gate_at _ _).trans ?_
      blk_point [iblk, V, idx t]
    all_goals first | blk_point [iblk, V, idx t] | exact Fin.ext (by blk_simp [idx t])
  all_goals exact ⟨isTile_ld' _ _ _, isTile_ld' _ _ _⟩

end

section
open Cert.Reference7Ideal Cert.Reference7Ideal.Gen Cert.Reference7Ideal.Value Cert.RefFfn
variable (m : (ℓ : Loc nD τ sig) → Buf (Elt Ideal) ℓ)

theorem head_congr {s s' z z' g g' : Fin 128 → EReal} {q q' : Fin 128} (hs : ∀ k, s k = s' k) (hz : ∀ k, z k = z' k)
    (hg : ∀ k, g k = g' k) (hq : q = q') : head s z g q = head s' z' g' q' := by
  rw [funext hs, funext hz, funext hg, hq]

/-- The reference's heads: norm by head, times the gate. -/
def refHeads (o z : FVec Ideal S16384x4x128 .f32) (on : FVec Ideal S128 .f32) : FVec Ideal S16384x4x128 .f32 :=
  mulf (mulf (mulf o (broadcastInDim S16384x4x128 ![0, 1, 2] bcast_S16384x4x1_S16384x4x128_0_1_2 (Host.rsqrt (addf (Host.divf (broadcastInDim
      S16384x4x1 ![0, 1] bcast_S16384x4_S16384x4x1_0_1 (Host.reduceAdd (mulf o o) (constant S_ .f32 0x00000000#32)
      reducesTo_S16384x4x128_S16384x4_d2 h_S_)) (broadcastInDim S16384x4x1 ![] bcast_S_S16384x4x1 (constant S_ .f32 0x43000000#32)))
      (broadcastInDim S16384x4x1 ![] bcast_S_S16384x4x1 (constant S_ .f32 0x358637BD#32)))))) (broadcastInDim S16384x4x128 ![0, 1, 2]
      bcast_S1x1x128_S16384x4x128_0_1_2 (broadcastInDim S1x1x128 ![2] bcast_S128_S1x1x128_2 on)))
    (mulf z (Host.divf (broadcastInDim S16384x4x128 ![] bcast_S_S16384x4x128 (constant S_ .f32 0x3F800000#32)) (addf (broadcastInDim
      S16384x4x128 ![] bcast_S_S16384x4x128 (constant S_ .f32 0x3F800000#32)) (Host.exp (Host.negf z)))))

theorem refHeads_at (o z : FVec Ideal S16384x4x128 .f32) (on : FVec Ideal S128 .f32) (j : S16384x4x128.Idx) :
    refHeads o z on j = head (fun k => o (ix3 (j 0) (j 1) k)) (fun k => z (ix3 (j 0) (j 1) k)) (fun k => on (ix1 k)) (j 2) := by
  pointwise [refHeads, head, sil_eq]

/-- The heads' rows, side by side. -/
def refO (of ob z : FVec Ideal S16384x512 .bf16) (on : FVec Ideal S128 .f32) : FVec Ideal S16384x512 .f32 :=
  shapeCast S16384x512 (refHeads (shapeCast S16384x4x128 (addf (extf .f32 of bitsLt_bf16_f32) (extf .f32 ob bitsLt_bf16_f32))
    shapeCasts_S16384x512_S16384x4x128) (shapeCast S16384x4x128 (extf .f32 z bitsLt_bf16_f32) shapeCasts_S16384x512_S16384x4x128) on)
    shapeCasts_S16384x4x128_S16384x512

theorem refO_at (of ob z : FVec Ideal S16384x512 .bf16) (on : FVec Ideal S128 .f32) (a : Fin 16384) (f : Fin 512) :
    refO of ob z on (ix2 a f) = heads (fun f => of (ix2 a f) + ob (ix2 a f)) (fun f => z (ix2 a f)) (fun k => on (ix1 k)) f := by
  have e : ∀ v : FVec Ideal S16384x4x128 .f32, shapeCast S16384x512 v shapeCasts_S16384x4x128_S16384x512 (ix2 a f)
      = v (ix3 a ⟨f.val / 128, by omega⟩ ⟨f.val % 128, by omega⟩) := fun v => by pointwise
  refine (e _).trans ((refHeads_at _ _ _ _).trans ?_)
  unfold heads
  refine head_congr (fun k => ?_) (fun k => ?_) (fun k => rfl) rfl
  · pointwise
    simp only [Nat.mul_comm (f.val / 128) 128]
  · pointwise
    simp only [Nat.mul_comm (f.val / 128) 128]

/-- The heads and the attention in one array. -/
def refMix (o : FVec Ideal S16384x512 .f32) (ap sa : FVec Ideal S8192x512 .bf16) : FVec Ideal S16384x1024 .f32 :=
  concatenate S16384x1024 1 [⟨S16384x512, o⟩, ⟨S16384x512, extf .f32 (concatenate S16384x512 0 [⟨S8192x512, ap⟩, ⟨S8192x512, sa⟩]
    concatenates_S8192x512_S8192x512_S16384x512_d0) bitsLt_bf16_f32⟩] concatenates_S16384x512_S16384x512_S16384x1024_d1

theorem refMix_at (o : FVec Ideal S16384x512 .f32) (ap sa : FVec Ideal S8192x512 .bf16) (a : Fin 16384) (k : Fin 1024) :
    refMix o ap sa (ix2 a k) = mix (fun f => o (ix2 a f)) (fun f => rows ap sa a f) k := by
  unfold refMix mix rows
  pointwise

/-- The rows after the mixer. -/
def refX (x gt mx : FVec Ideal S16384x1024 .f32) (wo : FVec Ideal S1024x1024 .bf16) : FVec Ideal S16384x1024 .f32 :=
  addf x (mulf gt (Host.dotGeneral dot_S16384x1024_S1024x1024_S16384x1024_1_0_0_1_n_n none mx (extf .f32 wo bitsLt_bf16_f32)))

theorem refX_at (x gt mx : FVec Ideal S16384x1024 .f32) (wo : FVec Ideal S1024x1024 .bf16) (a : Fin 16384) (d : Fin 1024) :
    refX x gt mx wo (ix2 a d) = proj (fun d => x (ix2 a d)) (fun d => gt (ix2 a d)) (fun k => mx (ix2 a k)) (fun k d => wo (ix2 k d)) d := by
  pointwise [refX, proj]

/-- The rows after the mixer, of the call's arguments. -/
def RX (x : FVec Ideal S16384x1024 .f32) (mod : FVec Ideal S9x9x1024 .f32) (of ob z : FVec Ideal S16384x512 .bf16) (on : FVec Ideal S128 .f32)
    (wo : FVec Ideal S1024x1024 .bf16) (ap sa : FVec Ideal S8192x512 .bf16) : FVec Ideal S16384x1024 .f32 :=
  refX x (perRow (extractStridedSlice S9x1x1024 ![0, 5, 0] mod slices_S9x9x1024_S9x1x1024_0_5_0)) (refMix (refO of ob z on) ap sa) wo

theorem RX_at (x : FVec Ideal S16384x1024 .f32) (mod : FVec Ideal S9x9x1024 .f32) (of ob z : FVec Ideal S16384x512 .bf16) (on : FVec Ideal S128 .f32)
    (wo : FVec Ideal S1024x1024 .bf16) (ap sa : FVec Ideal S8192x512 .bf16) (a : Fin 16384) (d : Fin 1024) :
    RX x mod of ob z on wo ap sa (ix2 a d) = X x mod of ob z on wo ap sa a d := by
  unfold RX X
  refine (refX_at _ _ _ _ _ _).trans (proj_congr (fun _ => rfl) (fun k => ?_) (fun k => ?_) (fun _ _ => rfl) rfl)
  · exact Eq.trans (perRow_ix _ a k ⟨a.val / 1024 - 7, by omega⟩ rfl) (by pointwise)
  · exact (refMix_at _ _ _ _ _).trans (congrArg (fun q => mix q _ k) (funext fun f => refO_at _ _ _ _ _ _))

/-- The reference's result by its vectors. -/
def REF (x : FVec Ideal S16384x1024 .f32) (mod : FVec Ideal S9x9x1024 .f32) (g : FVec Ideal S1024 .f32)
    (w : FVec Ideal S2x1x1024x5632 .bf16) (wd : FVec Ideal S2x1x2816x1024 .bf16) (of ob z : FVec Ideal S16384x512 .bf16)
    (on : FVec Ideal S128 .f32) (wo : FVec Ideal S1024x1024 .bf16) (ap sa : FVec Ideal S8192x512 .bf16) : FVec Ideal S16384x1024 .f32 :=
  refTop (RX x mod of ob z on wo ap sa) (perRow (extractStridedSlice S9x1x1024 ![0, 8, 0] mod slices_S9x9x1024_S9x1x1024_0_8_0))
    (refH (RX x mod of ob z on wo ap sa) g (perRow (extractStridedSlice S9x1x1024 ![0, 7, 0] mod slices_S9x9x1024_S9x1x1024_0_7_0))
      (perRow (extractStridedSlice S9x1x1024 ![0, 6, 0] mod slices_S9x9x1024_S9x1x1024_0_6_0)))
    (extf .f32 (shapeCast S1024x5632 (extractStridedSlice S1x1x1024x5632 ![0, 0, 0, 0] w slices_S2x1x1024x5632_S1x1x1024x5632_0_0_0_0)
      shapeCasts_S1x1x1024x5632_S1024x5632) bitsLt_bf16_f32)
    (extf .f32 (shapeCast S2816x1024 (extractStridedSlice S1x1x2816x1024 ![0, 0, 0, 0] wd slices_S2x1x2816x1024_S1x1x2816x1024_0_0_0_0)
      shapeCasts_S1x1x2816x1024_S2816x1024) bitsLt_bf16_f32)

theorem res_eq (c : Dev nD) : res_out0 m c = REF (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) := rfl

theorem ref_eq (x : FVec Ideal S16384x1024 .f32) (mod : FVec Ideal S9x9x1024 .f32) (g : FVec Ideal S1024 .f32)
    (w : FVec Ideal S2x1x1024x5632 .bf16) (wd : FVec Ideal S2x1x2816x1024 .bf16) (of ob z : FVec Ideal S16384x512 .bf16)
    (on : FVec Ideal S128 .f32) (wo : FVec Ideal S1024x1024 .bf16) (ap sa : FVec Ideal S8192x512 .bf16) :
    REF x mod g w wd of ob z on wo ap sa = G x mod g w wd of ob z on wo ap sa := by
  funext i
  have h0 : (i 0).val < 16384 := (i 0).isLt
  unfold REF G
  rw [refTop_at]
  refine ffnRow_congr (fun k => ?_) (fun k => (refH_at _ _ _ _ _).trans (modn_congr (fun k => ?_) (fun k => ?_) (fun k => ?_) (fun k => ?_) ?_)) ?_ (fun k f => ?_) (fun f k => ?_) ?_
  case refine_1 => exact RX_at _ _ _ _ _ _ _ _ _ _ _
  case refine_2 => exact RX_at _ _ _ _ _ _ _ _ _ _ _
  case refine_4 => exact Eq.trans (perRow_ix _ (i 0) k ⟨(i 0).val / 1024 - 7, by omega⟩ rfl) (by pointwise)
  case refine_5 => exact Eq.trans (perRow_ix _ (i 0) k ⟨(i 0).val / 1024 - 7, by omega⟩ rfl) (by pointwise)
  case refine_7 => rw [perRow_at _ _ ⟨(i 0).val / 1024 - 7, by omega⟩ rfl]; pointwise
  all_goals first | rfl | pointwise
end

/-- The two programs' results are one array. -/
theorem algebraic : Cert.algebraic_Kernel7Ideal_Reference7Ideal (hKernel7Ideal := Cert.Kernel7Ideal.Gen.facts)
    (hReference7Ideal := Cert.Reference7Ideal.Gen.facts) := by
  intro m g m' g' _ hargs
  refine ⟨fun c => G (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))
      (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))
      (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))
      (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9))
      (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)), ?_, ?_⟩
  · exact (θ_run _ _ _).mono (fun r h c => ⟨(h c).1.trans (final m c), (h c).2⟩) (Cert.Kernel7Ideal.Value.run_blocks m g)
  · refine (θ_run _ _ _).mono (fun r h c => ⟨?_, (h c).2⟩) (Cert.Reference7Ideal.Value.run m' g')
    obtain ⟨e0, e1, e2, e3, e4, e5, e6, e7, e8, e9, e10, e11⟩ := hargs c
    show _ = G _ _ _ _ _ _ _ _ _ _ _ _
    rw [(h c).1, ← ref_eq, ← e0, ← e1, ← e2, ← e3, ← e4, ← e5, ← e6, ← e7, ← e8, ← e9, ← e10, ← e11]
    exact res_eq m' c

end Cert.Ffn2Proof
-- ==== Proof.LastRun.lean ====
/- The closing call's run: the first half of the points stores one result's block, the second half the other's. -/
module

public import proofs.«01_k».proof.Proof.Gen.Kernel8Ideal.Frame
public import proofs.«01_k».proof.Proof.Gen.Kernel8Ideal.Skeleton
public import Idealize.ShloMosaic.Lib.Pipeline.Value
public import Idealize.ShloMosaic.Lib.Claim

@[expose] public section

set_option maxRecDepth 16384

noncomputable section

namespace Cert.Kernel8Ideal.Last

open Cert.Kernel8Ideal Cert.Kernel8Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

abbrev cond0_0 (i : grid0.Coords) : Prop := k0_cond1 i = 1#1
theorem hcond0_0 : ∀ t : Fin cfg0.N, cond0_0 (grid0.coords t) ↔ t.val < 16 :=
  (by decide +kernel : ∀ t : Fin grid0.N, cond0_0 (grid0.coords t) ↔ t.val < 16)

abbrev cond0_1 (i : grid0.Coords) : Prop := k0_cond2 i = 1#1
theorem hcond0_1 : ∀ t : Fin cfg0.N, cond0_1 (grid0.coords t) ↔ 16 ≤ t.val :=
  (by decide +kernel : ∀ t : Fin grid0.N, cond0_1 (grid0.coords t) ↔ 16 ≤ t.val)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11_A : ∀ t : Fin cfg0.N, cond0_0 (grid0.coords t) → ¬cond0_1 (grid0.coords t) → cfg0.idle 11 (grid0.coords t) = false := by decide +kernel
theorem idleAt0_12_A : ∀ t : Fin cfg0.N, cond0_0 (grid0.coords t) → ¬cond0_1 (grid0.coords t) → cfg0.idle 12 (grid0.coords t) = true := by decide +kernel
theorem noFlush0_12_A : ∀ t : Fin cfg0.N, cond0_0 (grid0.coords t) → ¬cond0_1 (grid0.coords t) → (cfg0.win 12).flush t = false := by decide +kernel
theorem liveAt0_12_B : ∀ t : Fin cfg0.N, ¬cond0_0 (grid0.coords t) → cond0_1 (grid0.coords t) → cfg0.idle 12 (grid0.coords t) = false := by decide +kernel

abbrev VO0_11 : View sig .tc .vmem S512x1024 .f32 := (Memref.whole cc0_stg11_0 : Memref sig .tc .vmem S512x1024 .f32).view
abbrev VO0_12 : View sig .tc .vmem S512x1024 .f32 := (Memref.whole cc0_stg12_0 : Memref sig .tc .vmem S512x1024 .f32).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x9x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024x5632 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2816x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x1024 .f32 := win0_12.stage (cfg0.slots t 12)
abbrev hs0_12 (t : Fin cfg0.N) : (ms0_12 t).IsWhole := hstage0_12 ((cfg0.slots t 12).cast nbuf0_12)

theorem idleAt0_11_B : ∀ t : Fin cfg0.N, 16 ≤ t.val → cfg0.idle 11 (grid0.coords t) = true :=
  (by decide +kernel : ∀ t : Fin grid0.N, 16 ≤ t.val → cfg0.idle 11 (grid0.coords t) = true)
theorem live0_11 : ∀ t : Fin cfg0.N, t.val < 16 → cfg0.idle 11 (grid0.coords t) = false :=
  (by decide +kernel : ∀ t : Fin grid0.N, t.val < 16 → cfg0.idle 11 (grid0.coords t) = false)
theorem flush11 : ∀ t : Fin cfg0.N, (cfg0.win 11).flush t = (decide (t.val < 15) || decide (t.val = 31)) :=
  (by decide +kernel : ∀ t : Fin grid0.N, (cfg0.win 11).flush t = (decide (t.val < 15) || decide (t.val = 31)))
theorem flush12 : ∀ t : Fin cfg0.N, (cfg0.win 12).flush t = decide (16 ≤ t.val) :=
  (by decide +kernel : ∀ t : Fin grid0.N, (cfg0.win 12).flush t = decide (16 ≤ t.val))

set_option maxHeartbeats 1000000 in
noncomputable def kernelRun0_A (c : Dev nD) (i : grid0.Coords) (arg1 : Memref sig .tc .vmem S512x1024 .f32) (harg1 : arg1.IsWhole) (arg2 : Memref sig .tc .vmem S1x9x1024 .f32) (harg2 : arg2.IsWhole) (arg3 : Memref sig .tc .vmem S1x1024 .f32) (harg3 : arg3.IsWhole) (arg4 : Memref sig .tc .vmem S1x1x1024x5632 .bf16) (harg4 : arg4.IsWhole) (arg5 : Memref sig .tc .vmem S1x1x2816x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x256 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (hc0 : cond0_0 i) (hc1 : ¬cond0_1 i)
    (x0 : Vec F S512x1024 .f32) (x1 : Vec F S1x9x1024 .f32) (x2 : Vec F S1x1024 .f32) (x3 : Vec F S1x1x1024x5632 .bf16) (x4 : Vec F S1x1x2816x1024 .bf16) (x5 : Vec F S512x1024 .bf16) (x6 : Vec F S512x1024 .bf16) (x7 : Vec F S512x1024 .bf16) (x8 : Vec F S1x256 .f32) (x9 : Vec F S1024x1024 .bf16) (x10 : Vec F S1x1024 .f32) :
    Σ' (L11 : List (View.Piece (Elt F) S512x1024 .f32)), { L12 : List (View.Piece (Elt F) S512x1024 .f32) //
      ∀ (xi12 : Vec F S512x1024 .f32) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare xi12
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ owns (c : Thread nD τ) arg13 fullShare xi12) -∗ K ⟨⟩))
          ⊢ wp frame (wpE (defs₀ (F := F)) Variants.none c none) E (cc0_ffn_half i arg1 harg1 arg2 harg2 arg3 harg3 arg4 harg4 arg5 harg5 arg6 harg6 arg7 harg7 arg8 harg8 arg9 harg9 arg10 harg10 arg11 harg11 arg12 harg12 arg13 harg13) K } := by
  refine ⟨?_, [], fun xi12 E K => ?run⟩
  case run =>
    simp only [cc0_ffn_half_eq_skeleton]; unfold cc0_ffn_half_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hf12
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    iexists _; isplitr; · ipureintro; exact harg13.read_unread _
    iexact H12

set_option maxHeartbeats 1000000 in
noncomputable def kernelRun0_B (c : Dev nD) (i : grid0.Coords) (arg1 : Memref sig .tc .vmem S512x1024 .f32) (harg1 : arg1.IsWhole) (arg2 : Memref sig .tc .vmem S1x9x1024 .f32) (harg2 : arg2.IsWhole) (arg3 : Memref sig .tc .vmem S1x1024 .f32) (harg3 : arg3.IsWhole) (arg4 : Memref sig .tc .vmem S1x1x1024x5632 .bf16) (harg4 : arg4.IsWhole) (arg5 : Memref sig .tc .vmem S1x1x2816x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x256 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (hc0 : ¬cond0_0 i) (hc1 : cond0_1 i)
    (x0 : Vec F S512x1024 .f32) (x1 : Vec F S1x9x1024 .f32) (x2 : Vec F S1x1024 .f32) (x3 : Vec F S1x1x1024x5632 .bf16) (x4 : Vec F S1x1x2816x1024 .bf16) (x5 : Vec F S512x1024 .bf16) (x6 : Vec F S512x1024 .bf16) (x7 : Vec F S512x1024 .bf16) (x8 : Vec F S1x256 .f32) (x9 : Vec F S1024x1024 .bf16) (x10 : Vec F S1x1024 .f32) :
    Σ' (L11 : List (View.Piece (Elt F) S512x1024 .f32)), { L12 : List (View.Piece (Elt F) S512x1024 .f32) //
      ∀ (xi11 : Vec F S512x1024 .f32) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ (∃ f, arg13.view.loc (c : Thread nD τ) ↦[arg13.view.set]{fullShare} arg13.view.writes (Elt F) f L12)) -∗ K ⟨⟩))
          ⊢ wp frame (wpE (defs₀ (F := F)) Variants.none c none) E (cc0_ffn_half i arg1 harg1 arg2 harg2 arg3 harg3 arg4 harg4 arg5 harg5 arg6 harg6 arg7 harg7 arg8 harg8 arg9 harg9 arg10 harg10 arg11 harg11 arg12 harg12 arg13 harg13) K } := by
  refine ⟨[], ?_, fun xi11 E K => ?run⟩
  case run =>
    simp only [cc0_ffn_half_eq_skeleton]; unfold cc0_ffn_half_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    iexists _; iexact H12

theorem cover0_A_11 (c : Dev nD) (i : grid0.Coords) (arg1 : Memref sig .tc .vmem S512x1024 .f32) (harg1 : arg1.IsWhole) (arg2 : Memref sig .tc .vmem S1x9x1024 .f32) (harg2 : arg2.IsWhole) (arg3 : Memref sig .tc .vmem S1x1024 .f32) (harg3 : arg3.IsWhole) (arg4 : Memref sig .tc .vmem S1x1x1024x5632 .bf16) (harg4 : arg4.IsWhole) (arg5 : Memref sig .tc .vmem S1x1x2816x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x256 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (hc0 : cond0_0 i) (hc1 : ¬cond0_1 i)
    (x0 : Vec F S512x1024 .f32) (x1 : Vec F S1x9x1024 .f32) (x2 : Vec F S1x1024 .f32) (x3 : Vec F S1x1x1024x5632 .bf16) (x4 : Vec F S1x1x2816x1024 .bf16) (x5 : Vec F S512x1024 .bf16) (x6 : Vec F S512x1024 .bf16) (x7 : Vec F S512x1024 .bf16) (x8 : Vec F S1x256 .f32) (x9 : Vec F S1024x1024 .bf16) (x10 : Vec F S1x1024 .f32) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10).1 S512x1024.size (by sl_kernel_rfl) y

def out0_A_11 (c : Dev nD) (i : grid0.Coords) (arg1 : Memref sig .tc .vmem S512x1024 .f32) (harg1 : arg1.IsWhole) (arg2 : Memref sig .tc .vmem S1x9x1024 .f32) (harg2 : arg2.IsWhole) (arg3 : Memref sig .tc .vmem S1x1024 .f32) (harg3 : arg3.IsWhole) (arg4 : Memref sig .tc .vmem S1x1x1024x5632 .bf16) (harg4 : arg4.IsWhole) (arg5 : Memref sig .tc .vmem S1x1x2816x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x256 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (hc0 : cond0_0 i) (hc1 : ¬cond0_1 i)
    (x0 : Vec F S512x1024 .f32) (x1 : Vec F S1x9x1024 .f32) (x2 : Vec F S1x1024 .f32) (x3 : Vec F S1x1x1024x5632 .bf16) (x4 : Vec F S1x1x2816x1024 .bf16) (x5 : Vec F S512x1024 .bf16) (x6 : Vec F S512x1024 .bf16) (x7 : Vec F S512x1024 .bf16) (x8 : Vec F S1x256 .f32) (x9 : Vec F S1024x1024 .bf16) (x10 : Vec F S1x1024 .f32) : Vec F S512x1024 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10).1)

theorem cover0_B_12 (c : Dev nD) (i : grid0.Coords) (arg1 : Memref sig .tc .vmem S512x1024 .f32) (harg1 : arg1.IsWhole) (arg2 : Memref sig .tc .vmem S1x9x1024 .f32) (harg2 : arg2.IsWhole) (arg3 : Memref sig .tc .vmem S1x1024 .f32) (harg3 : arg3.IsWhole) (arg4 : Memref sig .tc .vmem S1x1x1024x5632 .bf16) (harg4 : arg4.IsWhole) (arg5 : Memref sig .tc .vmem S1x1x2816x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x256 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (hc0 : ¬cond0_0 i) (hc1 : cond0_1 i)
    (x0 : Vec F S512x1024 .f32) (x1 : Vec F S1x9x1024 .f32) (x2 : Vec F S1x1024 .f32) (x3 : Vec F S1x1x1024x5632 .bf16) (x4 : Vec F S1x1x2816x1024 .bf16) (x5 : Vec F S512x1024 .bf16) (x6 : Vec F S512x1024 .bf16) (x7 : Vec F S512x1024 .bf16) (x8 : Vec F S1x256 .f32) (x9 : Vec F S1024x1024 .bf16) (x10 : Vec F S1x1024 .f32) (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10).2.1 S512x1024.size (by sl_kernel_rfl) y

def out0_B_12 (c : Dev nD) (i : grid0.Coords) (arg1 : Memref sig .tc .vmem S512x1024 .f32) (harg1 : arg1.IsWhole) (arg2 : Memref sig .tc .vmem S1x9x1024 .f32) (harg2 : arg2.IsWhole) (arg3 : Memref sig .tc .vmem S1x1024 .f32) (harg3 : arg3.IsWhole) (arg4 : Memref sig .tc .vmem S1x1x1024x5632 .bf16) (harg4 : arg4.IsWhole) (arg5 : Memref sig .tc .vmem S1x1x2816x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x256 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (hc0 : ¬cond0_0 i) (hc1 : cond0_1 i)
    (x0 : Vec F S512x1024 .f32) (x1 : Vec F S1x9x1024 .f32) (x2 : Vec F S1x1024 .f32) (x3 : Vec F S1x1x1024x5632 .bf16) (x4 : Vec F S1x1x2816x1024 .bf16) (x5 : Vec F S512x1024 .bf16) (x6 : Vec F S512x1024 .bf16) (x7 : Vec F S512x1024 .bf16) (x8 : Vec F S1x256 .f32) (x9 : Vec F S1024x1024 .bf16) (x10 : Vec F S1x1024 .f32) : Vec F S512x1024 .f32 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10).2.1)

/-- What a point of the first half leaves in window 11's buffer. -/
def at11 (c : Dev nD) (t : Fin cfg0.N) (h0 : t.val < 16) : Vec F S512x1024 .f32 :=
  have h1 : ¬16 ≤ t.val := by omega
  out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- What a point of the second half leaves in window 12's buffer. -/
def at12 (c : Dev nD) (t : Fin cfg0.N) (h1 : 16 ≤ t.val) : Vec F S512x1024 .f32 :=
  have h0 : ¬t.val < 16 := by omega
  out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The last point of the first half. -/
abbrev p15 : Fin cfg0.N := ⟨15, lt_of_lt_of_eq (by decide) N_0.symm⟩
/-- The first point of the second half. -/
abbrev p16 : Fin cfg0.N := ⟨16, lt_of_lt_of_eq (by decide) N_0.symm⟩

/-- Window 11's buffer after a point: what the last storing point left. -/
def o11 (c : Dev nD) (t : Fin cfg0.N) : Vec F S512x1024 .f32 := if h : t.val < 16 then at11 m c t h else at11 m c p15 (by decide)

/-- Window 12's buffer after a point of the second half (before it nothing reads this). -/
def o12 (c : Dev nD) (t : Fin cfg0.N) : Vec F S512x1024 .f32 := if h : 16 ≤ t.val then at12 m c t h else at12 m c p16 (by decide)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => o11 m c t
    | ⟨12, _⟩ => o12 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = o11 m c t := by dsimp only [dats]
theorem after0_12 (c : Dev nD) (t : Fin cfg0.N) : (dats m 0 c).after 12 t = o12 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- Through the second half window 11's buffer holds what point 15 left. -/
theorem before11 (c : Dev nD) (d) : ∀ (n : ℕ) (hn : n < cfg0.N), 16 ≤ n → (dats m 0 c).before 11 ⟨n, hn⟩ d = at11 m c p15 (by decide) := by
  intro n
  induction n with
  | zero => intro hn h; omega
  | succ n ih =>
    intro hn h
    have hN : n + 1 < 32 := lt_of_lt_of_eq hn (show cfg0.N = 32 from N_0)
    have hn' : n < cfg0.N := Nat.lt_of_succ_lt hn
    rw [(dats m 0 c).before_of_pos 11 ⟨n + 1, hn⟩ (by simp) rfl d]
    show (if (cfg0.win 11).flush ⟨n, hn'⟩ then d else (dats m 0 c).left 11 ⟨n, hn'⟩ d) = _
    rw [flush11, if_neg (by simp; omega)]
    unfold Dat.left
    by_cases h15 : n < 16
    · obtain rfl : n = 15 := by omega
      rw [live0_11 ⟨15, hn'⟩ (show 15 < 16 by decide)]
      show (dats m 0 c).after 11 ⟨15, hn'⟩ = _
      rw [after0_11]
      unfold o11
      exact dif_pos (show 15 < 16 by decide)
    · rw [idleAt0_11_B ⟨n, hn'⟩ (by show 16 ≤ n; omega)]
      exact ih hn' (by omega)

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl]
  have hN : t.val < 32 := lt_of_lt_of_eq t.isLt (show cfg0.N = 32 from N_0)
  by_cases h0 : t.val < 16
  · by_cases h1 : 16 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11_A t ((hcond0_0 t).mpr h0) (fun h => h1 ((hcond0_1 t).mp h))], after0_11]
      rw [Dat.leavesExact_idle (dats m 0 c) 12 t (idleAt0_12_A t ((hcond0_0 t).mpr h0) (fun h => h1 ((hcond0_1 t).mp h))) (noFlush0_12_A t ((hcond0_0 t).mpr h0) (fun h => h1 ((hcond0_1 t).mp h)))]
      rw [show o11 m c t = at11 m c t h0 from dif_pos h0]
      unfold at11 out0_A_11; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexact H12
      iintro ⟨H0, H1, H2, H3, H4, H5, H6, H7, H8, H9, H10, ⟨%e11, H11⟩, H12⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _)
      iexists _; iexact H12
  · by_cases h1 : 16 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      by_cases h31 : t.val = 31
      · have hl : (dats m 0 c).leavesExact 11 t = owns (c : Thread nD τ) (ms0_11 t) fullShare (at11 m c p15 (by decide)) := by
          unfold Dat.leavesExact
          rw [idleAt0_11_B t h1, flush11, show (decide (t.val < 15) || decide (t.val = 31)) = true by simp [h31]]
          show owns (c : Thread nD τ) (ms0_11 t) fullShare ((dats m 0 c).after 11 t) = _
          rw [after0_11]; unfold o11; rw [dif_neg h0]
        rw [hl]
        have hb : ∀ d, (dats m 0 c).before 11 t d = at11 m c p15 (by decide) := fun d => before11 m c d t.val t.isLt h1
        simp only [hb]
        rw [show (dats m 0 c).leavesExact 12 t = owns (c : Thread nD τ) (ms0_12 t) fullShare ((dats m 0 c).after 12 t) from by
        unfold Dat.leavesExact; rw [liveAt0_12_B t (fun h => h0 ((hcond0_0 t).mp h)) ((hcond0_1 t).mpr h1)], after0_12]
        rw [show o12 m c t = at12 m c t h1 from dif_pos h1]
        unfold at12 out0_B_12; (try dsimp only)
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_B c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        iintro ⟨H0, H1, H2, H3, H4, H5, H6, H7, H8, H9, H10, H11, ⟨%e12, H12⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _)
      · rw [Dat.leavesExact_idle (dats m 0 c) 11 t (idleAt0_11_B t h1) (by rw [flush11]; simp [h31]; omega)]
        rw [show (dats m 0 c).leavesExact 12 t = owns (c : Thread nD τ) (ms0_12 t) fullShare ((dats m 0 c).after 12 t) from by
        unfold Dat.leavesExact; rw [liveAt0_12_B t (fun h => h0 ((hcond0_0 t).mp h)) ((hcond0_1 t).mpr h1)], after0_12]
        rw [show o12 m c t = at12 m c t h1 from dif_pos h1]
        unfold at12 out0_B_12; (try dsimp only)
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_B c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        iintro ⟨H0, H1, H2, H3, H4, H5, H6, H7, H8, H9, H10, H11, ⟨%e12, H12⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _)
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

/-- The run with the result arrays named and the arguments as they were. -/
theorem run_blocks : θ_run defs (onTc (τ := τ) (main (F := F))) ⟨m, fun _ => 0, ρ⟩ fun r => ∀ c : Dev nD,
      r.2.mem ((c : Thread nD τ).loc main_v3_0) = (dats m 0 c).arrAt 11 cfg0.N
      ∧ r.2.mem ((c : Thread nD τ).loc main_v3_1) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(h.2 c).1 11, (h.2 c).1 12, h.1 c⟩) (θ_run_and (unchanged m ρ) (run_main m ρ))

end Cert.Kernel8Ideal.Last
-- ==== Proof.Last.lean ====
/- The odd layer's closing call: mixer output, second half-step feed-forward and final norm. The kernel's two results and the
   reference's two results are the same arrays. -/
module

public import proofs.«01_k».proof.Proof.LastRun
public import proofs.«01_k».proof.Proof.Gen.Reference8Ideal.Run
public import proofs.«01_k».proof.Proof.RefFfn
public import proofs.«01_k».proof.Defs

@[expose] public section

set_option maxRecDepth 16384

noncomputable section

namespace Cert.LastProof

open Idealize.ShloMosaic Idealize.ShloMosaic.TcCoe Idealize.SL.Sem
open Idealize.ShloMosaic.Pipeline (Dat)
open Cert.Ffn

/-- A gate's number times its logistic, which the body writes by a hyperbolic tangent. -/
def sil (z : EReal) : EReal :=
  z * (Ideal.ofBits .f32 0x3F000000#32 * Ideal.tanh (Ideal.ofBits .f32 0x3F000000#32 * z) + Ideal.ofBits .f32 0x3F000000#32)

theorem sil_eq (z : EReal) : sil z = z * Ideal.div 1 (1 + Ideal.exp (-z)) := by
  unfold sil
  rw [Scalars.half_tanh]
  rfl

/-- One head's row of a mixer, from its 256 columns of the scan's sum `s` and of the gate `z`. -/
def head (s z g : Fin 256 → EReal) (q : Fin 256) : EReal :=
  s q * Ideal.rsqrt (Ideal.div (∑ k, s k * s k) (Ideal.ofBits .f32 0x43800000#32) + Ideal.ofBits .f32 0x358637BD#32) * g q * sil (z q)

/-- The four heads' rows side by side. -/
def heads (s z : Fin 1024 → EReal) (g : Fin 256 → EReal) (f : Fin 1024) : EReal :=
  head (fun k => s ⟨256 * (f.val / 256) + k.val, by omega⟩) (fun k => z ⟨256 * (f.val / 256) + k.val, by omega⟩) g ⟨f.val % 256, by omega⟩

/-- The input plus the gated projection of the mixed row. -/
def proj (x gt mx : Fin 1024 → EReal) (w : Fin 1024 → Fin 1024 → EReal) (d : Fin 1024) : EReal :=
  x d + gt d * ∑ k, mx k * w k d

theorem proj_congr {x x' gt gt' mx mx' : Fin 1024 → EReal} {w w' : Fin 1024 → Fin 1024 → EReal} {d d' : Fin 1024} (hx : ∀ k, x k = x' k)
    (hg : ∀ k, gt k = gt' k) (hm : ∀ k, mx k = mx' k) (hw : ∀ k d, w k d = w' k d) (hd : d = d') : proj x gt mx w d = proj x' gt' mx' w' d' := by
  rw [funext hx, funext hg, funext hm, funext fun k => funext (hw k), hd]

theorem heads_congr {s s' z z' : Fin 1024 → EReal} {g g' : Fin 256 → EReal} (hs : ∀ k, s k = s' k) (hz : ∀ k, z k = z' k)
    (hg : ∀ k, g k = g' k) : heads s z g = heads s' z' g' := by
  rw [funext hs, funext hz, funext hg]

/-- A row over its root mean square, times the weight. -/
def rms (x g : Fin 1024 → EReal) (d : Fin 1024) : EReal :=
  x d * Ideal.rsqrt (Ideal.div (∑ k, x k * x k) (Ideal.ofBits .f32 0x44800000#32) + Ideal.ofBits .f32 0x358637BD#32) * g d

theorem rms_congr {x x' g g' : Fin 1024 → EReal} {d d' : Fin 1024} (hx : ∀ k, x k = x' k) (hg : ∀ k, g k = g' k) (hd : d = d') :
    rms x g d = rms x' g' d' := by
  rw [funext hx, funext hg, hd]

section
open Cert.Kernel8Ideal Cert.Kernel8Ideal.Gen Cert.Kernel8Ideal.Last

/-- A head of a block of rows. -/
def headK (s z : FVec Ideal S512x256 .f32) (g : FVec Ideal S1x256 .f32) : FVec Ideal S512x256 .f32 :=
  mulf (mulf (mulf s (broadcastTo S512x256 (rsqrt (addf (divf (shapeCast S512x1 (multiReduction .add [1] S512 (mulf s s) 0x00000000#32
      reduces_S512x256_S512 (.inl rfl) rfl) shapeCasts_S512_S512x1) (broadcast S512x1 (Scalar.ofBits .f32 0x43800000#32)))
      (broadcast S512x1 (Scalar.ofBits .f32 0x358637BD#32)))) broadcasts_S512x1_S512x256))
      (broadcastTo S512x256 (shapeCast S1x256 g shapeCasts_S1x256_S1x256) broadcasts_S1x256_S512x256))
    (mulf z (addf (mulf (broadcast S512x256 (Scalar.ofBits .f32 0x3F000000#32)) (tanh (mulf (broadcast S512x256 (Scalar.ofBits .f32 0x3F000000#32)) z)))
      (broadcast S512x256 (Scalar.ofBits .f32 0x3F000000#32))))

theorem headK_at (s z : FVec Ideal S512x256 .f32) (g : FVec Ideal S1x256 .f32) (j : S512x256.Idx) :
    headK s z g j = head (fun k => s (ix2 (j 0) k)) (fun k => z (ix2 (j 0) k)) (fun k => g (ix2 0 k)) (j 1) := by
  pointwise [headK, head, sil]

/-- `c` is the `h`-th run of 256 columns of `A`. -/
def IsHead (A : Fin 512 → Fin 1024 → EReal) (h : ℕ) (c : FVec Ideal S512x256 .f32) : Prop :=
  ∀ (r : Fin 512) (q : Fin 256) (f : Fin 1024), f.val = 256 * h + q.val → c (ix2 r q) = A r f

theorem isHead_slice (v : FVec Ideal S512x1024 .f32) (h o : ℕ) (ho : o = 256 * h) (hs : S512x1024.Slices ![0, o] S512x256) :
    IsHead (fun r f => v (ix2 r f)) h (extractStridedSlice S512x256 ![0, o] v hs) := by
  subst ho
  intro r q f hf
  pointwise
  blk_ext

theorem isHead_headK (S Z : Fin 512 → Fin 1024 → EReal) (h : ℕ) (s z : FVec Ideal S512x256 .f32) (g : FVec Ideal S1x256 .f32)
    (hs : IsHead S h s) (hz : IsHead Z h z) : IsHead (fun r f => heads (S r) (Z r) (fun k => g (ix2 0 k)) f) h (headK s z g) := by
  intro r q f hf
  rw [headK_at]
  unfold heads
  have e1 : (fun k : Fin 256 => s (ix2 r k)) = fun k => S r ⟨256 * (f.val / 256) + k.val, by omega⟩ :=
    funext fun k => hs _ _ _ (by dsimp only; omega)
  have e2 : (fun k : Fin 256 => z (ix2 r k)) = fun k => Z r ⟨256 * (f.val / 256) + k.val, by omega⟩ :=
    funext fun k => hz _ _ _ (by dsimp only; omega)
  have e3 : q = ⟨f.val % 256, by omega⟩ := Fin.ext (by dsimp only; omega)
  show head (fun k => s (ix2 r k)) (fun k => z (ix2 r k)) _ q = _
  rw [e1, e2]
  exact congrArg _ e3

/-- A head times its 256 rows of the projection. -/
def part (a : FVec Ideal S512x256 .bf16) (w : FVec Ideal S256x1024 .bf16) : FVec Ideal S512x1024 .f32 :=
  matmul dot_S512x256_S256x1024_S512x1024_1_0_0_1_n_n none a w (constant S512x1024 .f32 0x00000000#32)

theorem part_at (A : Fin 512 → Fin 1024 → EReal) (w : Fin 1024 → Fin 1024 → EReal) (h : ℕ) (hh : h ≤ 3) (a : FVec Ideal S512x256 .bf16)
    (W : FVec Ideal S256x1024 .bf16) (ha : IsHead A h a) (hw : ∀ (k : Fin 256) d, W (ix2 k d) = w ⟨256 * h + k.val, by omega⟩ d)
    (j : S512x1024.Idx) : part a W j = ∑ k : Fin 256, A (j 0) ⟨256 * h + k.val, by omega⟩ * w ⟨256 * h + k.val, by omega⟩ (j 1) := by
  pointwise [part]
  exact Finset.sum_congr rfl fun k _ => congrArg₂ (fun p q : EReal => p * q) (ha _ _ _ rfl) (hw _ _)

/-- A sum of 1024 terms in four parts. -/
theorem sum_parts (f : Fin 1024 → EReal) : ∑ k, f k = (((∑ k : Fin 256, f ⟨256 * 0 + k.val, by omega⟩) + ∑ k : Fin 256, f ⟨256 * 1 + k.val, by omega⟩)
    + ∑ k : Fin 256, f ⟨256 * 2 + k.val, by omega⟩) + ∑ k : Fin 256, f ⟨256 * 3 + k.val, by omega⟩ := by
  have h1 : ∑ k, f k = (∑ k : Fin 768, f ⟨k.val, by omega⟩) + ∑ k : Fin 256, f ⟨768 + k.val, by omega⟩ := Fin.sum_univ_add (a := 768) (b := 256) f
  have h2 : ∑ k : Fin 768, f ⟨k.val, by omega⟩ = (∑ k : Fin 512, f ⟨k.val, by omega⟩) + ∑ k : Fin 256, f ⟨512 + k.val, by omega⟩ :=
    Fin.sum_univ_add (a := 512) (b := 256) fun k : Fin 768 => f ⟨k.val, by omega⟩
  have h3 : ∑ k : Fin 512, f ⟨k.val, by omega⟩ = (∑ k : Fin 256, f ⟨k.val, by omega⟩) + ∑ k : Fin 256, f ⟨256 + k.val, by omega⟩ :=
    Fin.sum_univ_add (a := 256) (b := 256) fun k : Fin 512 => f ⟨k.val, by omega⟩
  have h4 : ∑ k : Fin 256, f ⟨k.val, by omega⟩ = ∑ k : Fin 256, f ⟨256 * 0 + k.val, by omega⟩ :=
    Finset.sum_congr rfl fun k _ => congrArg f (Fin.ext (by dsimp only; omega))
  rw [h1, h2, h3, h4]

/-- The rows after the mixer. -/
def xK (X : FVec Ideal S512x1024 .f32) (M : FVec Ideal S1x9x1024 .f32) (of ob z : FVec Ideal S512x1024 .bf16)
    (g : FVec Ideal S1x256 .f32) (W0 W1 W2 W3 : FVec Ideal S256x1024 .bf16) : FVec Ideal S512x1024 .f32 :=
  addf X (mulf (broadcastTo S512x1024 (k0_pay3 M) broadcasts_S1x1024_S512x1024) (addf (addf (addf
    (part (headK (extractStridedSlice S512x256 ![0, 0] (k0_pay4 of ob) slices_S512x1024_o0_0_S512x256)
            (extractStridedSlice S512x256 ![0, 0] (k0_pay5 z) slices_S512x1024_o0_0_S512x256) g) W0)
    (part (headK (extractStridedSlice S512x256 ![0, 256] (k0_pay4 of ob) slices_S512x1024_o0_256_S512x256)
            (extractStridedSlice S512x256 ![0, 256] (k0_pay5 z) slices_S512x1024_o0_256_S512x256) g) W1))
    (part (headK (extractStridedSlice S512x256 ![0, 512] (k0_pay4 of ob) slices_S512x1024_o0_512_S512x256)
            (extractStridedSlice S512x256 ![0, 512] (k0_pay5 z) slices_S512x1024_o0_512_S512x256) g) W2))
    (part (headK (extractStridedSlice S512x256 ![0, 768] (k0_pay4 of ob) slices_S512x1024_o0_768_S512x256)
            (extractStridedSlice S512x256 ![0, 768] (k0_pay5 z) slices_S512x1024_o0_768_S512x256) g) W3)))

/-- The body's rows after the mixer, when the four parts of the projection are the rows of `w`. -/
theorem xK_at (X : FVec Ideal S512x1024 .f32) (M : FVec Ideal S1x9x1024 .f32) (of ob z : FVec Ideal S512x1024 .bf16)
    (g : FVec Ideal S1x256 .f32) (W0 W1 W2 W3 : FVec Ideal S256x1024 .bf16) (w : Fin 1024 → Fin 1024 → EReal)
    (h0 : ∀ (k : Fin 256) d, W0 (ix2 k d) = w ⟨256 * 0 + k.val, by omega⟩ d) (h1 : ∀ (k : Fin 256) d, W1 (ix2 k d) = w ⟨256 * 1 + k.val, by omega⟩ d)
    (h2 : ∀ (k : Fin 256) d, W2 (ix2 k d) = w ⟨256 * 2 + k.val, by omega⟩ d) (h3 : ∀ (k : Fin 256) d, W3 (ix2 k d) = w ⟨256 * 3 + k.val, by omega⟩ d)
    (j : S512x1024.Idx) :
    xK X M of ob z g W0 W1 W2 W3 j = proj (fun d => X (ix2 (j 0) d)) (fun d => M (ix3 0 5 d))
      (heads (fun f => of (ix2 (j 0) f) + ob (ix2 (j 0) f)) (fun f => z (ix2 (j 0) f)) (fun k => g (ix2 0 k))) w (j 1) := by
  have hS : ∀ (h o : ℕ) (ho : o = 256 * h) (hs : S512x1024.Slices ![0, o] S512x256),
      IsHead (fun r f => heads (fun f => of (ix2 r f) + ob (ix2 r f)) (fun f => z (ix2 r f)) (fun k => g (ix2 0 k)) f) h
        (headK (extractStridedSlice S512x256 ![0, o] (k0_pay4 of ob) hs) (extractStridedSlice S512x256 ![0, o] (k0_pay5 z) hs) g) :=
    fun h o ho hs => isHead_headK _ _ h _ _ g (isHead_slice (k0_pay4 of ob) h o ho hs) (isHead_slice (k0_pay5 z) h o ho hs)
  unfold xK proj
  rw [sum_parts]
  refine congrArg₂ (· + ·) (congrArg X (by idx_vars j)) (congrArg₂ (· * ·) ?_ (congrArg₂ (· + ·) (congrArg₂ (· + ·) (congrArg₂ (· + ·) ?_ ?_) ?_) ?_))
  · pointwise [k0_pay3, k0_pay2]
  · exact part_at _ w 0 (by omega) _ W0 (hS 0 0 rfl _) h0 j
  · exact part_at _ w 1 (by omega) _ W1 (hS 1 256 rfl _) h1 j
  · exact part_at _ w 2 (by omega) _ W2 (hS 2 512 rfl _) h2 j
  · exact part_at _ w 3 (by omega) _ W3 (hS 3 768 rfl _) h3 j

/-- The second norm of the rows, modulated. -/
def normK (M : FVec Ideal S1x9x1024 .f32) (X : FVec Ideal S512x1024 .f32) (g : FVec Ideal S1x1024 .f32) : FVec Ideal S512x1024 .f32 :=
  addf (mulf (mulf (mulf X (broadcastTo S512x1024 (rsqrt (addf (divf (shapeCast S512x1 (multiReduction .add [1] S512 (mulf X X) 0x00000000#32
      reduces_S512x1024_S512 (.inl rfl) rfl) shapeCasts_S512_S512x1) (broadcast S512x1 (Scalar.ofBits .f32 0x44800000#32)))
      (broadcast S512x1 (Scalar.ofBits .f32 0x358637BD#32)))) broadcasts_S512x1_S512x1024))
      (broadcastTo S512x1024 (shapeCast S1x1024 g shapeCasts_S1x1024_S1x1024) broadcasts_S1x1024_S512x1024))
      (broadcastTo S512x1024 (addf (broadcast S1x1024 (Scalar.ofBits .f32 0x3F800000#32))
        (extractStridedSlice S1x1024 ![7, 0] (k0_pay2 M) slices_S9x1024_o7_0_S1x1024)) broadcasts_S1x1024_S512x1024))
    (broadcastTo S512x1024 (extractStridedSlice S1x1024 ![6, 0] (k0_pay2 M) slices_S9x1024_o6_0_S1x1024) broadcasts_S1x1024_S512x1024)

theorem normK_at (M : FVec Ideal S1x9x1024 .f32) (X : FVec Ideal S512x1024 .f32) (g : FVec Ideal S1x1024 .f32) (j : S512x1024.Idx) :
    normK M X g j = modn (fun d => X (ix2 (j 0) d)) (fun d => g (ix2 0 d)) (fun d => M (ix3 0 7 d)) (fun d => M (ix3 0 6 d)) (j 1) := by
  pointwise [normK, k0_pay2, modn]

/-- The closing norm of the rows. -/
def finK (X : FVec Ideal S512x1024 .f32) (g : FVec Ideal S1x1024 .f32) : FVec Ideal S512x1024 .f32 :=
  mulf (mulf X (broadcastTo S512x1024 (rsqrt (addf (divf (shapeCast S512x1 (multiReduction .add [1] S512 (mulf X X) 0x00000000#32
      reduces_S512x1024_S512 (.inl rfl) rfl) shapeCasts_S512_S512x1) (broadcast S512x1 (Scalar.ofBits .f32 0x44800000#32)))
      (broadcast S512x1 (Scalar.ofBits .f32 0x358637BD#32)))) broadcasts_S512x1_S512x1024))
    (broadcastTo S512x1024 (shapeCast S1x1024 g shapeCasts_S1x1024_S1x1024) broadcasts_S1x1024_S512x1024)

theorem finK_at (X : FVec Ideal S512x1024 .f32) (g : FVec Ideal S1x1024 .f32) (j : S512x1024.Idx) :
    finK X g j = rms (fun d => X (ix2 (j 0) d)) (fun d => g (ix2 0 d)) (j 1) := by
  pointwise [finK, rms]

/-- The blocks the body loads. -/
abbrev ro0 : Rect S1024x1024 := Rect.unit (s := S1024x1024) ![0, 0] S256x1024.size inb_S1024x1024_S256x1024_0_0
abbrev ro1 : Rect S1024x1024 := Rect.unit (s := S1024x1024) ![256, 0] S256x1024.size inb_S1024x1024_S256x1024_256_0
abbrev ro2 : Rect S1024x1024 := Rect.unit (s := S1024x1024) ![512, 0] S256x1024.size inb_S1024x1024_S256x1024_512_0
abbrev ro3 : Rect S1024x1024 := Rect.unit (s := S1024x1024) ![768, 0] S256x1024.size inb_S1024x1024_S256x1024_768_0
abbrev ra0 : Rect S1x1x1024x5632 := Rect.unit (s := S1x1x1024x5632) ![0, 0, 0, 0] S1x1x1024x256.size inb_S1x1x1024x5632_S1x1x1024x256_0_0_0_0
abbrev rb0 : Rect S1x1x1024x5632 := Rect.unit (s := S1x1x1024x5632) ![0, 0, 0, 2816] S1x1x1024x256.size inb_S1x1x1024x5632_S1x1x1024x256_0_0_0_2816
abbrev ra1 : Rect S1x1x1024x5632 := Rect.unit (s := S1x1x1024x5632) ![0, 0, 0, 256] S1x1x1024x256.size inb_S1x1x1024x5632_S1x1x1024x256_0_0_0_256
abbrev rb1 : Rect S1x1x1024x5632 := Rect.unit (s := S1x1x1024x5632) ![0, 0, 0, 3072] S1x1x1024x256.size inb_S1x1x1024x5632_S1x1x1024x256_0_0_0_3072
abbrev ra2 : Rect S1x1x1024x5632 := Rect.unit (s := S1x1x1024x5632) ![0, 0, 0, 512] S1x1x1024x256.size inb_S1x1x1024x5632_S1x1x1024x256_0_0_0_512
abbrev rb2 : Rect S1x1x1024x5632 := Rect.unit (s := S1x1x1024x5632) ![0, 0, 0, 3328] S1x1x1024x256.size inb_S1x1x1024x5632_S1x1x1024x256_0_0_0_3328
abbrev ra3 : Rect S1x1x1024x5632 := Rect.unit (s := S1x1x1024x5632) ![0, 0, 0, 768] S1x1x1024x256.size inb_S1x1x1024x5632_S1x1x1024x256_0_0_0_768
abbrev rb3 : Rect S1x1x1024x5632 := Rect.unit (s := S1x1x1024x5632) ![0, 0, 0, 3584] S1x1x1024x256.size inb_S1x1x1024x5632_S1x1x1024x256_0_0_0_3584
abbrev ra4 : Rect S1x1x1024x5632 := Rect.unit (s := S1x1x1024x5632) ![0, 0, 0, 1024] S1x1x1024x256.size inb_S1x1x1024x5632_S1x1x1024x256_0_0_0_1024
abbrev rb4 : Rect S1x1x1024x5632 := Rect.unit (s := S1x1x1024x5632) ![0, 0, 0, 3840] S1x1x1024x256.size inb_S1x1x1024x5632_S1x1x1024x256_0_0_0_3840
abbrev ra5 : Rect S1x1x1024x5632 := Rect.unit (s := S1x1x1024x5632) ![0, 0, 0, 1280] S1x1x1024x256.size inb_S1x1x1024x5632_S1x1x1024x256_0_0_0_1280
abbrev rb5 : Rect S1x1x1024x5632 := Rect.unit (s := S1x1x1024x5632) ![0, 0, 0, 4096] S1x1x1024x256.size inb_S1x1x1024x5632_S1x1x1024x256_0_0_0_4096
abbrev ra6 : Rect S1x1x1024x5632 := Rect.unit (s := S1x1x1024x5632) ![0, 0, 0, 1536] S1x1x1024x256.size inb_S1x1x1024x5632_S1x1x1024x256_0_0_0_1536
abbrev rb6 : Rect S1x1x1024x5632 := Rect.unit (s := S1x1x1024x5632) ![0, 0, 0, 4352] S1x1x1024x256.size inb_S1x1x1024x5632_S1x1x1024x256_0_0_0_4352
abbrev ra7 : Rect S1x1x1024x5632 := Rect.unit (s := S1x1x1024x5632) ![0, 0, 0, 1792] S1x1x1024x256.size inb_S1x1x1024x5632_S1x1x1024x256_0_0_0_1792
abbrev rb7 : Rect S1x1x1024x5632 := Rect.unit (s := S1x1x1024x5632) ![0, 0, 0, 4608] S1x1x1024x256.size inb_S1x1x1024x5632_S1x1x1024x256_0_0_0_4608
abbrev ra8 : Rect S1x1x1024x5632 := Rect.unit (s := S1x1x1024x5632) ![0, 0, 0, 2048] S1x1x1024x256.size inb_S1x1x1024x5632_S1x1x1024x256_0_0_0_2048
abbrev rb8 : Rect S1x1x1024x5632 := Rect.unit (s := S1x1x1024x5632) ![0, 0, 0, 4864] S1x1x1024x256.size inb_S1x1x1024x5632_S1x1x1024x256_0_0_0_4864
abbrev ra9 : Rect S1x1x1024x5632 := Rect.unit (s := S1x1x1024x5632) ![0, 0, 0, 2304] S1x1x1024x256.size inb_S1x1x1024x5632_S1x1x1024x256_0_0_0_2304
abbrev rb9 : Rect S1x1x1024x5632 := Rect.unit (s := S1x1x1024x5632) ![0, 0, 0, 5120] S1x1x1024x256.size inb_S1x1x1024x5632_S1x1x1024x256_0_0_0_5120
abbrev ra10 : Rect S1x1x1024x5632 := Rect.unit (s := S1x1x1024x5632) ![0, 0, 0, 2560] S1x1x1024x256.size inb_S1x1x1024x5632_S1x1x1024x256_0_0_0_2560
abbrev rb10 : Rect S1x1x1024x5632 := Rect.unit (s := S1x1x1024x5632) ![0, 0, 0, 5376] S1x1x1024x256.size inb_S1x1x1024x5632_S1x1x1024x256_0_0_0_5376

/-- The rows after the mixer, from the blocks of the grid point. -/
def xB (x0 : FVec Ideal S512x1024 .f32) (x1 : FVec Ideal S1x9x1024 .f32) (x5 x6 x7 : FVec Ideal S512x1024 .bf16)
    (x8 : FVec Ideal S1x256 .f32) (x9 : FVec Ideal S1024x1024 .bf16) : FVec Ideal S512x1024 .f32 :=
  xK x0 x1 x5 x6 x7
    x8 (View.ld (Val := Elt Ideal) (e' := .bf16) x9 ro0) (View.ld (Val := Elt Ideal) (e' := .bf16) x9 ro1) (View.ld (Val := Elt Ideal) (e' := .bf16) x9 ro2) (View.ld (Val := Elt Ideal) (e' := .bf16) x9 ro3)

theorem xB_at (x0 : FVec Ideal S512x1024 .f32) (x1 : FVec Ideal S1x9x1024 .f32) (x5 x6 x7 : FVec Ideal S512x1024 .bf16)
    (x8 : FVec Ideal S1x256 .f32) (x9 : FVec Ideal S1024x1024 .bf16) (j : S512x1024.Idx) :
    xB x0 x1 x5 x6 x7 x8 x9 j = proj (fun d => x0 (ix2 (j 0) d)) (fun d => x1 (ix3 0 5 d))
      (heads (fun f => x5 (ix2 (j 0) f) + x6 (ix2 (j 0) f)) (fun f => x7 (ix2 (j 0) f)) (fun k => x8 (ix2 0 k))) (fun k d => x9 (ix2 k d)) (j 1) := by
  unfold xB
  refine (xK_at _ _ _ _ _ _ _ _ _ _ (fun k d => x9 (ix2 k d)) ?_ ?_ ?_ ?_ j).trans ?_
  · intro k d
    pointwise
  · intro k d
    pointwise
  · intro k d
    pointwise
  · intro k d
    pointwise
  · refine proj_congr (fun k => ?_) (fun k => ?_) (fun k => congrArg (fun f => f k)
      (heads_congr (fun k => congrArg₂ (fun p q : EReal => p + q) ?_ ?_) (fun k => ?_) (fun k => ?_))) (fun _ _ => rfl) rfl
    all_goals pointwise

/-- The rows before the closing norm: the input and the feed-forward's half step. -/
def yB (X : FVec Ideal S512x1024 .f32) (x1 : FVec Ideal S1x9x1024 .f32) (x2 : FVec Ideal S1x1024 .f32)
    (x3 : FVec Ideal S1x1x1024x5632 .bf16) (x4 : FVec Ideal S1x1x2816x1024 .bf16) : FVec Ideal S512x1024 .f32 :=
  addf X (closing (extractStridedSlice S1x1024 ![8, 0] (k0_pay2 x1) slices_S9x1024_o8_0_S1x1024) (chunk (normK x1 X x2) (View.ld (Val := Elt Ideal) (e' := .bf16) x3 ra0) (View.ld (Val := Elt Ideal) (e' := .bf16) x3 rb0)) (chunk (normK x1 X x2) (View.ld (Val := Elt Ideal) (e' := .bf16) x3 ra1) (View.ld (Val := Elt Ideal) (e' := .bf16) x3 rb1)) (chunk (normK x1 X x2) (View.ld (Val := Elt Ideal) (e' := .bf16) x3 ra2) (View.ld (Val := Elt Ideal) (e' := .bf16) x3 rb2)) (chunk (normK x1 X x2) (View.ld (Val := Elt Ideal) (e' := .bf16) x3 ra3) (View.ld (Val := Elt Ideal) (e' := .bf16) x3 rb3)) (chunk (normK x1 X x2) (View.ld (Val := Elt Ideal) (e' := .bf16) x3 ra4) (View.ld (Val := Elt Ideal) (e' := .bf16) x3 rb4)) (chunk (normK x1 X x2) (View.ld (Val := Elt Ideal) (e' := .bf16) x3 ra5) (View.ld (Val := Elt Ideal) (e' := .bf16) x3 rb5)) (chunk (normK x1 X x2) (View.ld (Val := Elt Ideal) (e' := .bf16) x3 ra6) (View.ld (Val := Elt Ideal) (e' := .bf16) x3 rb6)) (chunk (normK x1 X x2) (View.ld (Val := Elt Ideal) (e' := .bf16) x3 ra7) (View.ld (Val := Elt Ideal) (e' := .bf16) x3 rb7)) (chunk (normK x1 X x2) (View.ld (Val := Elt Ideal) (e' := .bf16) x3 ra8) (View.ld (Val := Elt Ideal) (e' := .bf16) x3 rb8)) (chunk (normK x1 X x2) (View.ld (Val := Elt Ideal) (e' := .bf16) x3 ra9) (View.ld (Val := Elt Ideal) (e' := .bf16) x3 rb9)) (chunk (normK x1 X x2) (View.ld (Val := Elt Ideal) (e' := .bf16) x3 ra10) (View.ld (Val := Elt Ideal) (e' := .bf16) x3 rb10)) x4)

theorem gate_at (M : FVec Ideal S1x9x1024 .f32) (d : Fin 1024) :
    extractStridedSlice S1x1024 ![8, 0] (k0_pay2 M) slices_S9x1024_o8_0_S1x1024 (ix2 0 d) = M (ix3 0 8 d) := by
  pointwise [k0_pay2]

/-- A tile of the bf16 weight. -/
theorem isTile_ld' (B : FVec Ideal S1x1x1024x5632 .bf16) (o : ℕ)
    (hb : ∀ a, (![0, 0, 0, o] : Fin 4 → ℕ) a + S1x1x1024x256.size a ≤ S1x1x1024x5632.size a) :
    IsTile (fun k f => B (ix4 0 0 k f)) o (View.ld (Val := Elt Ideal) (e' := .bf16) B (Rect.unit (s := S1x1x1024x5632) ![0, 0, 0, o] S1x1x1024x256.size hb)) := by
  intro k q f hf
  pointwise
  blk_ext

set_option maxHeartbeats 1000000 in
theorem yB_at (X : FVec Ideal S512x1024 .f32) (x1 : FVec Ideal S1x9x1024 .f32) (x2 : FVec Ideal S1x1024 .f32)
    (x3 : FVec Ideal S1x1x1024x5632 .bf16) (x4 : FVec Ideal S1x1x2816x1024 .bf16) (r : Fin 512) (d : Fin 1024) :
    yB X x1 x2 x3 x4 (ix2 r d) = ffnRow (fun d => X (ix2 r d)) (modn (fun d => X (ix2 r d)) (fun d => x2 (ix2 0 d)) (fun d => x1 (ix3 0 7 d))
      (fun d => x1 (ix3 0 6 d))) (x1 (ix3 0 8 d)) (fun k f => x3 (ix4 0 0 k f)) (fun f d => x4 (ix4 0 0 f d)) d := by
  unfold yB
  rw [block_at (w := fun k f => x3 (ix4 0 0 k f))]
  · refine ffnRow_congr (fun k => rfl) (fun k => (normK_at _ _ _ _).trans (modn_congr (fun k => rfl) (fun k => ?_) (fun k => ?_) (fun k => ?_) rfl))
      ((gate_at _ _).trans ?_) (fun k f => rfl) (fun f k => ?_) rfl
    all_goals pointwise
  all_goals exact ⟨isTile_ld' _ _ _, isTile_ld' _ _ _⟩

/-- What the body leaves in the block it stores. -/
def outB (x0 : FVec Ideal S512x1024 .f32) (x1 : FVec Ideal S1x9x1024 .f32) (x2 : FVec Ideal S1x1024 .f32)
    (x3 : FVec Ideal S1x1x1024x5632 .bf16) (x4 : FVec Ideal S1x1x2816x1024 .bf16) (x5 x6 x7 : FVec Ideal S512x1024 .bf16)
    (x8 : FVec Ideal S1x256 .f32) (x9 : FVec Ideal S1024x1024 .bf16) (x10 : FVec Ideal S1x1024 .f32) : Vec Ideal S512x1024 .f32 :=
  finK (yB (xB x0 x1 x5 x6 x7 x8 x9) x1 x2 x3 x4) x10

theorem outB_at (x0 : FVec Ideal S512x1024 .f32) (x1 : FVec Ideal S1x9x1024 .f32) (x2 : FVec Ideal S1x1024 .f32)
    (x3 : FVec Ideal S1x1x1024x5632 .bf16) (x4 : FVec Ideal S1x1x2816x1024 .bf16) (x5 x6 x7 : FVec Ideal S512x1024 .bf16)
    (x8 : FVec Ideal S1x256 .f32) (x9 : FVec Ideal S1024x1024 .bf16) (x10 : FVec Ideal S1x1024 .f32) (y : S512x1024.Idx) :
    outB x0 x1 x2 x3 x4 x5 x6 x7 x8 x9 x10 y = rms (fun d => yB (xB x0 x1 x5 x6 x7 x8 x9) x1 x2 x3 x4 (ix2 (y 0) d)) (fun d => x10 (ix2 0 d)) (y 1) := by
  exact finK_at _ _ _

variable (m : (ℓ : Loc nD τ sig) → Buf (Elt Ideal) ℓ)

theorem at11_eq (c : Dev nD) (t : Fin cfg0.N) (h0 : t.val < 16) : at11 m c t h0
    = outB (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  unfold at11 out0_A_11
  frame_out
  rfl

theorem at12_eq (c : Dev nD) (t : Fin cfg0.N) (h1 : 16 ≤ t.val) : at12 m c t h1
    = outB (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  unfold at12 out0_B_12
  frame_out
  rfl

/-- Row `a` after the mixer. -/
def X (x : FVec Ideal S16384x1024 .f32) (mod : FVec Ideal S9x9x1024 .f32) (of ob z : FVec Ideal S16384x1024 .bf16) (on : FVec Ideal S256 .f32)
    (wo : FVec Ideal S1024x1024 .bf16) (a : Fin 16384) (d : Fin 1024) : EReal :=
  proj (fun d => x (ix2 a d)) (fun d => mod (ix3 ⟨a.val / 1024 - 7, by omega⟩ 5 d))
    (heads (fun f => of (ix2 a f) + ob (ix2 a f)) (fun f => z (ix2 a f)) (fun k => on (ix1 k))) (fun k d => wo (ix2 k d)) d

/-- Row `a` after the feed-forward's half step. -/
def Y (x : FVec Ideal S16384x1024 .f32) (mod : FVec Ideal S9x9x1024 .f32) (g : FVec Ideal S1024 .f32)
    (w : FVec Ideal S2x1x1024x5632 .bf16) (wd : FVec Ideal S2x1x2816x1024 .bf16) (of ob z : FVec Ideal S16384x1024 .bf16)
    (on : FVec Ideal S256 .f32) (wo : FVec Ideal S1024x1024 .bf16) (a : Fin 16384) (d : Fin 1024) : EReal :=
  ffnRow (fun d => X x mod of ob z on wo a d)
    (modn (fun d => X x mod of ob z on wo a d) (fun d => g (ix1 d)) (fun d => mod (ix3 ⟨a.val / 1024 - 7, by omega⟩ 7 d))
      (fun d => mod (ix3 ⟨a.val / 1024 - 7, by omega⟩ 6 d)))
    (mod (ix3 ⟨a.val / 1024 - 7, by omega⟩ 8 d)) (fun k f => w (ix4 1 0 k f)) (fun f d => wd (ix4 1 0 f d)) d

/-- Row `a` of the two results taken together. -/
def G (x : FVec Ideal S16384x1024 .f32) (mod : FVec Ideal S9x9x1024 .f32) (g : FVec Ideal S1024 .f32)
    (w : FVec Ideal S2x1x1024x5632 .bf16) (wd : FVec Ideal S2x1x2816x1024 .bf16) (of ob z : FVec Ideal S16384x1024 .bf16)
    (on : FVec Ideal S256 .f32) (wo : FVec Ideal S1024x1024 .bf16) (fg : FVec Ideal S1024 .f32) (a : Fin 16384) (d : Fin 1024) : EReal :=
  rms (fun d => Y x mod g w wd of ob z on wo a d) (fun d => fg (ix1 d)) d

/-- The prompt's rows. -/
def GP (x : FVec Ideal S16384x1024 .f32) (mod : FVec Ideal S9x9x1024 .f32) (g : FVec Ideal S1024 .f32)
    (w : FVec Ideal S2x1x1024x5632 .bf16) (wd : FVec Ideal S2x1x2816x1024 .bf16) (of ob z : FVec Ideal S16384x1024 .bf16)
    (on : FVec Ideal S256 .f32) (wo : FVec Ideal S1024x1024 .bf16) (fg : FVec Ideal S1024 .f32) : FVec Ideal S8192x1024 .f32 := fun i =>
  have h0 : (i 0).val < 8192 := (i 0).isLt
  G x mod g w wd of ob z on wo fg ⟨(i 0).val, by omega⟩ ⟨(i 1).val, (i 1).isLt⟩

/-- The sample's rows. -/
def GS (x : FVec Ideal S16384x1024 .f32) (mod : FVec Ideal S9x9x1024 .f32) (g : FVec Ideal S1024 .f32)
    (w : FVec Ideal S2x1x1024x5632 .bf16) (wd : FVec Ideal S2x1x2816x1024 .bf16) (of ob z : FVec Ideal S16384x1024 .bf16)
    (on : FVec Ideal S256 .f32) (wo : FVec Ideal S1024x1024 .bf16) (fg : FVec Ideal S1024 .f32) : FVec Ideal S8192x1024 .f32 := fun i =>
  have h0 : (i 0).val < 8192 := (i 0).isLt
  G x mod g w wd of ob z on wo fg ⟨8192 + (i 0).val, by omega⟩ ⟨(i 1).val, (i 1).isLt⟩

theorem idx : ∀ t : Fin cfg0.N, win0_0.index t = ![t.val, 0] ∧ win0_1.index t = ![t.val / 2 - 7, 0, 0] ∧ win0_2.index t = ![0, 0]
    ∧ win0_3.index t = ![1, 0, 0, 0] ∧ win0_4.index t = ![1, 0, 0, 0] ∧ win0_5.index t = ![t.val, 0] ∧ win0_6.index t = ![t.val, 0]
    ∧ win0_7.index t = ![t.val, 0] ∧ win0_8.index t = ![0, 0] ∧ win0_9.index t = ![0, 0] ∧ win0_10.index t = ![0, 0]
    ∧ win0_11.index t = ![min t.val 15, 0] ∧ win0_12.index t = ![t.val - 16, 0] :=
  (by decide +kernel : ∀ t : Fin grid0.N, _)

/-- The block's rows after the mixer are the array's. -/
theorem rowX (c : Dev nD) (t : Fin cfg0.N) (r : Fin 512) (d : Fin 1024) (hb : 512 * t.val + r.val < 16384) :
    xB (iblk m c 0 t) (iblk m c 1 t) (iblk m c 5 t) (iblk m c 6 t) (iblk m c 7 t) (iblk m c 8 t) (iblk m c 9 t) (ix2 r d)
      = X (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) ⟨512 * t.val + r.val, hb⟩ d := by
  have ht : t.val < 32 := t.isLt
  refine (xB_at _ _ _ _ _ _ _ _).trans ?_
  unfold X
  refine proj_congr (fun k => ?_) (fun k => ?_) (fun k => congrArg (fun f => f k)
    (heads_congr (fun k => congrArg₂ (fun p q : EReal => p + q) ?_ ?_) (fun k => ?_) (fun k => ?_))) (fun _ _ => ?_) rfl
  all_goals blk_point [iblk, V, idx t]

/-- So are the rows after the feed-forward's half step. -/
theorem rowY (c : Dev nD) (t : Fin cfg0.N) (r : Fin 512) (d : Fin 1024) (hb : 512 * t.val + r.val < 16384) :
    yB (xB (iblk m c 0 t) (iblk m c 1 t) (iblk m c 5 t) (iblk m c 6 t) (iblk m c 7 t) (iblk m c 8 t) (iblk m c 9 t)) (iblk m c 1 t) (iblk m c 2 t) (iblk m c 3 t) (iblk m c 4 t) (ix2 r d)
      = Y (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) ⟨512 * t.val + r.val, hb⟩ d := by
  have ht : t.val < 32 := t.isLt
  refine (yB_at _ _ _ _ _ _ _).trans ?_
  unfold Y
  refine ffnRow_congr (fun k => rowX m c t r k hb) (fun k => modn_congr (fun k => rowX m c t r k hb) (fun k => ?_) (fun k => ?_) (fun k => ?_) rfl)
    ?_ (fun k f => ?_) (fun f k => ?_) rfl
  all_goals blk_point [iblk, V, idx t]

/-- And the rows after the closing norm. -/
theorem rowG (c : Dev nD) (t : Fin cfg0.N) (r : Fin 512) (d : Fin 1024) (hb : 512 * t.val + r.val < 16384) :
    outB (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r d)
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) ⟨512 * t.val + r.val, hb⟩ d := by
  have ht : t.val < 32 := t.isLt
  refine (outB_at _ _ _ _ _ _ _ _ _ _ _ _).trans ?_
  unfold G
  refine rms_congr (fun k => rowY m c t r k hb) (fun k => ?_) rfl
  blk_point [iblk, V, idx t]

theorem G_congr (x : FVec Ideal S16384x1024 .f32) (mod : FVec Ideal S9x9x1024 .f32) (g : FVec Ideal S1024 .f32)
    (w : FVec Ideal S2x1x1024x5632 .bf16) (wd : FVec Ideal S2x1x2816x1024 .bf16) (of ob z : FVec Ideal S16384x1024 .bf16)
    (on : FVec Ideal S256 .f32) (wo : FVec Ideal S1024x1024 .bf16) (fg : FVec Ideal S1024 .f32) {a a' : Fin 16384} {d d' : Fin 1024} (ha : a = a') (hd : d = d') :
    G x mod g w wd of ob z on wo fg a d = G x mod g w wd of ob z on wo fg a' d' := by
  rw [ha, hd]

theorem final11 (c : Dev nD) : (dats m 0 c).arrAt 11 cfg0.N = GP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t hf y => ?_
  have hy : (y 0).val < 512 := (y 0).isLt
  have hf' := (flush11 t).symm.trans hf
  have ht : t.val < 32 := t.isLt
  blk_simp
  rw [after0_11]
  unfold o11 GP
  split_ifs with h
  · rw [at11_eq]
    refine (congrArg (outB _ _ _ _ _ _ _ _ _ _ _) (by idx_vars y)).trans ((rowG m c t (y 0) (y 1) (by omega)).trans (G_congr _ _ _ _ _ _ _ _ _ _ _ (Fin.ext ?_) (Fin.ext ?_)))
    all_goals
      blk_simp [idx t]
      try dsimp only
      try omega
  · rw [at11_eq]
    have h31 : t.val = 31 := by
      simp only [Bool.or_eq_true, decide_eq_true_eq] at hf'
      omega
    refine (congrArg (outB _ _ _ _ _ _ _ _ _ _ _) (by idx_vars y)).trans ((rowG m c p15 (y 0) (y 1) (by show 512 * 15 + _ < _; omega)).trans (G_congr _ _ _ _ _ _ _ _ _ _ _ (Fin.ext ?_) (Fin.ext ?_)))
    all_goals
      blk_simp [idx t]
      try dsimp only
      try omega

theorem final12 (c : Dev nD) : (dats m 0 c).arrAt 12 cfg0.N = GS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t hf y => ?_
  have hy : (y 0).val < 512 := (y 0).isLt
  have h : 16 ≤ t.val := of_decide_eq_true ((flush12 t).symm.trans hf)
  have ht : t.val < 32 := t.isLt
  blk_simp
  rw [after0_12]
  unfold o12 GS
  rw [dif_pos h, at12_eq]
  refine (congrArg (outB _ _ _ _ _ _ _ _ _ _ _) (by idx_vars y)).trans ((rowG m c t (y 0) (y 1) (by omega)).trans (G_congr _ _ _ _ _ _ _ _ _ _ _ (Fin.ext ?_) (Fin.ext ?_)))
  all_goals
    blk_simp [idx t]
    try dsimp only
    try omega

end

section
open Cert.Reference8Ideal Cert.Reference8Ideal.Gen Cert.Reference8Ideal.Value Cert.RefFfn
variable (m : (ℓ : Loc nD τ sig) → Buf (Elt Ideal) ℓ)

theorem head_congr {s s' z z' g g' : Fin 256 → EReal} {q q' : Fin 256} (hs : ∀ k, s k = s' k) (hz : ∀ k, z k = z' k)
    (hg : ∀ k, g k = g' k) (hq : q = q') : head s z g q = head s' z' g' q' := by
  rw [funext hs, funext hz, funext hg, hq]

/-- The reference's heads: norm by head, times the gate. -/
def refHeads (o z : FVec Ideal S16384x4x256 .f32) (on : FVec Ideal S256 .f32) : FVec Ideal S16384x4x256 .f32 :=
  mulf (mulf (mulf o (broadcastInDim S16384x4x256 ![0, 1, 2] bcast_S16384x4x1_S16384x4x256_0_1_2 (Host.rsqrt (addf (Host.divf (broadcastInDim
      S16384x4x1 ![0, 1] bcast_S16384x4_S16384x4x1_0_1 (Host.reduceAdd (mulf o o) (constant S_ .f32 0x00000000#32)
      reducesTo_S16384x4x256_S16384x4_d2 h_S_)) (broadcastInDim S16384x4x1 ![] bcast_S_S16384x4x1 (constant S_ .f32 0x43800000#32)))
      (broadcastInDim S16384x4x1 ![] bcast_S_S16384x4x1 (constant S_ .f32 0x358637BD#32)))))) (broadcastInDim S16384x4x256 ![0, 1, 2]
      bcast_S1x1x256_S16384x4x256_0_1_2 (broadcastInDim S1x1x256 ![2] bcast_S256_S1x1x256_2 on)))
    (mulf z (Host.divf (broadcastInDim S16384x4x256 ![] bcast_S_S16384x4x256 (constant S_ .f32 0x3F800000#32)) (addf (broadcastInDim
      S16384x4x256 ![] bcast_S_S16384x4x256 (constant S_ .f32 0x3F800000#32)) (Host.exp (Host.negf z)))))

theorem refHeads_at (o z : FVec Ideal S16384x4x256 .f32) (on : FVec Ideal S256 .f32) (j : S16384x4x256.Idx) :
    refHeads o z on j = head (fun k => o (ix3 (j 0) (j 1) k)) (fun k => z (ix3 (j 0) (j 1) k)) (fun k => on (ix1 k)) (j 2) := by
  pointwise [refHeads, head, sil_eq]

/-- The heads' rows, side by side. -/
def refO (of ob z : FVec Ideal S16384x1024 .bf16) (on : FVec Ideal S256 .f32) : FVec Ideal S16384x1024 .f32 :=
  shapeCast S16384x1024 (refHeads (shapeCast S16384x4x256 (addf (extf .f32 of bitsLt_bf16_f32) (extf .f32 ob bitsLt_bf16_f32))
    shapeCasts_S16384x1024_S16384x4x256) (shapeCast S16384x4x256 (extf .f32 z bitsLt_bf16_f32) shapeCasts_S16384x1024_S16384x4x256) on)
    shapeCasts_S16384x4x256_S16384x1024

theorem refO_at (of ob z : FVec Ideal S16384x1024 .bf16) (on : FVec Ideal S256 .f32) (a : Fin 16384) (f : Fin 1024) :
    refO of ob z on (ix2 a f) = heads (fun f => of (ix2 a f) + ob (ix2 a f)) (fun f => z (ix2 a f)) (fun k => on (ix1 k)) f := by
  have e : ∀ v : FVec Ideal S16384x4x256 .f32, shapeCast S16384x1024 v shapeCasts_S16384x4x256_S16384x1024 (ix2 a f)
      = v (ix3 a ⟨f.val / 256, by omega⟩ ⟨f.val % 256, by omega⟩) := fun v => by pointwise
  refine (e _).trans ((refHeads_at _ _ _ _).trans ?_)
  unfold heads
  refine head_congr (fun k => ?_) (fun k => ?_) (fun k => rfl) rfl
  · pointwise
    simp only [Nat.mul_comm (f.val / 256) 256]
  · pointwise
    simp only [Nat.mul_comm (f.val / 256) 256]

/-- The rows after the mixer. -/
def refX (x gt mx : FVec Ideal S16384x1024 .f32) (wo : FVec Ideal S1024x1024 .bf16) : FVec Ideal S16384x1024 .f32 :=
  addf x (mulf gt (Host.dotGeneral dot_S16384x1024_S1024x1024_S16384x1024_1_0_0_1_n_n none mx (extf .f32 wo bitsLt_bf16_f32)))

theorem refX_at (x gt mx : FVec Ideal S16384x1024 .f32) (wo : FVec Ideal S1024x1024 .bf16) (a : Fin 16384) (d : Fin 1024) :
    refX x gt mx wo (ix2 a d) = proj (fun d => x (ix2 a d)) (fun d => gt (ix2 a d)) (fun k => mx (ix2 a k)) (fun k d => wo (ix2 k d)) d := by
  pointwise [refX, proj]

/-- The rows after the mixer, of the call's arguments. -/
def RX (x : FVec Ideal S16384x1024 .f32) (mod : FVec Ideal S9x9x1024 .f32) (of ob z : FVec Ideal S16384x1024 .bf16) (on : FVec Ideal S256 .f32)
    (wo : FVec Ideal S1024x1024 .bf16) : FVec Ideal S16384x1024 .f32 :=
  refX x (perRow (extractStridedSlice S9x1x1024 ![0, 5, 0] mod slices_S9x9x1024_S9x1x1024_0_5_0)) (refO of ob z on) wo

theorem RX_at (x : FVec Ideal S16384x1024 .f32) (mod : FVec Ideal S9x9x1024 .f32) (of ob z : FVec Ideal S16384x1024 .bf16) (on : FVec Ideal S256 .f32)
    (wo : FVec Ideal S1024x1024 .bf16) (a : Fin 16384) (d : Fin 1024) : RX x mod of ob z on wo (ix2 a d) = X x mod of ob z on wo a d := by
  unfold RX X
  refine (refX_at _ _ _ _ _ _).trans (proj_congr (fun _ => rfl) (fun k => ?_) (fun k => refO_at _ _ _ _ _ _) (fun _ _ => rfl) rfl)
  exact Eq.trans (perRow_ix _ a k ⟨a.val / 1024 - 7, by omega⟩ rfl) (by pointwise)

/-- The rows after the feed-forward's half step. -/
def RY (x : FVec Ideal S16384x1024 .f32) (mod : FVec Ideal S9x9x1024 .f32) (g : FVec Ideal S1024 .f32)
    (w : FVec Ideal S2x1x1024x5632 .bf16) (wd : FVec Ideal S2x1x2816x1024 .bf16) (of ob z : FVec Ideal S16384x1024 .bf16)
    (on : FVec Ideal S256 .f32) (wo : FVec Ideal S1024x1024 .bf16) : FVec Ideal S16384x1024 .f32 :=
  refTop (RX x mod of ob z on wo) (perRow (extractStridedSlice S9x1x1024 ![0, 8, 0] mod slices_S9x9x1024_S9x1x1024_0_8_0))
    (refH (RX x mod of ob z on wo) g (perRow (extractStridedSlice S9x1x1024 ![0, 7, 0] mod slices_S9x9x1024_S9x1x1024_0_7_0)) (perRow (extractStridedSlice S9x1x1024 ![0, 6, 0] mod slices_S9x9x1024_S9x1x1024_0_6_0)))
    (extf .f32 (shapeCast S1024x5632 (extractStridedSlice S1x1x1024x5632 ![1, 0, 0, 0] w slices_S2x1x1024x5632_S1x1x1024x5632_1_0_0_0)
      shapeCasts_S1x1x1024x5632_S1024x5632) bitsLt_bf16_f32)
    (extf .f32 (shapeCast S2816x1024 (extractStridedSlice S1x1x2816x1024 ![1, 0, 0, 0] wd slices_S2x1x2816x1024_S1x1x2816x1024_1_0_0_0)
      shapeCasts_S1x1x2816x1024_S2816x1024) bitsLt_bf16_f32)

theorem RY_at (x : FVec Ideal S16384x1024 .f32) (mod : FVec Ideal S9x9x1024 .f32) (g : FVec Ideal S1024 .f32)
    (w : FVec Ideal S2x1x1024x5632 .bf16) (wd : FVec Ideal S2x1x2816x1024 .bf16) (of ob z : FVec Ideal S16384x1024 .bf16)
    (on : FVec Ideal S256 .f32) (wo : FVec Ideal S1024x1024 .bf16) (a : Fin 16384) (d : Fin 1024) : RY x mod g w wd of ob z on wo (ix2 a d) = Y x mod g w wd of ob z on wo a d := by
  unfold RY Y
  rw [refTop_at]
  refine ffnRow_congr (fun k => ?_) (fun k => (refH_at _ _ _ _ _).trans (modn_congr (fun k => ?_) (fun k => ?_) (fun k => ?_) (fun k => ?_) ?_)) ?_ (fun k f => ?_) (fun f k => ?_) ?_
  case refine_1 => exact RX_at _ _ _ _ _ _ _ _ _
  case refine_2 => exact RX_at _ _ _ _ _ _ _ _ _
  case refine_4 => exact Eq.trans (perRow_ix _ a k ⟨a.val / 1024 - 7, by omega⟩ rfl) (by pointwise)
  case refine_5 => exact Eq.trans (perRow_ix _ a k ⟨a.val / 1024 - 7, by omega⟩ rfl) (by pointwise)
  case refine_7 => exact Eq.trans (perRow_ix _ a d ⟨a.val / 1024 - 7, by omega⟩ rfl) (by pointwise)
  all_goals first | rfl | pointwise

/-- The closing norm. -/
def refN (y : FVec Ideal S16384x1024 .f32) (fg : FVec Ideal S1024 .f32) : FVec Ideal S16384x1024 .f32 :=
  mulf (mulf y (broadcastInDim S16384x1024 ![0, 1] bcast_S16384x1_S16384x1024_0_1 (Host.rsqrt (addf (Host.divf (broadcastInDim
      S16384x1 ![0] bcast_S16384_S16384x1_0 (Host.reduceAdd (mulf y y) (constant S_ .f32 0x00000000#32) reducesTo_S16384x1024_S16384_d1
      h_S_)) (broadcastInDim S16384x1 ![] bcast_S_S16384x1 (constant S_ .f32 0x44800000#32))) (broadcastInDim S16384x1 ![] bcast_S_S16384x1
      (constant S_ .f32 0x358637BD#32)))))) (broadcastInDim S16384x1024 ![0, 1] bcast_S1x1024_S16384x1024_0_1 (broadcastInDim S1x1024 ![1]
      bcast_S1024_S1x1024_1 fg))

theorem refN_at (y : FVec Ideal S16384x1024 .f32) (fg : FVec Ideal S1024 .f32) (j : S16384x1024.Idx) :
    refN y fg j = rms (fun d => y (ix2 (j 0) d)) (fun d => fg (ix1 d)) (j 1) := by
  pointwise [refN, rms]

/-- The reference's two results by their vectors. -/
def REFP (x : FVec Ideal S16384x1024 .f32) (mod : FVec Ideal S9x9x1024 .f32) (g : FVec Ideal S1024 .f32)
    (w : FVec Ideal S2x1x1024x5632 .bf16) (wd : FVec Ideal S2x1x2816x1024 .bf16) (of ob z : FVec Ideal S16384x1024 .bf16)
    (on : FVec Ideal S256 .f32) (wo : FVec Ideal S1024x1024 .bf16) (fg : FVec Ideal S1024 .f32) : FVec Ideal S8192x1024 .f32 :=
  extractStridedSlice S8192x1024 ![0, 0] (refN (RY x mod g w wd of ob z on wo) fg) slices_S16384x1024_S8192x1024_0_0
def REFS (x : FVec Ideal S16384x1024 .f32) (mod : FVec Ideal S9x9x1024 .f32) (g : FVec Ideal S1024 .f32)
    (w : FVec Ideal S2x1x1024x5632 .bf16) (wd : FVec Ideal S2x1x2816x1024 .bf16) (of ob z : FVec Ideal S16384x1024 .bf16)
    (on : FVec Ideal S256 .f32) (wo : FVec Ideal S1024x1024 .bf16) (fg : FVec Ideal S1024 .f32) : FVec Ideal S8192x1024 .f32 :=
  extractStridedSlice S8192x1024 ![8192, 0] (refN (RY x mod g w wd of ob z on wo) fg) slices_S16384x1024_S8192x1024_8192_0

theorem slice_at (v : FVec Ideal S16384x1024 .f32) (i : S8192x1024.Idx) (h : (i 0).val < 8192) :
    extractStridedSlice S8192x1024 ![0, 0] v slices_S16384x1024_S8192x1024_0_0 i = v (ix2 ⟨(i 0).val, by omega⟩ ⟨(i 1).val, (i 1).isLt⟩)
    ∧ extractStridedSlice S8192x1024 ![8192, 0] v slices_S16384x1024_S8192x1024_8192_0 i = v (ix2 ⟨8192 + (i 0).val, by omega⟩ ⟨(i 1).val, (i 1).isLt⟩) := by
  constructor
  · pointwise
    blk_ext
  · pointwise
    blk_ext

theorem refP (x : FVec Ideal S16384x1024 .f32) (mod : FVec Ideal S9x9x1024 .f32) (g : FVec Ideal S1024 .f32)
    (w : FVec Ideal S2x1x1024x5632 .bf16) (wd : FVec Ideal S2x1x2816x1024 .bf16) (of ob z : FVec Ideal S16384x1024 .bf16)
    (on : FVec Ideal S256 .f32) (wo : FVec Ideal S1024x1024 .bf16) (fg : FVec Ideal S1024 .f32) : REFP x mod g w wd of ob z on wo fg = GP x mod g w wd of ob z on wo fg := by
  funext i
  unfold REFP GP G
  refine ((slice_at _ i (i 0).isLt).1).trans ((refN_at _ _ _).trans (rms_congr (fun d => RY_at _ _ _ _ _ _ _ _ _ _ _ _) (fun _ => rfl) rfl))

theorem refS (x : FVec Ideal S16384x1024 .f32) (mod : FVec Ideal S9x9x1024 .f32) (g : FVec Ideal S1024 .f32)
    (w : FVec Ideal S2x1x1024x5632 .bf16) (wd : FVec Ideal S2x1x2816x1024 .bf16) (of ob z : FVec Ideal S16384x1024 .bf16)
    (on : FVec Ideal S256 .f32) (wo : FVec Ideal S1024x1024 .bf16) (fg : FVec Ideal S1024 .f32) : REFS x mod g w wd of ob z on wo fg = GS x mod g w wd of ob z on wo fg := by
  funext i
  unfold REFS GS G
  refine ((slice_at _ i (i 0).isLt).2).trans ((refN_at _ _ _).trans (rms_congr (fun d => RY_at _ _ _ _ _ _ _ _ _ _ _ _) (fun _ => rfl) rfl))

end

/-- The two programs' two results are the same arrays. -/
theorem algebraic : Cert.algebraic_Kernel8Ideal_Reference8Ideal (hKernel8Ideal := Cert.Kernel8Ideal.Gen.facts)
    (hReference8Ideal := Cert.Reference8Ideal.Gen.facts) := by
  intro m g m' g' _ hargs
  refine ⟨fun c => GP (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)),
    fun c => GS (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)), ?_, ?_⟩
  · refine (θ_run _ _ _).mono (fun r h c => ?_) (Cert.Kernel8Ideal.Last.run_blocks m g)
    obtain ⟨h0, h1, hk⟩ := h c
    exact ⟨h0.trans (final11 m c), h1.trans (final12 m c), hk⟩
  · refine (θ_run _ _ _).mono (fun r h c => ?_) (Cert.Reference8Ideal.Value.run m' g')
    obtain ⟨e0, e1, e2, e3, e4, e5, e6, e7, e8, e9, e10⟩ := hargs c
    obtain ⟨h0, h1, hk⟩ := h c
    refine ⟨?_, ?_, hk⟩
    · show _ = GP _ _ _ _ _ _ _ _ _ _ _
      rw [h0, ← refP, ← e0, ← e1, ← e2, ← e3, ← e4, ← e5, ← e6, ← e7, ← e8, ← e9, ← e10]
      rfl
    · show _ = GS _ _ _ _ _ _ _ _ _ _ _
      rw [h1, ← refS, ← e0, ← e1, ← e2, ← e3, ← e4, ← e5, ← e6, ← e7, ← e8, ← e9, ← e10]
      rfl

end Cert.LastProof
-- ==== Proof.Ada.lean ====
/- The modulation call: for each layer, the conditions' rows `c · sigmoid(c)` times the layer's matrix, plus its bias. The kernel's
   result and the reference's result are the same array. -/
module

public import proofs.«01_k».proof.Proof.Gen.Kernel9Ideal.Value
public import proofs.«01_k».proof.Proof.Gen.Reference9Ideal.Run
public import proofs.«01_k».proof.Proof.Scalars
public import Idealize.ShloMosaic.Lib.Pipeline.ValueKit
public import Idealize.ShloMosaic.Lib.Pointwise
public import Idealize.ShloMosaic.Lib.StableHlo.RunRead
public import proofs.«01_k».proof.Defs

@[expose] public section

set_option maxRecDepth 16384

noncomputable section

namespace Cert.AdaProof

open Idealize.ShloMosaic Idealize.ShloMosaic.TcCoe Idealize.SL.Sem
open Idealize.ShloMosaic.Pipeline (Dat)

section
open Cert.Kernel9Ideal Cert.Kernel9Ideal.Gen

/-- The body's stored value by index. -/
theorem pay_at (X : FVec Ideal S16x1024 .f32) (W : FVec Ideal S1x1024x2304 .f32) (B : FVec Ideal S1x1x2304 .f32) (y : S1x16x2304.Idx) :
    k0_pay1 (F := Ideal) X W B y
      = (∑ k : Fin 1024, X (ix2 (y 1) k) * Ideal.logistic (X (ix2 (y 1) k)) * W (ix3 0 k (y 2))) + B (ix3 0 0 (y 2)) := by
  pointwise [k0_pay1]
  simp only [Scalars.half_tanh]

/-- The rows of the conditions: the prompt's, the samples', and zero rows. -/
def rows (a : FVec Ideal S1024 .f32) (b : FVec Ideal S8x1024 .f32) : FVec Ideal S16x1024 .f32 :=
  concatenate S16x1024 0 [⟨S1x1024, broadcastInDim S1x1024 ![1] bcast_S1024_S1x1024_1 a⟩, ⟨S8x1024, b⟩,
    ⟨S7x1024, broadcastInDim S7x1024 ![] bcast_S_S7x1024 (constant (F := Ideal) S_ .f32 0x00000000#32)⟩]
    concatenates_S1x1024_S8x1024_S7x1024_S16x1024_d0

/-- The result by array index, of the rows, the matrices and the biases. -/
def G (x : FVec Ideal S16x1024 .f32) (w : FVec Ideal S2x1024x9216 .f32) (b : FVec Ideal S2x9216 .f32) : FVec Ideal S2x16x9216 .f32 := fun i =>
  (∑ k : Fin 1024, x (ix2 ⟨(i 1).val, (i 1).isLt⟩ k) * Ideal.logistic (x (ix2 ⟨(i 1).val, (i 1).isLt⟩ k))
    * w (ix3 ⟨(i 0).val, (i 0).isLt⟩ k ⟨(i 2).val, (i 2).isLt⟩)) + b (ix2 ⟨(i 0).val, (i 0).isLt⟩ ⟨(i 2).val, (i 2).isLt⟩)

variable (m : (ℓ : Loc nD τ sig) → Buf (Elt Ideal) ℓ)

theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

theorem v2_eq (c : Dev nD) : V m c main_v2 = rows (m ((c : Thread nD τ).loc main_arg0)) (m ((c : Thread nD τ).loc main_arg1)) := by
  show StableHlo.after hostOps0 (fun b => m (c, b)) (Proc.tc.devRef main_v2) = _
  after_reads_simp
  rfl

theorem final (c : Dev nD) : (dats m 0 c).arrAt 3 cfg0.N = G (rows (m ((c : Thread nD τ).loc main_arg0)) (m ((c : Thread nD τ).loc main_arg1)))
    (m ((c : Thread nD τ).loc main_arg2)) (m ((c : Thread nD τ).loc main_arg3)) := by
  refine (dats m 0 c).arrAt_eq_of_covers 3 _ (by decide +kernel) fun t _ y => ?_
  blk_simp
  rw [after0_3]
  unfold out0_3
  frame_out
  rw [pay_at]
  unfold G
  have e : ∀ k, iblk m c 0 t (ix2 (y 1) k) = rows (m ((c : Thread nD τ).loc main_arg0)) (m ((c : Thread nD τ).loc main_arg1)) (ix2 (y 1) k) := fun k => by
    rw [← v2_eq]
    generalize hv : V m c main_v2 = v
    blk_point [iblk, hv, idx t]
  refine congrArg₂ (· + ·) (Finset.sum_congr rfl fun k _ => congrArg₂ (· * ·) ?_ ?_) ?_
  · rw [e]
    have hr : ∀ (r : Fin 16), r = y 1 → rows (m ((c : Thread nD τ).loc main_arg0)) (m ((c : Thread nD τ).loc main_arg1)) (ix2 (y 1) k)
        = rows (m ((c : Thread nD τ).loc main_arg0)) (m ((c : Thread nD τ).loc main_arg1)) (ix2 r k) := fun r h => by rw [h]
    rw [← hr]
    exact Fin.ext (by blk_simp [idx t])
  all_goals blk_point [iblk, V, idx t]
end

section
open Cert.Reference9Ideal Cert.Reference9Ideal.Gen Cert.Reference9Ideal.Value

/-- One layer of the reference. -/
def layer (x : FVec Ideal S16x1024 .f32) (w : FVec Ideal S1x1024x9216 .f32) (b : FVec Ideal S1x9216 .f32) : FVec Ideal S1x16x9216 .f32 :=
  broadcastInDim S1x16x9216 ![1, 2] bcast_S16x9216_S1x16x9216_1_2
    (addf (Host.dotGeneral dot_S16x1024_S1024x9216_S16x9216_1_0_0_1_n_n none
        (mulf x (Host.divf (broadcastInDim S16x1024 ![] bcast_S_S16x1024 (constant S_ .f32 0x3F800000#32))
          (addf (broadcastInDim S16x1024 ![] bcast_S_S16x1024 (constant S_ .f32 0x3F800000#32)) (Host.exp (Host.negf x)))))
        (shapeCast S1024x9216 w shapeCasts_S1x1024x9216_S1024x9216))
      (broadcastInDim S16x9216 ![0, 1] bcast_S1x9216_S16x9216_0_1 (broadcastInDim S1x9216 ![1] bcast_S9216_S1x9216_1
        (shapeCast S9216 b shapeCasts_S1x9216_S9216))))

theorem layer_at (x : FVec Ideal S16x1024 .f32) (w : FVec Ideal S1x1024x9216 .f32) (b : FVec Ideal S1x9216 .f32) (i : S1x16x9216.Idx) :
    layer x w b i = (∑ k : Fin 1024, x (ix2 (i 1) k) * Ideal.logistic (x (ix2 (i 1) k)) * w (ix3 0 k (i 2))) + b (ix2 0 (i 2)) := by
  pointwise [layer, Ideal.logistic]

/-- The reference's result by its vectors. -/
def REF (x : FVec Ideal S16x1024 .f32) (w : FVec Ideal S2x1024x9216 .f32) (b : FVec Ideal S2x9216 .f32) : FVec Ideal S2x16x9216 .f32 :=
  concatenate S2x16x9216 0 [⟨S1x16x9216, layer x (extractStridedSlice S1x1024x9216 ![0, 0, 0] w slices_S2x1024x9216_S1x1024x9216_0_0_0)
      (extractStridedSlice S1x9216 ![0, 0] b slices_S2x9216_S1x9216_0_0)⟩,
    ⟨S1x16x9216, layer x (extractStridedSlice S1x1024x9216 ![1, 0, 0] w slices_S2x1024x9216_S1x1024x9216_1_0_0)
      (extractStridedSlice S1x9216 ![1, 0] b slices_S2x9216_S1x9216_1_0)⟩] concatenates_S1x16x9216_S1x16x9216_S2x16x9216_d0

theorem ref_eq (x : FVec Ideal S16x1024 .f32) (w : FVec Ideal S2x1024x9216 .f32) (b : FVec Ideal S2x9216 .f32) : REF x w b = G x w b := by
  funext i
  have h0 : (i 0).val < 2 := (i 0).isLt
  unfold REF G
  pointwise
  simp only [layer_at]
  pointwise
  split
  · rw [show i 0 = (0 : Fin 2) from Fin.ext (by show (i 0).val = 0; omega)]
  · rw [show i 0 = (1 : Fin 2) from Fin.ext (by show (i 0).val = 1; omega)]
end

/-- The two programs' results are one array. -/
theorem algebraic : Cert.algebraic_Kernel9Ideal_Reference9Ideal (hKernel9Ideal := Cert.Kernel9Ideal.Gen.facts)
    (hReference9Ideal := Cert.Reference9Ideal.Gen.facts) := by
  intro m g m' g' _ hargs
  refine ⟨fun c => G (rows (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)))
      (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)), ?_, ?_⟩
  · exact (θ_run _ _ _).mono (fun r h c => ⟨(h c).1.trans (final m c), (h c).2⟩) (Cert.Kernel9Ideal.Value.run_blocks m g)
  · refine (θ_run _ _ _).mono (fun r h c => ⟨?_, (h c).2⟩) (Cert.Reference9Ideal.Value.run m' g')
    obtain ⟨e0, e1, e2, e3⟩ := hargs c
    show _ = G _ _ _
    rw [(h c).1, ← ref_eq, ← e0, ← e1, ← e2, ← e3]
    rfl

end Cert.AdaProof
-- ==== Proof.Conv.lean ====
/- The short convolution of the even layer: five taps over each sequence with zero rows outside it, then `x sigmoid(x)`, and the norm of
   each query and key head. The kernel's result and the reference's result are the same array. -/
module

public import proofs.«01_k».proof.Proof.Gen.Kernel10Ideal.Value
public import proofs.«01_k».proof.Proof.Gen.Reference10Ideal.Run
public import proofs.«01_k».proof.Proof.Scalars
public import Idealize.ShloMosaic.Lib.Pipeline.ValueKit
public import Idealize.ShloMosaic.Lib.Pointwise
public import Idealize.ShloMosaic.Lib.StableHlo.RunRead
public import proofs.«01_k».proof.Defs

@[expose] public section

set_option maxRecDepth 16384

noncomputable section

namespace Cert.ConvProof

open Idealize.ShloMosaic Idealize.ShloMosaic.TcCoe Idealize.SL.Sem
open Idealize.ShloMosaic.Pipeline (Dat)

/-- `x sigmoid(x)`. -/
def sil (z : EReal) : EReal := z * Ideal.logistic z

/-- Five products summed from the left. -/
def conv5 (e w : Fin 5 → EReal) : EReal := e 0 * w 0 + e 1 * w 1 + e 2 * w 2 + e 3 * w 3 + e 4 * w 4

theorem conv5_congr {e e' w w' : Fin 5 → EReal} (he : ∀ j, e j = e' j) (hw : ∀ j, w j = w' j) : conv5 e w = conv5 e' w' := by
  rw [funext he, funext hw]

section
open Cert.Kernel10Ideal Cert.Kernel10Ideal.Gen

/-- An entry of the rows, zero outside. -/
def atx (x : FVec Ideal S16384x1536 .f32) (r c : ℕ) : EReal := if h : r < 16384 ∧ c < 1536 then x (ix2 ⟨r, h.1⟩ ⟨c, h.2⟩) else 0

/-- An entry of the taps, zero outside. -/
def wt (w : FVec Ideal S1x5x1536 .f32) (j : Fin 5) (c : ℕ) : EReal := if h : c < 1536 then w (ix3 0 j ⟨c, h⟩) else 0

/-- The first row of the sequence of row `r`. -/
def lo (r : ℕ) : ℕ := if r < 8192 then r / 256 * 256 else r / 1024 * 1024

/-- The row after the last of the sequence of row `r`. -/
def hi (r : ℕ) : ℕ := if r < 8192 then r / 256 * 256 + 256 else r / 1024 * 1024 + 1024

/-- The row `j - 2` after row `r`, zero outside the sequence. -/
def tap (x : FVec Ideal S16384x1536 .f32) (r : ℕ) (j : Fin 5) (c : ℕ) : EReal :=
  if lo r + 2 ≤ r + j.val ∧ r + j.val < hi r + 2 then atx x (r + j.val - 2) c else 0

/-- The convolution's entry, through `x sigmoid(x)`. -/
def S (x : FVec Ideal S16384x1536 .f32) (w : FVec Ideal S1x5x1536 .f32) (r c : ℕ) : EReal :=
  sil (conv5 (fun j => tap x r j c) (fun j => wt w j c))

/-- The norm of an entry's head. -/
def nrm (x : FVec Ideal S16384x1536 .f32) (w : FVec Ideal S1x5x1536 .f32) (r b : ℕ) : EReal :=
  Ideal.rsqrt ((∑ k : Fin 128, S x w r (b + k.val) * S x w r (b + k.val)) + Ideal.ofBits .f32 0x358637BD#32)

/-- The result by array index. -/
def G (x : FVec Ideal S16384x1536 .f32) (w : FVec Ideal S1x5x1536 .f32) : FVec Ideal S16384x1536 .f32 := fun i =>
  if (i 1).val < 512 then S x w (i 0).val (i 1).val * (nrm x w (i 0).val ((i 1).val / 128 * 128) * Ideal.ofBits .f32 0x3DB504F3#32)
  else if (i 1).val < 1024 then S x w (i 0).val (i 1).val * nrm x w (i 0).val ((i 1).val / 128 * 128)
  else S x w (i 0).val (i 1).val

/-- One head of the body. -/
def SIL (p n : EReal) (A : Vec Ideal S8x128 .f32) (X : Vec Ideal S256x128 .f32) (N : Vec Ideal S8x128 .f32) (W : Vec Ideal S5x128 .f32) :
    FVec Ideal S256x128 .f32 := k0_pay45 (F := Ideal) p n A X N W

/-- The norm of a head's rows. -/
def RN (v : FVec Ideal S256x128 .f32) : FVec Ideal S256x1 .f32 :=
  rsqrt (addf (shapeCast S256x1 (multiReduction .add [1] S256 (mulf v v) 0x00000000#32 reduces_S256x128_S256 (.inl rfl) rfl) shapeCasts_S256_S256x1)
    (broadcast S256x1 (Scalar.ofBits (F := Ideal) .f32 0x358637BD#32)))

/-- One query head of the body. -/
def QH (p n : EReal) (A : Vec Ideal S8x128 .f32) (X : Vec Ideal S256x128 .f32) (N : Vec Ideal S8x128 .f32) (W : Vec Ideal S5x128 .f32) :
    FVec Ideal S256x128 .f32 :=
  mulf (SIL p n A X N W) (broadcastTo S256x128 (mulf (RN (SIL p n A X N W)) (broadcast S256x1 (Scalar.ofBits (F := Ideal) .f32 0x3DB504F3#32)))
    broadcasts_S256x1_S256x128)

/-- One key head of the body. -/
def KH (p n : EReal) (A : Vec Ideal S8x128 .f32) (X : Vec Ideal S256x128 .f32) (N : Vec Ideal S8x128 .f32) (W : Vec Ideal S5x128 .f32) :
    FVec Ideal S256x128 .f32 :=
  mulf (SIL p n A X N W) (broadcastTo S256x128 (RN (SIL p n A X N W)) broadcasts_S256x1_S256x128)

/-- The factor of the rows after the tile. -/
def nx (i : grid0.Coords) : EReal :=
  k0_pay2 (F := Ideal) (BitVec.ofNat 32 (i 0).val) (Scalar.cmpi .slt (BitVec.ofNat 32 (i 0).val) 32#32) (Scalar.remsi (BitVec.ofNat 32 (i 0).val) (Scalar.select (Scalar.cmpi .eq 1#32 0#32) 1#32 1#32)) (Scalar.andi (Scalar.xori (Scalar.cmpi .slt (Scalar.remsi (BitVec.ofNat 32 (i 0).val) (Scalar.select (Scalar.cmpi .eq 1#32 0#32) 1#32 1#32)) 0#32) (Scalar.cmpi .slt (Scalar.select (Scalar.cmpi .eq 1#32 0#32) 1#32 1#32) 0#32)) (Scalar.cmpi .ne (Scalar.remsi (BitVec.ofNat 32 (i 0).val) (Scalar.select (Scalar.cmpi .eq 1#32 0#32) 1#32 1#32)) 0#32)) (Scalar.addi (Scalar.remsi (BitVec.ofNat 32 (i 0).val) (Scalar.select (Scalar.cmpi .eq 1#32 0#32) 1#32 1#32)) (Scalar.select (Scalar.cmpi .eq 1#32 0#32) 1#32 1#32))

theorem out_eq (i : grid0.Coords) (x0 : FVec Ideal S8x1536 .f32) (x1 : FVec Ideal S256x1536 .f32) (x2 : FVec Ideal S8x1536 .f32) (x3 : FVec Ideal S5x1536 .f32) :
    out0_4 (F := Ideal) i x0 x1 x2 x3 = View.canon [⟨r0_34, SIL (k0_pay1 (F := Ideal) i) (nx i) (View.ld x0 r0_33) (View.ld x1 r0_34) (View.ld x2 r0_33) (View.ld x3 r0_35)⟩,
      ⟨r0_31, SIL (k0_pay1 (F := Ideal) i) (nx i) (View.ld x0 r0_30) (View.ld x1 r0_31) (View.ld x2 r0_30) (View.ld x3 r0_32)⟩,
      ⟨r0_28, SIL (k0_pay1 (F := Ideal) i) (nx i) (View.ld x0 r0_27) (View.ld x1 r0_28) (View.ld x2 r0_27) (View.ld x3 r0_29)⟩,
      ⟨r0_25, SIL (k0_pay1 (F := Ideal) i) (nx i) (View.ld x0 r0_24) (View.ld x1 r0_25) (View.ld x2 r0_24) (View.ld x3 r0_26)⟩,
      ⟨r0_22, KH (k0_pay1 (F := Ideal) i) (nx i) (View.ld x0 r0_21) (View.ld x1 r0_22) (View.ld x2 r0_21) (View.ld x3 r0_23)⟩,
      ⟨r0_19, KH (k0_pay1 (F := Ideal) i) (nx i) (View.ld x0 r0_18) (View.ld x1 r0_19) (View.ld x2 r0_18) (View.ld x3 r0_20)⟩,
      ⟨r0_16, KH (k0_pay1 (F := Ideal) i) (nx i) (View.ld x0 r0_15) (View.ld x1 r0_16) (View.ld x2 r0_15) (View.ld x3 r0_17)⟩,
      ⟨r0_13, KH (k0_pay1 (F := Ideal) i) (nx i) (View.ld x0 r0_12) (View.ld x1 r0_13) (View.ld x2 r0_12) (View.ld x3 r0_14)⟩,
      ⟨r0_10, QH (k0_pay1 (F := Ideal) i) (nx i) (View.ld x0 r0_9) (View.ld x1 r0_10) (View.ld x2 r0_9) (View.ld x3 r0_11)⟩,
      ⟨r0_7, QH (k0_pay1 (F := Ideal) i) (nx i) (View.ld x0 r0_6) (View.ld x1 r0_7) (View.ld x2 r0_6) (View.ld x3 r0_8)⟩,
      ⟨r0_4, QH (k0_pay1 (F := Ideal) i) (nx i) (View.ld x0 r0_3) (View.ld x1 r0_4) (View.ld x2 r0_3) (View.ld x3 r0_5)⟩,
      ⟨r0_1, QH (k0_pay1 (F := Ideal) i) (nx i) (View.ld x0 r0_0) (View.ld x1 r0_1) (View.ld x2 r0_0) (View.ld x3 r0_2)⟩] := rfl

/-- Whether the tile's sequence has rows before the tile. -/
def pb (i : grid0.Coords) : BitVec 1 :=
  let arg0 : BitVec 32 := BitVec.ofNat 32 (i 0).val
  let v0 : BitVec 1 := Scalar.cmpi .slt arg0 32#32
  let v1 : BitVec 1 := Scalar.cmpi .eq 1#32 0#32
  let v2 : BitVec 32 := Scalar.select v1 1#32 1#32
  let v3 : BitVec 32 := Scalar.remsi arg0 v2
  let v4 : BitVec 1 := Scalar.cmpi .ne v3 0#32
  let v5 : BitVec 1 := Scalar.cmpi .slt v3 0#32
  let v6 : BitVec 1 := Scalar.cmpi .slt v2 0#32
  let v7 : BitVec 1 := Scalar.xori v5 v6
  let v8 : BitVec 1 := Scalar.andi v7 v4
  let v9 : BitVec 32 := Scalar.addi v3 v2
  let v10 : BitVec 32 := Scalar.select v8 v9 v3
  let v11 : BitVec 32 := Scalar.subi arg0 32#32
  let v12 : BitVec 1 := Scalar.cmpi .eq 4#32 0#32
  let v13 : BitVec 32 := Scalar.select v12 1#32 4#32
  let v14 : BitVec 32 := Scalar.remsi v11 v13
  let v15 : BitVec 1 := Scalar.cmpi .ne v14 0#32
  let v16 : BitVec 1 := Scalar.cmpi .slt v14 0#32
  let v17 : BitVec 1 := Scalar.cmpi .slt v13 0#32
  let v18 : BitVec 1 := Scalar.xori v16 v17
  let v19 : BitVec 1 := Scalar.andi v18 v15
  let v20 : BitVec 32 := Scalar.addi v14 v13
  let v21 : BitVec 32 := Scalar.select v19 v20 v14
  let v22 : BitVec 32 := Scalar.select v0 v10 v21
  let v23 : BitVec 1 := Scalar.cmpi .sgt v22 0#32
  v23

/-- Whether the tile's sequence has rows after the tile. -/
def nb (arg0 : BitVec 32) (v25 : BitVec 1) (v28 : BitVec 32) (v33 : BitVec 1) (v34 : BitVec 32) : BitVec 1 :=
  let v35 : BitVec 32 := Scalar.select v33 v34 v28
  let v36 : BitVec 32 := Scalar.subi arg0 32#32
  let v37 : BitVec 1 := Scalar.cmpi .eq 4#32 0#32
  let v38 : BitVec 32 := Scalar.select v37 1#32 4#32
  let v39 : BitVec 32 := Scalar.remsi v36 v38
  let v40 : BitVec 1 := Scalar.cmpi .ne v39 0#32
  let v41 : BitVec 1 := Scalar.cmpi .slt v39 0#32
  let v42 : BitVec 1 := Scalar.cmpi .slt v38 0#32
  let v43 : BitVec 1 := Scalar.xori v41 v42
  let v44 : BitVec 1 := Scalar.andi v43 v40
  let v45 : BitVec 32 := Scalar.addi v39 v38
  let v46 : BitVec 32 := Scalar.select v44 v45 v39
  let v47 : BitVec 32 := Scalar.select v25 v35 v46
  let v48 : BitVec 1 := Scalar.cmpi .slt arg0 32#32
  let v49 : BitVec 32 := Scalar.select v48 1#32 4#32
  let v50 : BitVec 32 := Scalar.subi v49 1#32
  let v51 : BitVec 1 := Scalar.cmpi .slt v47 v50
  v51

theorem one_word : Ideal.ofBits .f32 0x3F800000#32 = 1 := by
  simp [Ideal.ofBits, Ideal.ieee]
  rw [← EReal.coe_mul]
  norm_num

theorem zero_word : Ideal.ofBits .f32 0x00000000#32 = 0 := by
  simp [Ideal.ofBits, Ideal.ieee]

theorem pb_eq : ∀ t : Fin cfg0.N, pb (cfg0.grid.coords t) = if 32 ≤ t.val ∧ t.val % 4 ≠ 0 then 1#1 else 0#1 :=
  (by decide +kernel : ∀ t : Fin grid0.N, _)

theorem nb_eq : ∀ t : Fin cfg0.N, (fun i : grid0.Coords => nb (BitVec.ofNat 32 (i 0).val) (Scalar.cmpi .slt (BitVec.ofNat 32 (i 0).val) 32#32) (Scalar.remsi (BitVec.ofNat 32 (i 0).val) (Scalar.select (Scalar.cmpi .eq 1#32 0#32) 1#32 1#32)) (Scalar.andi (Scalar.xori (Scalar.cmpi .slt (Scalar.remsi (BitVec.ofNat 32 (i 0).val) (Scalar.select (Scalar.cmpi .eq 1#32 0#32) 1#32 1#32)) 0#32) (Scalar.cmpi .slt (Scalar.select (Scalar.cmpi .eq 1#32 0#32) 1#32 1#32) 0#32)) (Scalar.cmpi .ne (Scalar.remsi (BitVec.ofNat 32 (i 0).val) (Scalar.select (Scalar.cmpi .eq 1#32 0#32) 1#32 1#32)) 0#32)) (Scalar.addi (Scalar.remsi (BitVec.ofNat 32 (i 0).val) (Scalar.select (Scalar.cmpi .eq 1#32 0#32) 1#32 1#32)) (Scalar.select (Scalar.cmpi .eq 1#32 0#32) 1#32 1#32))) (cfg0.grid.coords t) = if 32 ≤ t.val ∧ t.val % 4 ≠ 3 then 1#1 else 0#1 :=
  (by decide +kernel : ∀ t : Fin grid0.N, _)

theorem p_eq (t : Fin cfg0.N) : k0_pay1 (F := Ideal) (cfg0.grid.coords t) = if 32 ≤ t.val ∧ t.val % 4 ≠ 0 then 1 else 0 := by
  show Scalar.select (pb (cfg0.grid.coords t)) (Ideal.ofBits .f32 0x3F800000#32) (Ideal.ofBits .f32 0x00000000#32) = _
  rw [pb_eq, one_word, zero_word]
  split_ifs <;> rfl

theorem n_eq (t : Fin cfg0.N) : nx (cfg0.grid.coords t) = if 32 ≤ t.val ∧ t.val % 4 ≠ 3 then 1 else 0 := by
  show Scalar.select ((fun i : grid0.Coords => nb (BitVec.ofNat 32 (i 0).val) (Scalar.cmpi .slt (BitVec.ofNat 32 (i 0).val) 32#32) (Scalar.remsi (BitVec.ofNat 32 (i 0).val) (Scalar.select (Scalar.cmpi .eq 1#32 0#32) 1#32 1#32)) (Scalar.andi (Scalar.xori (Scalar.cmpi .slt (Scalar.remsi (BitVec.ofNat 32 (i 0).val) (Scalar.select (Scalar.cmpi .eq 1#32 0#32) 1#32 1#32)) 0#32) (Scalar.cmpi .slt (Scalar.select (Scalar.cmpi .eq 1#32 0#32) 1#32 1#32) 0#32)) (Scalar.cmpi .ne (Scalar.remsi (BitVec.ofNat 32 (i 0).val) (Scalar.select (Scalar.cmpi .eq 1#32 0#32) 1#32 1#32)) 0#32)) (Scalar.addi (Scalar.remsi (BitVec.ofNat 32 (i 0).val) (Scalar.select (Scalar.cmpi .eq 1#32 0#32) 1#32 1#32)) (Scalar.select (Scalar.cmpi .eq 1#32 0#32) 1#32 1#32))) (cfg0.grid.coords t)) (Ideal.ofBits .f32 0x3F800000#32) (Ideal.ofBits .f32 0x00000000#32) = _
  rw [nb_eq, one_word, zero_word]
  split_ifs <;> rfl

/-- The 272 rows about the tile. -/
def E (p n : EReal) (A : FVec Ideal S8x128 .f32) (X : FVec Ideal S256x128 .f32) (N : FVec Ideal S8x128 .f32) (r : ℕ) (hr : r < 272) (q : Fin 128) : EReal :=
  if h : r < 8 then A (ix2 ⟨r, h⟩ q) * p else if h : r - 8 < 256 then X (ix2 ⟨r - 8, h⟩ q) else N (ix2 ⟨r - 8 - 256, by omega⟩ q) * n

theorem E_congr (p n : EReal) (A : FVec Ideal S8x128 .f32) (X : FVec Ideal S256x128 .f32) (N : FVec Ideal S8x128 .f32) (r r' : ℕ) (hr : r < 272)
    (hr' : r' < 272) (q : Fin 128) (h : r = r') : E p n A X N r hr q = E p n A X N r' hr' q := by
  subst h
  rfl

theorem SIL_at (p n : EReal) (A : FVec Ideal S8x128 .f32) (X : FVec Ideal S256x128 .f32) (N : FVec Ideal S8x128 .f32) (W : FVec Ideal S5x128 .f32)
    (y : S256x128.Idx) : SIL p n A X N W y = sil (conv5 (fun j => E p n A X N (6 + (y 0).val + j.val) (by have h : (y 0).val < 256 := (y 0).isLt; omega) (y 1))
      (fun j => W (ix2 j (y 1)))) := by
  have h : (y 0).val < 256 := (y 0).isLt
  have key : SIL p n A X N W y = sil (E p n A X N ((8 + (y 0).val + 272 - 2) % 272) (by omega) (y 1) * W (ix2 0 (y 1))
      + E p n A X N ((8 + (y 0).val + 272 - 1) % 272) (by omega) (y 1) * W (ix2 1 (y 1)) + X y * W (ix2 2 (y 1))
      + E p n A X N ((8 + (y 0).val + 272 - 271) % 272) (by omega) (y 1) * W (ix2 3 (y 1))
      + E p n A X N ((8 + (y 0).val + 272 - 270) % 272) (by omega) (y 1) * W (ix2 4 (y 1))) := by
    unfold SIL sil
    rw [← Scalars.half_tanh]
    pointwise [k0_pay45, E]
  have e0 : E p n A X N ((8 + (y 0).val + 272 - 2) % 272) (by omega) (y 1) = E p n A X N (6 + (y 0).val + 0) (by omega) (y 1) := E_congr _ _ _ _ _ _ _ _ _ _ (by omega)
  have e1 : E p n A X N ((8 + (y 0).val + 272 - 1) % 272) (by omega) (y 1) = E p n A X N (6 + (y 0).val + 1) (by omega) (y 1) := E_congr _ _ _ _ _ _ _ _ _ _ (by omega)
  have e3 : E p n A X N ((8 + (y 0).val + 272 - 271) % 272) (by omega) (y 1) = E p n A X N (6 + (y 0).val + 3) (by omega) (y 1) := E_congr _ _ _ _ _ _ _ _ _ _ (by omega)
  have e4 : E p n A X N ((8 + (y 0).val + 272 - 270) % 272) (by omega) (y 1) = E p n A X N (6 + (y 0).val + 4) (by omega) (y 1) := E_congr _ _ _ _ _ _ _ _ _ _ (by omega)
  have e2 : X y = E p n A X N (6 + (y 0).val + 2) (by omega) (y 1) := by
    unfold E
    rw [dif_neg (by omega), dif_pos (by omega)]
    have e : (⟨6 + (y 0).val + 2 - 8, by omega⟩ : Fin 256) = y 0 := Fin.ext (by show 6 + (y 0).val + 2 - 8 = (y 0).val; omega)
    rw [e]
    pointwise
  rw [key, e0, e1, e2, e3, e4]
  rfl

theorem lo_tile (t r : ℕ) (hr : r < 256) : lo (256 * t + r) = if t < 32 then 256 * t else 1024 * (t / 4) := by
  unfold lo
  split_ifs <;> omega

theorem hi_tile (t r : ℕ) (hr : r < 256) : hi (256 * t + r) = if t < 32 then 256 * t + 256 else 1024 * (t / 4) + 1024 := by
  unfold hi
  split_ifs <;> omega

theorem E_tap (p n : EReal) (A : FVec Ideal S8x128 .f32) (X : FVec Ideal S256x128 .f32) (N : FVec Ideal S8x128 .f32) (x : FVec Ideal S16384x1536 .f32)
    (t b : ℕ) (ht : t < 64)
    (hA : ∀ (r : Fin 8) (q : Fin 128), A (ix2 r q) * p = if 32 ≤ t ∧ t % 4 ≠ 0 then atx x (256 * t + r.val - 8) (b + q.val) else 0)
    (hX : ∀ (r : Fin 256) (q : Fin 128), X (ix2 r q) = atx x (256 * t + r.val) (b + q.val))
    (hN : ∀ (r : Fin 8) (q : Fin 128), N (ix2 r q) * n = if 32 ≤ t ∧ t % 4 ≠ 3 then atx x (256 * t + 256 + r.val) (b + q.val) else 0)
    (r : ℕ) (hr : r < 256) (j : Fin 5) (q : Fin 128) :
    E p n A X N (6 + r + j.val) (by omega) q = tap x (256 * t + r) j (b + q.val) := by
  have hj : j.val < 5 := j.isLt
  unfold E tap
  rw [lo_tile t r hr, hi_tile t r hr]
  split
  · rw [hA]
    split_ifs <;> first | omega | rfl | exact congrArg (atx x · _) (by dsimp only; omega)
  · split
    · rw [hX]
      split_ifs <;> first | omega | exact congrArg (atx x · _) (by dsimp only; omega)
    · rw [hN]
      split_ifs <;> first | omega | rfl | exact congrArg (atx x · _) (by dsimp only; omega)

theorem SIL_S (p n : EReal) (A : FVec Ideal S8x128 .f32) (X : FVec Ideal S256x128 .f32) (N : FVec Ideal S8x128 .f32) (W : FVec Ideal S5x128 .f32)
    (x : FVec Ideal S16384x1536 .f32) (w : FVec Ideal S1x5x1536 .f32) (t b : ℕ) (ht : t < 64)
    (hA : ∀ (r : Fin 8) (q : Fin 128), A (ix2 r q) * p = if 32 ≤ t ∧ t % 4 ≠ 0 then atx x (256 * t + r.val - 8) (b + q.val) else 0)
    (hX : ∀ (r : Fin 256) (q : Fin 128), X (ix2 r q) = atx x (256 * t + r.val) (b + q.val))
    (hN : ∀ (r : Fin 8) (q : Fin 128), N (ix2 r q) * n = if 32 ≤ t ∧ t % 4 ≠ 3 then atx x (256 * t + 256 + r.val) (b + q.val) else 0)
    (hW : ∀ (j : Fin 5) (q : Fin 128), W (ix2 j q) = wt w j (b + q.val)) (y : S256x128.Idx) :
    SIL p n A X N W y = S x w (256 * t + (y 0).val) (b + (y 1).val) := by
  rw [SIL_at]
  unfold S
  exact congrArg sil (conv5_congr (fun j => E_tap p n A X N x t b ht hA hX hN (y 0).val (y 0).isLt j (y 1)) fun j => hW j _)

theorem QH_at (p n : EReal) (A : FVec Ideal S8x128 .f32) (X : FVec Ideal S256x128 .f32) (N : FVec Ideal S8x128 .f32) (W : FVec Ideal S5x128 .f32)
    (y : S256x128.Idx) : QH p n A X N W y = SIL p n A X N W y * (RN (SIL p n A X N W) (ix2 (y 0) 0) * Ideal.ofBits .f32 0x3DB504F3#32) := by
  pointwise [QH]

theorem KH_at (p n : EReal) (A : FVec Ideal S8x128 .f32) (X : FVec Ideal S256x128 .f32) (N : FVec Ideal S8x128 .f32) (W : FVec Ideal S5x128 .f32)
    (y : S256x128.Idx) : KH p n A X N W y = SIL p n A X N W y * RN (SIL p n A X N W) (ix2 (y 0) 0) := by
  pointwise [KH]

theorem RN_at (v : FVec Ideal S256x128 .f32) (j : S256x1.Idx) :
    RN v j = Ideal.rsqrt ((∑ k : Fin 128, v (ix2 (j 0) k) * v (ix2 (j 0) k)) + Ideal.ofBits .f32 0x358637BD#32) := by
  pointwise [RN]

variable (m : (ℓ : Loc nD τ sig) → Buf (Elt Ideal) ℓ)

theorem idx : ∀ t : Fin cfg0.N, win0_0.index t = ![32 * t.val - 1, 0] ∧ win0_1.index t = ![t.val, 0]
    ∧ win0_2.index t = ![min (32 * (t.val + 1)) 2047, 0] ∧ win0_3.index t = ![0, 0] ∧ win0_4.index t = ![t.val, 0] :=
  (by decide +kernel : ∀ t : Fin grid0.N, _)

theorem blk0 (c : Dev nD) (t : Fin cfg0.N) (r : Fin 8) (q : Fin 1536) :
    iblk m c 0 t (ix2 r q) = atx (m ((c : Thread nD τ).loc main_arg0)) ((32 * t.val - 1) * 8 + r.val) q.val := by
  have ht : t.val < 64 := t.isLt
  unfold atx
  rw [dif_pos ⟨by omega, q.isLt⟩]
  blk_point [iblk, V, idx t]

theorem blk1 (c : Dev nD) (t : Fin cfg0.N) (r : Fin 256) (q : Fin 1536) :
    iblk m c 1 t (ix2 r q) = atx (m ((c : Thread nD τ).loc main_arg0)) (256 * t.val + r.val) q.val := by
  have ht : t.val < 64 := t.isLt
  unfold atx
  rw [dif_pos ⟨by omega, q.isLt⟩]
  blk_point [iblk, V, idx t]

theorem blk2 (c : Dev nD) (t : Fin cfg0.N) (r : Fin 8) (q : Fin 1536) :
    iblk m c 2 t (ix2 r q) = atx (m ((c : Thread nD τ).loc main_arg0)) (min (32 * (t.val + 1)) 2047 * 8 + r.val) q.val := by
  have ht : t.val < 64 := t.isLt
  unfold atx
  rw [dif_pos ⟨by omega, q.isLt⟩]
  blk_point [iblk, V, idx t]

theorem blk3 (c : Dev nD) (t : Fin cfg0.N) (j : Fin 5) (q : Fin 1536) :
    iblk m c 3 t (ix2 j q) = wt (m ((c : Thread nD τ).loc main_arg1)) j q.val := by
  unfold wt
  rw [dif_pos q.isLt]
  blk_point [iblk, V, idx t]

theorem G_eval (x : FVec Ideal S16384x1536 .f32) (w : FVec Ideal S1x5x1536 .f32) (i : S16384x1536.Idx) (r c : ℕ) (h0 : (i 0).val = r) (h1 : (i 1).val = c) :
    G x w i = if c < 512 then S x w r c * (nrm x w r (c / 128 * 128) * Ideal.ofBits .f32 0x3DB504F3#32)
      else if c < 1024 then S x w r c * nrm x w r (c / 128 * 128) else S x w r c := by
  subst h0 h1
  rfl

theorem ld0 (v : FVec Ideal S8x1536 .f32) (b : ℕ) (hb : ∀ a, (![0, b] : Fin 2 → ℕ) a + S8x128.size a ≤ S8x1536.size a) (hb' : b + 128 ≤ 1536) (r : Fin 8) (q : Fin 128) :
    View.ld (Val := Elt Ideal) (e' := .f32) v (Rect.unit (s := S8x1536) ![0, b] S8x128.size hb) (ix2 r q) = v (ix2 r ⟨b + q.val, by omega⟩) := by
  pointwise
  blk_ext

theorem ld1 (v : FVec Ideal S256x1536 .f32) (b : ℕ) (hb : ∀ a, (![0, b] : Fin 2 → ℕ) a + S256x128.size a ≤ S256x1536.size a) (hb' : b + 128 ≤ 1536) (r : Fin 256) (q : Fin 128) :
    View.ld (Val := Elt Ideal) (e' := .f32) v (Rect.unit (s := S256x1536) ![0, b] S256x128.size hb) (ix2 r q) = v (ix2 r ⟨b + q.val, by omega⟩) := by
  pointwise
  blk_ext

theorem ld3 (v : FVec Ideal S5x1536 .f32) (b : ℕ) (hb : ∀ a, (![0, b] : Fin 2 → ℕ) a + S5x128.size a ≤ S5x1536.size a) (hb' : b + 128 ≤ 1536) (r : Fin 5) (q : Fin 128) :
    View.ld (Val := Elt Ideal) (e' := .f32) v (Rect.unit (s := S5x1536) ![0, b] S5x128.size hb) (ix2 r q) = v (ix2 r ⟨b + q.val, by omega⟩) := by
  pointwise
  blk_ext

theorem sil_head (c : Dev nD) (t : Fin cfg0.N) (b : ℕ) (hb : b + 128 ≤ 1536) (h0 : ∀ a, (![0, b] : Fin 2 → ℕ) a + S8x128.size a ≤ S8x1536.size a)
    (h1 : ∀ a, (![0, b] : Fin 2 → ℕ) a + S256x128.size a ≤ S256x1536.size a) (h3 : ∀ a, (![0, b] : Fin 2 → ℕ) a + S5x128.size a ≤ S5x1536.size a) (y : S256x128.Idx) :
    SIL (k0_pay1 (F := Ideal) (cfg0.grid.coords t)) (nx (cfg0.grid.coords t)) (View.ld (iblk m c 0 t) (Rect.unit (s := S8x1536) ![0, b] S8x128.size h0))
      (View.ld (iblk m c 1 t) (Rect.unit (s := S256x1536) ![0, b] S256x128.size h1)) (View.ld (iblk m c 2 t) (Rect.unit (s := S8x1536) ![0, b] S8x128.size h0))
      (View.ld (iblk m c 3 t) (Rect.unit (s := S5x1536) ![0, b] S5x128.size h3)) y
      = S (m ((c : Thread nD τ).loc main_arg0)) (m ((c : Thread nD τ).loc main_arg1)) (256 * t.val + (y 0).val) (b + (y 1).val) := by
  have ht : t.val < 64 := t.isLt
  refine SIL_S _ _ _ _ _ _ _ _ _ b ht (fun r q => ?_) (fun r q => ?_) (fun r q => ?_) (fun j q => ?_) y
  · rw [p_eq]
    refine (congrArg (· * _) ((ld0 _ b h0 hb r q).trans (blk0 m c t r _))).trans ?_
    split_ifs with h
    · rw [mul_one]
      exact congrArg (atx _ · _) (by omega)
    · exact mul_zero _
  · exact (ld1 _ b h1 hb r q).trans (blk1 m c t r _)
  · rw [n_eq]
    refine (congrArg (· * _) ((ld0 _ b h0 hb r q).trans (blk2 m c t r _))).trans ?_
    split_ifs with h
    · rw [mul_one]
      exact congrArg (atx _ · _) (by omega)
    · exact mul_zero _
  · exact (ld3 _ b h3 hb j q).trans (blk3 m c t j _)

theorem kh_head (c : Dev nD) (t : Fin cfg0.N) (b : ℕ) (hb : b + 128 ≤ 1536) (h0 : ∀ a, (![0, b] : Fin 2 → ℕ) a + S8x128.size a ≤ S8x1536.size a)
    (h1 : ∀ a, (![0, b] : Fin 2 → ℕ) a + S256x128.size a ≤ S256x1536.size a) (h3 : ∀ a, (![0, b] : Fin 2 → ℕ) a + S5x128.size a ≤ S5x1536.size a) (y : S256x128.Idx) :
    KH (k0_pay1 (F := Ideal) (cfg0.grid.coords t)) (nx (cfg0.grid.coords t)) (View.ld (iblk m c 0 t) (Rect.unit (s := S8x1536) ![0, b] S8x128.size h0))
      (View.ld (iblk m c 1 t) (Rect.unit (s := S256x1536) ![0, b] S256x128.size h1)) (View.ld (iblk m c 2 t) (Rect.unit (s := S8x1536) ![0, b] S8x128.size h0))
      (View.ld (iblk m c 3 t) (Rect.unit (s := S5x1536) ![0, b] S5x128.size h3)) y
      = S (m ((c : Thread nD τ).loc main_arg0)) (m ((c : Thread nD τ).loc main_arg1)) (256 * t.val + (y 0).val) (b + (y 1).val)
        * nrm (m ((c : Thread nD τ).loc main_arg0)) (m ((c : Thread nD τ).loc main_arg1)) (256 * t.val + (y 0).val) b := by
  refine (KH_at _ _ _ _ _ _ y).trans (congrArg₂ (· * ·) (sil_head m c t b hb h0 h1 h3 y) ((RN_at _ _).trans ?_))
  exact congrArg (fun z => Ideal.rsqrt (z + _)) (Finset.sum_congr rfl fun k _ => congrArg (fun z => z * z) (sil_head m c t b hb h0 h1 h3 (ix2 (y 0) k)))

theorem qh_head (c : Dev nD) (t : Fin cfg0.N) (b : ℕ) (hb : b + 128 ≤ 1536) (h0 : ∀ a, (![0, b] : Fin 2 → ℕ) a + S8x128.size a ≤ S8x1536.size a)
    (h1 : ∀ a, (![0, b] : Fin 2 → ℕ) a + S256x128.size a ≤ S256x1536.size a) (h3 : ∀ a, (![0, b] : Fin 2 → ℕ) a + S5x128.size a ≤ S5x1536.size a) (y : S256x128.Idx) :
    QH (k0_pay1 (F := Ideal) (cfg0.grid.coords t)) (nx (cfg0.grid.coords t)) (View.ld (iblk m c 0 t) (Rect.unit (s := S8x1536) ![0, b] S8x128.size h0))
      (View.ld (iblk m c 1 t) (Rect.unit (s := S256x1536) ![0, b] S256x128.size h1)) (View.ld (iblk m c 2 t) (Rect.unit (s := S8x1536) ![0, b] S8x128.size h0))
      (View.ld (iblk m c 3 t) (Rect.unit (s := S5x1536) ![0, b] S5x128.size h3)) y
      = S (m ((c : Thread nD τ).loc main_arg0)) (m ((c : Thread nD τ).loc main_arg1)) (256 * t.val + (y 0).val) (b + (y 1).val)
        * (nrm (m ((c : Thread nD τ).loc main_arg0)) (m ((c : Thread nD τ).loc main_arg1)) (256 * t.val + (y 0).val) b * Ideal.ofBits .f32 0x3DB504F3#32) := by
  refine (QH_at _ _ _ _ _ _ y).trans (congrArg₂ (· * ·) (sil_head m c t b hb h0 h1 h3 y) (congrArg (· * _) ((RN_at _ _).trans ?_)))
  exact congrArg (fun z => Ideal.rsqrt (z + _)) (Finset.sum_congr rfl fun k _ => congrArg (fun z => z * z) (sil_head m c t b hb h0 h1 h3 (ix2 (y 0) k)))

theorem final (c : Dev nD) : (dats m 0 c).arrAt 4 cfg0.N = G (m ((c : Thread nD τ).loc main_arg0)) (m ((c : Thread nD τ).loc main_arg1)) := by
  refine (dats m 0 c).arrAt_eq_of_covers 4 _ (by decide +kernel) fun t _ y => ?_
  blk_simp
  rw [after0_4, out_eq]
  canon_tiles x h
  · refine (sil_head m c t 1408 (by omega) _ _ _ x).trans ?_
    rw [G_eval _ _ _ (256 * t.val + (x 0).val) (1408 + (x 1).val) (by blk_simp [idx t, h0]; omega) (by blk_simp [idx t, h1])]
    rw [if_neg (by omega), if_neg (by omega)]
  · refine (sil_head m c t 1280 (by omega) _ _ _ x).trans ?_
    rw [G_eval _ _ _ (256 * t.val + (x 0).val) (1280 + (x 1).val) (by blk_simp [idx t, h0]; omega) (by blk_simp [idx t, h1])]
    rw [if_neg (by omega), if_neg (by omega)]
  · refine (sil_head m c t 1152 (by omega) _ _ _ x).trans ?_
    rw [G_eval _ _ _ (256 * t.val + (x 0).val) (1152 + (x 1).val) (by blk_simp [idx t, h0]; omega) (by blk_simp [idx t, h1])]
    rw [if_neg (by omega), if_neg (by omega)]
  · refine (sil_head m c t 1024 (by omega) _ _ _ x).trans ?_
    rw [G_eval _ _ _ (256 * t.val + (x 0).val) (1024 + (x 1).val) (by blk_simp [idx t, h0]; omega) (by blk_simp [idx t, h1])]
    rw [if_neg (by omega), if_neg (by omega)]
  · refine (kh_head m c t 896 (by omega) _ _ _ x).trans ?_
    rw [G_eval _ _ _ (256 * t.val + (x 0).val) (896 + (x 1).val) (by blk_simp [idx t, h0]; omega) (by blk_simp [idx t, h1])]
    rw [if_neg (by omega), if_pos (by omega), show (896 + (x 1).val) / 128 * 128 = 896 by omega]
  · refine (kh_head m c t 768 (by omega) _ _ _ x).trans ?_
    rw [G_eval _ _ _ (256 * t.val + (x 0).val) (768 + (x 1).val) (by blk_simp [idx t, h0]; omega) (by blk_simp [idx t, h1])]
    rw [if_neg (by omega), if_pos (by omega), show (768 + (x 1).val) / 128 * 128 = 768 by omega]
  · refine (kh_head m c t 640 (by omega) _ _ _ x).trans ?_
    rw [G_eval _ _ _ (256 * t.val + (x 0).val) (640 + (x 1).val) (by blk_simp [idx t, h0]; omega) (by blk_simp [idx t, h1])]
    rw [if_neg (by omega), if_pos (by omega), show (640 + (x 1).val) / 128 * 128 = 640 by omega]
  · refine (kh_head m c t 512 (by omega) _ _ _ x).trans ?_
    rw [G_eval _ _ _ (256 * t.val + (x 0).val) (512 + (x 1).val) (by blk_simp [idx t, h0]; omega) (by blk_simp [idx t, h1])]
    rw [if_neg (by omega), if_pos (by omega), show (512 + (x 1).val) / 128 * 128 = 512 by omega]
  · refine (qh_head m c t 384 (by omega) _ _ _ x).trans ?_
    rw [G_eval _ _ _ (256 * t.val + (x 0).val) (384 + (x 1).val) (by blk_simp [idx t, h0]; omega) (by blk_simp [idx t, h1])]
    rw [if_pos (by omega), show (384 + (x 1).val) / 128 * 128 = 384 by omega]
  · refine (qh_head m c t 256 (by omega) _ _ _ x).trans ?_
    rw [G_eval _ _ _ (256 * t.val + (x 0).val) (256 + (x 1).val) (by blk_simp [idx t, h0]; omega) (by blk_simp [idx t, h1])]
    rw [if_pos (by omega), show (256 + (x 1).val) / 128 * 128 = 256 by omega]
  · refine (qh_head m c t 128 (by omega) _ _ _ x).trans ?_
    rw [G_eval _ _ _ (256 * t.val + (x 0).val) (128 + (x 1).val) (by blk_simp [idx t, h0]; omega) (by blk_simp [idx t, h1])]
    rw [if_pos (by omega), show (128 + (x 1).val) / 128 * 128 = 128 by omega]
  · refine (qh_head m c t 0 (by omega) _ _ _ x).trans ?_
    rw [G_eval _ _ _ (256 * t.val + (x 0).val) (0 + (x 1).val) (by blk_simp [idx t, h0]; omega) (by blk_simp [idx t, h1])]
    rw [if_pos (by omega), show (0 + (x 1).val) / 128 * 128 = 0 by omega]
end

section
open Cert.Reference10Ideal Cert.Reference10Ideal.Gen Cert.Reference10Ideal.Value

/-- 32 sequences of 256 rows, each between two zero rows. -/
def catP (v : FVec Ideal S8192x1536 .f32) : FVec Ideal S32x260x1536 .f32 :=
  concatenate S32x260x1536 1 [⟨S32x2x1536, broadcastInDim S32x2x1536 ![] bcast_S_S32x2x1536 (constant (F := Ideal) S_ .f32 0x00000000#32)⟩,
    ⟨S32x256x1536, shapeCast S32x256x1536 v shapeCasts_S8192x1536_S32x256x1536⟩,
    ⟨S32x2x1536, broadcastInDim S32x2x1536 ![] bcast_S_S32x2x1536 (constant (F := Ideal) S_ .f32 0x00000000#32)⟩] concatenates_S32x2x1536_S32x256x1536_S32x2x1536_S32x260x1536_d1

theorem catP_at (v : FVec Ideal S8192x1536 .f32) (a : Fin 32) (s : Fin 260) (c : Fin 1536) :
    catP v (ix3 a s c) = if h : 2 ≤ s.val ∧ s.val < 258 then v (ix2 ⟨a.val * 256 + (s.val - 2), by omega⟩ c) else 0 := by
  have hs : s.val < 260 := s.isLt
  pointwise [catP]
  split_ifs <;> first | omega | rfl | rw [dif_pos (show 2 ≤ s.val ∧ s.val < 258 by omega)]

/-- The five shifted copies. -/
def tapsP (v : FVec Ideal S8192x1536 .f32) : FVec Ideal S5x32x256x1536 .f32 :=
  concatenate S5x32x256x1536 0 [⟨S1x32x256x1536, broadcastInDim S1x32x256x1536 ![1, 2, 3] bcast_S32x256x1536_S1x32x256x1536_1_2_3 (extractStridedSlice S32x256x1536 ![0, 0, 0] (catP v) slices_S32x260x1536_S32x256x1536_0_0_0)⟩, ⟨S1x32x256x1536, broadcastInDim S1x32x256x1536 ![1, 2, 3] bcast_S32x256x1536_S1x32x256x1536_1_2_3 (extractStridedSlice S32x256x1536 ![0, 1, 0] (catP v) slices_S32x260x1536_S32x256x1536_0_1_0)⟩, ⟨S1x32x256x1536, broadcastInDim S1x32x256x1536 ![1, 2, 3] bcast_S32x256x1536_S1x32x256x1536_1_2_3 (extractStridedSlice S32x256x1536 ![0, 2, 0] (catP v) slices_S32x260x1536_S32x256x1536_0_2_0)⟩, ⟨S1x32x256x1536, broadcastInDim S1x32x256x1536 ![1, 2, 3] bcast_S32x256x1536_S1x32x256x1536_1_2_3 (extractStridedSlice S32x256x1536 ![0, 3, 0] (catP v) slices_S32x260x1536_S32x256x1536_0_3_0)⟩, ⟨S1x32x256x1536, broadcastInDim S1x32x256x1536 ![1, 2, 3] bcast_S32x256x1536_S1x32x256x1536_1_2_3 (extractStridedSlice S32x256x1536 ![0, 4, 0] (catP v) slices_S32x260x1536_S32x256x1536_0_4_0)⟩] concatenates_S1x32x256x1536_S1x32x256x1536_S1x32x256x1536_S1x32x256x1536_S1x32x256x1536_S5x32x256x1536_d0

theorem tapsP_at (v : FVec Ideal S8192x1536 .f32) (j : Fin 5) (a : Fin 32) (s : Fin 256) (c : Fin 1536) :
    tapsP v (ix4 j a s c) = catP v (ix3 a ⟨s.val + j.val, by omega⟩ c) := by
  fin_cases j <;> pointwise [tapsP] <;> exact congrArg _ (congrArg (ix3 a · c) (Fin.ext (Nat.add_comm _ _)))

/-- The convolution of 32 sequences. -/
def convP (v : FVec Ideal S8192x1536 .f32) (w : FVec Ideal S5x1536 .f32) : FVec Ideal S8192x1536 .f32 :=
  shapeCast S8192x1536 (transpose S32x256x1536 [1, 2, 0] (Host.dotGeneral dot_S5x1536_S5x32x256x1536_S1536x32x256_0_0_n_12_1_3 none w (tapsP v))
    transposes_S1536x32x256_S32x256x1536_1_2_0) shapeCasts_S32x256x1536_S8192x1536

theorem convP_at (v : FVec Ideal S8192x1536 .f32) (w : FVec Ideal S5x1536 .f32) (r : Fin 8192) (c : Fin 1536) :
    convP v w (ix2 r c) = conv5 (fun j => if h : 2 ≤ r.val % 256 + j.val ∧ r.val % 256 + j.val < 258 then v (ix2 ⟨r.val / 256 * 256 + (r.val % 256 + j.val - 2), by omega⟩ c) else 0)
      (fun j => w (ix2 j c)) := by
  have e : convP v w (ix2 r c) = ∑ j : Fin 5, w (ix2 j c) * tapsP v (ix4 j ⟨r.val / 256, by omega⟩ ⟨r.val % 256, by omega⟩ c) := by
    pointwise [convP]
  rw [e]
  simp only [tapsP_at, catP_at]
  rw [Fin.sum_univ_five]
  unfold conv5
  simp only [mul_comm (w _)]

/-- 8 sequences of 1024 rows, each between two zero rows. -/
def catS (v : FVec Ideal S8192x1536 .f32) : FVec Ideal S8x1028x1536 .f32 :=
  concatenate S8x1028x1536 1 [⟨S8x2x1536, broadcastInDim S8x2x1536 ![] bcast_S_S8x2x1536 (constant (F := Ideal) S_ .f32 0x00000000#32)⟩,
    ⟨S8x1024x1536, shapeCast S8x1024x1536 v shapeCasts_S8192x1536_S8x1024x1536⟩,
    ⟨S8x2x1536, broadcastInDim S8x2x1536 ![] bcast_S_S8x2x1536 (constant (F := Ideal) S_ .f32 0x00000000#32)⟩] concatenates_S8x2x1536_S8x1024x1536_S8x2x1536_S8x1028x1536_d1

theorem catS_at (v : FVec Ideal S8192x1536 .f32) (a : Fin 8) (s : Fin 1028) (c : Fin 1536) :
    catS v (ix3 a s c) = if h : 2 ≤ s.val ∧ s.val < 1026 then v (ix2 ⟨a.val * 1024 + (s.val - 2), by omega⟩ c) else 0 := by
  have hs : s.val < 1028 := s.isLt
  pointwise [catS]
  split_ifs <;> first | omega | rfl | rw [dif_pos (show 2 ≤ s.val ∧ s.val < 1026 by omega)]

/-- The five shifted copies. -/
def tapsS (v : FVec Ideal S8192x1536 .f32) : FVec Ideal S5x8x1024x1536 .f32 :=
  concatenate S5x8x1024x1536 0 [⟨S1x8x1024x1536, broadcastInDim S1x8x1024x1536 ![1, 2, 3] bcast_S8x1024x1536_S1x8x1024x1536_1_2_3 (extractStridedSlice S8x1024x1536 ![0, 0, 0] (catS v) slices_S8x1028x1536_S8x1024x1536_0_0_0)⟩, ⟨S1x8x1024x1536, broadcastInDim S1x8x1024x1536 ![1, 2, 3] bcast_S8x1024x1536_S1x8x1024x1536_1_2_3 (extractStridedSlice S8x1024x1536 ![0, 1, 0] (catS v) slices_S8x1028x1536_S8x1024x1536_0_1_0)⟩, ⟨S1x8x1024x1536, broadcastInDim S1x8x1024x1536 ![1, 2, 3] bcast_S8x1024x1536_S1x8x1024x1536_1_2_3 (extractStridedSlice S8x1024x1536 ![0, 2, 0] (catS v) slices_S8x1028x1536_S8x1024x1536_0_2_0)⟩, ⟨S1x8x1024x1536, broadcastInDim S1x8x1024x1536 ![1, 2, 3] bcast_S8x1024x1536_S1x8x1024x1536_1_2_3 (extractStridedSlice S8x1024x1536 ![0, 3, 0] (catS v) slices_S8x1028x1536_S8x1024x1536_0_3_0)⟩, ⟨S1x8x1024x1536, broadcastInDim S1x8x1024x1536 ![1, 2, 3] bcast_S8x1024x1536_S1x8x1024x1536_1_2_3 (extractStridedSlice S8x1024x1536 ![0, 4, 0] (catS v) slices_S8x1028x1536_S8x1024x1536_0_4_0)⟩] concatenates_S1x8x1024x1536_S1x8x1024x1536_S1x8x1024x1536_S1x8x1024x1536_S1x8x1024x1536_S5x8x1024x1536_d0

theorem tapsS_at (v : FVec Ideal S8192x1536 .f32) (j : Fin 5) (a : Fin 8) (s : Fin 1024) (c : Fin 1536) :
    tapsS v (ix4 j a s c) = catS v (ix3 a ⟨s.val + j.val, by omega⟩ c) := by
  fin_cases j <;> pointwise [tapsS] <;> exact congrArg _ (congrArg (ix3 a · c) (Fin.ext (Nat.add_comm _ _)))

/-- The convolution of 8 sequences. -/
def convS (v : FVec Ideal S8192x1536 .f32) (w : FVec Ideal S5x1536 .f32) : FVec Ideal S8192x1536 .f32 :=
  shapeCast S8192x1536 (transpose S8x1024x1536 [1, 2, 0] (Host.dotGeneral dot_S5x1536_S5x8x1024x1536_S1536x8x1024_0_0_n_12_1_3 none w (tapsS v))
    transposes_S1536x8x1024_S8x1024x1536_1_2_0) shapeCasts_S8x1024x1536_S8192x1536

theorem convS_at (v : FVec Ideal S8192x1536 .f32) (w : FVec Ideal S5x1536 .f32) (r : Fin 8192) (c : Fin 1536) :
    convS v w (ix2 r c) = conv5 (fun j => if h : 2 ≤ r.val % 1024 + j.val ∧ r.val % 1024 + j.val < 1026 then v (ix2 ⟨r.val / 1024 * 1024 + (r.val % 1024 + j.val - 2), by omega⟩ c) else 0)
      (fun j => w (ix2 j c)) := by
  have e : convS v w (ix2 r c) = ∑ j : Fin 5, w (ix2 j c) * tapsS v (ix4 j ⟨r.val / 1024, by omega⟩ ⟨r.val % 1024, by omega⟩ c) := by
    pointwise [convS]
  rw [e]
  simp only [tapsS_at, catS_at]
  rw [Fin.sum_univ_five]
  unfold conv5
  simp only [mul_comm (w _)]

/-- The convolution of all rows. -/
def Y (x : FVec Ideal S16384x1536 .f32) (w : FVec Ideal S1x5x1536 .f32) : FVec Ideal S16384x1536 .f32 :=
  concatenate S16384x1536 0 [⟨S8192x1536, convP (extractStridedSlice S8192x1536 ![0, 0] x slices_S16384x1536_S8192x1536_0_0) (shapeCast S5x1536 w shapeCasts_S1x5x1536_S5x1536)⟩,
    ⟨S8192x1536, convS (extractStridedSlice S8192x1536 ![8192, 0] x slices_S16384x1536_S8192x1536_8192_0) (shapeCast S5x1536 w shapeCasts_S1x5x1536_S5x1536)⟩]
    concatenates_S8192x1536_S8192x1536_S16384x1536_d0

theorem wt_eq (w : FVec Ideal S1x5x1536 .f32) (j : Fin 5) (c : Fin 1536) : shapeCast S5x1536 w shapeCasts_S1x5x1536_S5x1536 (ix2 j c) = wt w j c.val := by
  unfold wt
  rw [dif_pos c.isLt]
  pointwise

theorem Y_at (x : FVec Ideal S16384x1536 .f32) (w : FVec Ideal S1x5x1536 .f32) (r : Fin 16384) (c : Fin 1536) :
    Y x w (ix2 r c) = conv5 (fun j => tap x r.val j c.val) (fun j => wt w j c.val) := by
  have hr : r.val < 16384 := r.isLt
  have hc : c.val < 1536 := c.isLt
  by_cases h : r.val < 8192
  · have e : Y x w (ix2 r c) = convP (extractStridedSlice S8192x1536 ![0, 0] x slices_S16384x1536_S8192x1536_0_0) (shapeCast S5x1536 w shapeCasts_S1x5x1536_S5x1536) (ix2 ⟨r.val, h⟩ c) := by
      pointwise [Y]
      rw [dif_pos h]
    rw [e, convP_at]
    refine conv5_congr (fun j => ?_) (fun j => wt_eq w j c)
    have hj : j.val < 5 := j.isLt
    unfold tap lo hi atx
    dsimp only
    rw [if_pos h, if_pos h]
    split_ifs <;> first | omega | rfl | skip
    pointwise
    exact congrArg x (congrArg (ix2 · c) (Fin.ext (by dsimp only; omega)))
  · have e : Y x w (ix2 r c) = convS (extractStridedSlice S8192x1536 ![8192, 0] x slices_S16384x1536_S8192x1536_8192_0) (shapeCast S5x1536 w shapeCasts_S1x5x1536_S5x1536) (ix2 ⟨r.val - 8192, by omega⟩ c) := by
      pointwise [Y]
      rw [dif_neg h]
    rw [e, convS_at]
    refine conv5_congr (fun j => ?_) (fun j => wt_eq w j c)
    have hj : j.val < 5 := j.isLt
    unfold tap lo hi atx
    dsimp only
    rw [if_neg h, if_neg h]
    split_ifs <;> first | omega | rfl | skip
    pointwise
    exact congrArg x (congrArg (ix2 · c) (Fin.ext (by dsimp only; omega)))

/-- The convolution through `x sigmoid(x)`. -/
def L (y : FVec Ideal S16384x1536 .f32) : FVec Ideal S16384x1536 .f32 :=
  mulf y (Host.divf (broadcastInDim S16384x1536 ![] bcast_S_S16384x1536 (constant S_ .f32 0x3F800000#32))
    (addf (broadcastInDim S16384x1536 ![] bcast_S_S16384x1536 (constant S_ .f32 0x3F800000#32)) (Host.exp (Host.negf y))))

theorem L_at (y : FVec Ideal S16384x1536 .f32) (i : S16384x1536.Idx) : L y i = sil (y i) := by
  pointwise [L, sil, Ideal.logistic]

/-- The rows by part and head. -/
def L4 (l : FVec Ideal S16384x1536 .f32) : FVec Ideal S16384x3x4x128 .f32 := shapeCast S16384x3x4x128 l shapeCasts_S16384x1536_S16384x3x4x128

/-- The norms by part and head. -/
def N4 (l : FVec Ideal S16384x3x4x128 .f32) : FVec Ideal S16384x3x4x1 .f32 :=
  Host.rsqrt (addf (broadcastInDim S16384x3x4x1 ![0, 1, 2] bcast_S16384x3x4_S16384x3x4x1_0_1_2
      (Host.reduceAdd (mulf l l) (constant (F := Ideal) S_ .f32 0x00000000#32) reducesTo_S16384x3x4x128_S16384x3x4_d3 h_S_))
    (broadcastInDim S16384x3x4x1 ![] bcast_S_S16384x3x4x1 (constant (F := Ideal) S_ .f32 0x358637BD#32)))

theorem N4_at (l : FVec Ideal S16384x3x4x128 .f32) (r : Fin 16384) (p : Fin 3) (h : Fin 4) :
    N4 l (ix4 r p h 0) = Ideal.rsqrt ((∑ k : Fin 128, l (ix4 r p h k) * l (ix4 r p h k)) + Ideal.ofBits .f32 0x358637BD#32) := by
  pointwise [N4]

/-- The three parts put together, from the rows and the norms. -/
def OUT (l : FVec Ideal S16384x3x4x128 .f32) (n : FVec Ideal S16384x3x4x1 .f32) : FVec Ideal S16384x1536 .f32 :=
  shapeCast S16384x1536 (concatenate S16384x3x4x128 1
    [⟨S16384x1x4x128, broadcastInDim S16384x1x4x128 ![0, 2, 3] bcast_S16384x4x128_S16384x1x4x128_0_2_3
      (mulf (mulf (shapeCast S16384x4x128 (extractStridedSlice S16384x1x4x128 ![0, 0, 0, 0] l slices_S16384x3x4x128_S16384x1x4x128_0_0_0_0) shapeCasts_S16384x1x4x128_S16384x4x128)
        (broadcastInDim S16384x4x128 ![0, 1, 2] bcast_S16384x4x1_S16384x4x128_0_1_2
          (shapeCast S16384x4x1 (extractStridedSlice S16384x1x4x1 ![0, 0, 0, 0] n slices_S16384x3x4x1_S16384x1x4x1_0_0_0_0) shapeCasts_S16384x1x4x1_S16384x4x1)))
        (broadcastInDim S16384x4x128 ![] bcast_S_S16384x4x128 (constant (F := Ideal) S_ .f32 0x3DB504F3#32)))⟩,
    ⟨S16384x1x4x128, broadcastInDim S16384x1x4x128 ![0, 2, 3] bcast_S16384x4x128_S16384x1x4x128_0_2_3
      (mulf (shapeCast S16384x4x128 (extractStridedSlice S16384x1x4x128 ![0, 1, 0, 0] l slices_S16384x3x4x128_S16384x1x4x128_0_1_0_0) shapeCasts_S16384x1x4x128_S16384x4x128)
        (broadcastInDim S16384x4x128 ![0, 1, 2] bcast_S16384x4x1_S16384x4x128_0_1_2
          (shapeCast S16384x4x1 (extractStridedSlice S16384x1x4x1 ![0, 1, 0, 0] n slices_S16384x3x4x1_S16384x1x4x1_0_1_0_0) shapeCasts_S16384x1x4x1_S16384x4x1)))⟩,
    ⟨S16384x1x4x128, broadcastInDim S16384x1x4x128 ![0, 2, 3] bcast_S16384x4x128_S16384x1x4x128_0_2_3
      (shapeCast S16384x4x128 (extractStridedSlice S16384x1x4x128 ![0, 2, 0, 0] l slices_S16384x3x4x128_S16384x1x4x128_0_2_0_0) shapeCasts_S16384x1x4x128_S16384x4x128)⟩]
    concatenates_S16384x1x4x128_S16384x1x4x128_S16384x1x4x128_S16384x3x4x128_d1) shapeCasts_S16384x3x4x128_S16384x1536

set_option maxHeartbeats 1000000 in
theorem OUT_split (l : FVec Ideal S16384x3x4x128 .f32) (n : FVec Ideal S16384x3x4x1 .f32) (r : Fin 16384) (c : Fin 1536) :
    OUT l n (ix2 r c) = if h : c.val / 512 < 1 then l (ix4 r 0 ⟨c.val / 128 % 4, by omega⟩ ⟨c.val % 128, by omega⟩) * n (ix4 r 0 ⟨c.val / 128 % 4, by omega⟩ 0) * Ideal.ofBits .f32 0x3DB504F3#32
      else if h : c.val / 512 - 1 < 1 then l (ix4 r 1 ⟨c.val / 128 % 4, by omega⟩ ⟨c.val % 128, by omega⟩) * n (ix4 r 1 ⟨c.val / 128 % 4, by omega⟩ 0)
      else l (ix4 r 2 ⟨c.val / 128 % 4, by omega⟩ ⟨c.val % 128, by omega⟩) := by
  have hc : c.val < 1536 := c.isLt
  pointwise [OUT]

theorem OUT_at (l : FVec Ideal S16384x3x4x128 .f32) (n : FVec Ideal S16384x3x4x1 .f32) (r : Fin 16384) (c : Fin 1536) :
    OUT l n (ix2 r c) = if c.val < 512 then l (ix4 r 0 ⟨c.val / 128 % 4, by omega⟩ ⟨c.val % 128, by omega⟩) * n (ix4 r 0 ⟨c.val / 128 % 4, by omega⟩ 0) * Ideal.ofBits .f32 0x3DB504F3#32
      else if c.val < 1024 then l (ix4 r 1 ⟨c.val / 128 % 4, by omega⟩ ⟨c.val % 128, by omega⟩) * n (ix4 r 1 ⟨c.val / 128 % 4, by omega⟩ 0)
      else l (ix4 r 2 ⟨c.val / 128 % 4, by omega⟩ ⟨c.val % 128, by omega⟩) := by
  rw [OUT_split]
  have e1 : (c.val / 512 < 1) = (c.val < 512) := propext (by omega)
  have e2 : (c.val / 512 - 1 < 1) = (c.val < 1024) := propext (by omega)
  simp only [dite_eq_ite, e1, e2]

theorem L4_at (x : FVec Ideal S16384x1536 .f32) (w : FVec Ideal S1x5x1536 .f32) (r : Fin 16384) (p : Fin 3) (h : Fin 4) (k : Fin 128) :
    L4 (L (Y x w)) (ix4 r p h k) = S x w r.val (p.val * 512 + h.val * 128 + k.val) := by
  have e : L4 (L (Y x w)) (ix4 r p h k) = L (Y x w) (ix2 r ⟨p.val * 512 + h.val * 128 + k.val, by omega⟩) := by
    pointwise [L4]
    blk_ext
  rw [e, L_at, Y_at]
  rfl

theorem N4_eq (x : FVec Ideal S16384x1536 .f32) (w : FVec Ideal S1x5x1536 .f32) (r : Fin 16384) (p : Fin 3) (h : Fin 4) :
    N4 (L4 (L (Y x w))) (ix4 r p h 0) = nrm x w r.val (p.val * 512 + h.val * 128) := by
  rw [N4_at]
  simp only [L4_at]
  rfl

theorem ref_eq (x : FVec Ideal S16384x1536 .f32) (w : FVec Ideal S1x5x1536 .f32) : OUT (L4 (L (Y x w))) (N4 (L4 (L (Y x w)))) = G x w := by
  funext i
  obtain ⟨r, c, rfl⟩ : ∃ (r : Fin 16384) (c : Fin 1536), i = ix2 r c := ⟨i 0, i 1, by blk_ext⟩
  rw [OUT_at, G_eval x w _ r.val c.val rfl rfl]
  have hc : c.val < 1536 := c.isLt
  simp only [L4_at, N4_eq]
  split_ifs with h1 h2
  · rw [mul_assoc]
    refine congrArg₂ (· * ·) (congrArg (S x w r.val) ?_) (congrArg (fun b => nrm x w r.val b * _) ?_)
    · show 0 * 512 + c.val / 128 % 4 * 128 + c.val % 128 = c.val
      omega
    · show 0 * 512 + c.val / 128 % 4 * 128 = c.val / 128 * 128
      omega
  · refine congrArg₂ (· * ·) (congrArg (S x w r.val) ?_) (congrArg (fun b => nrm x w r.val b) ?_)
    · show 1 * 512 + (c.val / 128 % 4) * 128 + c.val % 128 = c.val
      omega
    · show 1 * 512 + (c.val / 128 % 4) * 128 = c.val / 128 * 128
      omega
  · refine congrArg (S x w r.val) ?_
    show 2 * 512 + (c.val / 128 % 4) * 128 + c.val % 128 = c.val
    omega
end

/-- The two programs' results are one array. -/
theorem algebraic : Cert.algebraic_Kernel10Ideal_Reference10Ideal (hKernel10Ideal := Cert.Kernel10Ideal.Gen.facts)
    (hReference10Ideal := Cert.Reference10Ideal.Gen.facts) := by
  intro m g m' g' _ hargs
  refine ⟨fun c => G (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)), ?_, ?_⟩
  · exact (θ_run _ _ _).mono (fun r h c => ⟨(h c).1.trans (final m c), (h c).2⟩) (Cert.Kernel10Ideal.Value.run_blocks m g)
  · refine (θ_run _ _ _).mono (fun r h c => ⟨?_, (h c).2⟩) (Cert.Reference10Ideal.Value.run m' g')
    obtain ⟨e0, e1⟩ := hargs c
    show _ = G _ _
    rw [(h c).1, ← ref_eq, ← e0, ← e1]
    rfl

end Cert.ConvProof
-- ==== Proof.lean ====
module

public import proofs.«01_k».proof.Defs
public import proofs.«01_k».proof.Proof.CtxClaim
public import proofs.«01_k».proof.Proof.Ffn1
public import proofs.«01_k».proof.Proof.Ffn3
public import proofs.«01_k».proof.Proof.In0Claim
public import proofs.«01_k».proof.Proof.In1Claim
public import proofs.«01_k».proof.Proof.Ffn2
public import proofs.«01_k».proof.Proof.Last
public import proofs.«01_k».proof.Proof.Ada
public import proofs.«01_k».proof.Proof.Conv
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.LastRunP
public import proofs.«01_k».proof.Proof.LastRun
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run

@[expose] public section

noncomputable section

namespace Cert.Proof

open Idealize.ShloMosaic Idealize.ShloMosaic.TcCoe Idealize.SL.Sem

/-- The reference of call 1 runs to its end, keeps its arguments and leaves every semaphore at zero. -/
theorem ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩) (Cert.ReferenceIdeal.Value.run m g)

/-- The reference of call 3 runs to its end, keeps its arguments and leaves every semaphore at zero. -/
theorem ref3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0) :=
  (θ_run Cert.Reference3Ideal.defs _ _).mono (fun r h => ⟨fun c => (h c).2, sem_eq_zero_of_no_sems (by decide) r.2⟩) (Cert.Reference3Ideal.Value.run m g)

/-- The reference of call 4 runs to its end, keeps its arguments and leaves every semaphore at zero. -/
theorem ref4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0) :=
  (θ_run Cert.Reference4Ideal.defs _ _).mono (fun r h => ⟨fun c => (h c).2, sem_eq_zero_of_no_sems (by decide) r.2⟩) (Cert.Reference4Ideal.Value.run m g)

/-- The reference of call 5 runs to its end, keeps its arguments and leaves every semaphore at zero. -/
theorem ref5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0) :=
  (θ_run Cert.Reference5Ideal.defs _ _).mono (fun r h => ⟨fun c => (h c).2.2.2.2.2.2, sem_eq_zero_of_no_sems (by decide) r.2⟩) (Cert.Reference5Ideal.Value.run m g)

/-- The reference of call 6 runs to its end, keeps its arguments and leaves every semaphore at zero. -/
theorem ref6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0) :=
  (θ_run Cert.Reference6Ideal.defs _ _).mono (fun r h => ⟨fun c => (h c).2.2.2.2.2, sem_eq_zero_of_no_sems (by decide) r.2⟩) (Cert.Reference6Ideal.Value.run m g)

/-- The reference of call 7 runs to its end, keeps its arguments and leaves every semaphore at zero. -/
theorem ref7 (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0) :=
  (θ_run Cert.Reference7Ideal.defs _ _).mono (fun r h => ⟨fun c => (h c).2, sem_eq_zero_of_no_sems (by decide) r.2⟩) (Cert.Reference7Ideal.Value.run m g)

/-- The reference of call 8 runs to its end, keeps its arguments and leaves every semaphore at zero. -/
theorem ref8 (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0) :=
  (θ_run Cert.Reference8Ideal.defs _ _).mono (fun r h => ⟨fun c => (h c).2.2, sem_eq_zero_of_no_sems (by decide) r.2⟩) (Cert.Reference8Ideal.Value.run m g)

/-- The reference of call 9 runs to its end, keeps its arguments and leaves every semaphore at zero. -/
theorem ref9 (m : (ℓ : Loc Cert.Reference9Ideal.nD Cert.Reference9Ideal.τ Cert.Reference9Ideal.sig) → Buf (Elt Ideal) ℓ) (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0) :=
  (θ_run Cert.Reference9Ideal.defs _ _).mono (fun r h => ⟨fun c => (h c).2, sem_eq_zero_of_no_sems (by decide) r.2⟩) (Cert.Reference9Ideal.Value.run m g)

/-- The reference of call 10 runs to its end, keeps its arguments and leaves every semaphore at zero. -/
theorem ref10 (m : (ℓ : Loc Cert.Reference10Ideal.nD Cert.Reference10Ideal.τ Cert.Reference10Ideal.sig) → Buf (Elt Ideal) ℓ) (g : Dev Cert.Reference10Ideal.nD → PrngReg) :
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0) :=
  (θ_run Cert.Reference10Ideal.defs _ _).mono (fun r h => ⟨fun c => (h c).2, sem_eq_zero_of_no_sems (by decide) r.2⟩) (Cert.Reference10Ideal.Value.run m g)

theorem claim : Cert.Claim :=
  ⟨Cert.Kernel.Gen.facts,
    Cert.KernelIdeal.Gen.facts,
    Cert.ReferenceIdeal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Finite.facts,
    fun m ρ _ => Cert.Kernel.Gen.frame m ρ,
    fun m ρ _ => Cert.KernelIdeal.Gen.frame m ρ,
    fun m ρ _ => Cert.KernelIdeal.Gen.frame m ρ,
    fun m ρ _ => ref m ρ,
    fun m ρ _ => ref m ρ,
    fun m ρ _ => Cert.Kernel3.Gen.frame m ρ,
    fun m ρ _ => Cert.Kernel3Ideal.Gen.frame m ρ,
    fun m ρ _ => ref3 m ρ,
    fun m ρ _ => Cert.Kernel4.Gen.frame m ρ,
    fun m ρ _ => Cert.Kernel4Ideal.Gen.frame m ρ,
    fun m ρ _ => ref4 m ρ,
    fun m ρ _ => Cert.Kernel5.Gen.frame m ρ,
    fun m ρ _ => Cert.Kernel5Ideal.Gen.frame m ρ,
    fun m ρ _ => ref5 m ρ,
    fun m ρ _ => Cert.Kernel6.Gen.frame m ρ,
    fun m ρ _ => Cert.Kernel6Ideal.Gen.frame m ρ,
    fun m ρ _ => ref6 m ρ,
    fun m ρ _ => Cert.Kernel7.Gen.frame m ρ,
    fun m ρ _ => Cert.Kernel7Ideal.Gen.frame m ρ,
    fun m ρ _ => ref7 m ρ,
    fun m ρ _ => Cert.Kernel8.Last.frame m ρ,
    fun m ρ _ => Cert.Kernel8Ideal.Last.frame m ρ,
    fun m ρ _ => ref8 m ρ,
    fun m ρ _ => Cert.Kernel9.Gen.frame m ρ,
    fun m ρ _ => Cert.Kernel9Ideal.Gen.frame m ρ,
    fun m ρ _ => ref9 m ρ,
    fun m ρ _ => Cert.Kernel10.Gen.frame m ρ,
    fun m ρ _ => Cert.Kernel10Ideal.Gen.frame m ρ,
    fun m ρ _ => ref10 m ρ,
    trivial,
    Cert.CtxProof.algebraic,
    trivial,
    Cert.Ffn1Proof.algebraic,
    trivial,
    Cert.Ffn3Proof.algebraic,
    trivial,
    Cert.In0.algebraic,
    trivial,
    Cert.In1.algebraic,
    trivial,
    Cert.Ffn2Proof.algebraic,
    trivial,
    Cert.LastProof.algebraic,
    trivial,
    Cert.AdaProof.algebraic,
    trivial,
    Cert.ConvProof.algebraic⟩

end Cert.Proof

end
